-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_new_finite [hPre_new_finite : Cert.Pre_new_finite.Facts] (m : (ℓ : Loc Cert.KernelIdeal.nD Cert.KernelIdeal.τ Cert.KernelIdeal.sig) → Buf (Elt Ideal) ℓ) : Prop :=
  ∀ c : Dev Cert.KernelIdeal.nD,
    (Cert.Pre_new_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_new_finite [hPre_new_finite : Cert.Pre_new_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_new_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_new_finite [hKernelIdeal : Cert.KernelIdeal.Facts] [hPre_new_finite : Cert.Pre_new_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_new_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_new_finite [hReferenceIdeal : Cert.ReferenceIdeal.Facts] [hPre_new_finite : Cert.Pre_new_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_new_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e_8" .f32 0x3E38AA3B#32 (((Real.log 2)⁻¹ * (1 / 8) : ℝ) : EReal)

def algebraic_KernelIdeal_ReferenceIdeal_pre_new_finite [hKernelIdeal : Cert.KernelIdeal.Facts] [hReferenceIdeal : Cert.ReferenceIdeal.Facts] [hPre_new_finite : Cert.Pre_new_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_new_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v52_0) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v52_1) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_new_finite : Cert.Pre_new_finite.Facts),
    quiescent_Kernel (hKernel := hKernel)
    ∧ quiescent_KernelIdeal (hKernelIdeal := hKernelIdeal)
    ∧ quiescent_KernelIdeal_pre_new_finite (hKernelIdeal := hKernelIdeal) (hPre_new_finite := hPre_new_finite)
    ∧ quiescent_ReferenceIdeal (hReferenceIdeal := hReferenceIdeal)
    ∧ quiescent_ReferenceIdeal_pre_new_finite (hReferenceIdeal := hReferenceIdeal) (hPre_new_finite := hPre_new_finite)
    ∧ preserves_Kernel_KernelIdeal
    ∧ algebraic_KernelIdeal_ReferenceIdeal_pre_new_finite (hKernelIdeal := hKernelIdeal) (hReferenceIdeal := hReferenceIdeal) (hPre_new_finite := hPre_new_finite)
-- ==== Pre_new_finite.lean ====
abbrev S17x4x128x64 : Shape := ⟨4, ![17, 4, 128, 64]⟩
abbrev S17x4x16x64 : Shape := ⟨4, ![17, 4, 16, 64]⟩
abbrev S17x16384x16x64 : Shape := ⟨4, ![17, 16384, 16, 64]⟩
abbrev S17x16384x16x2 : Shape := ⟨4, ![17, 16384, 16, 2]⟩
abbrev S17 : Shape := ⟨1, ![17]⟩
abbrev S_ : Shape := ⟨0, ![]⟩

class Facts : Prop where
  bcast_S_S17x4x16x64 : S_.BroadcastsInDim S17x4x16x64 (![] : Fin 0 → Fin S17x4x16x64.rank)

variable [Facts]

def fn {F : FTy → Type} [FloatOps F] (main_arg0 : FVec F S17x4x128x64 .bf16) (main_arg1 : FVec F S17x4x16x64 .bf16) (main_arg2 : FVec F S17x4x16x64 .bf16) (main_arg3 : FVec F S17x16384x16x64 .fp8e4m3) (main_arg4 : FVec F S17x16384x16x2 .f32) (main_arg5 : FVec F S17x16384x16x64 .fp8e4m3) (main_arg6 : FVec F S17x16384x16x2 .f32) (main_arg7 : IVec S17 32) : IVec S17x4x16x64 1 :=
  let main_v0 : FVec F S17x4x16x64 .bf16 := Host.absf main_arg1
  let main_cst : FVec F S_ .bf16 := constant S_ .bf16 0x7F7F#16
  let main_v1 : FVec F S17x4x16x64 .bf16 := broadcastInDim S17x4x16x64 ![] bcast_S_S17x4x16x64 main_cst
  let main_v2 : IVec S17x4x16x64 1 := cmpf .ole main_v0 main_v1
  let main_v3 : FVec F S17x4x16x64 .bf16 := Host.absf main_arg2
  let main_cst_0 : FVec F S_ .bf16 := constant S_ .bf16 0x7F7F#16
  let main_v4 : FVec F S17x4x16x64 .bf16 := broadcastInDim S17x4x16x64 ![] bcast_S_S17x4x16x64 main_cst_0
  let main_v5 : IVec S17x4x16x64 1 := cmpf .ole main_v3 main_v4
  let main_v6 : IVec S17x4x16x64 1 := andi main_v2 main_v5
  main_v6
-- ==== Kernel.lean ====
abbrev S17x4x128x64 : Shape := ⟨4, ![17, 4, 128, 64]⟩
abbrev S17x4x16x64 : Shape := ⟨4, ![17, 4, 16, 64]⟩
abbrev S17x16384x16x64 : Shape := ⟨4, ![17, 16384, 16, 64]⟩
abbrev S17x16384x16x2 : Shape := ⟨4, ![17, 16384, 16, 2]⟩
abbrev S17 : Shape := ⟨1, ![17]⟩
abbrev S17x4x64x128 : Shape := ⟨4, ![17, 4, 64, 128]⟩
abbrev S17x16x64x16384 : Shape := ⟨4, ![17, 16, 64, 16384]⟩
abbrev S17x16x2x16384 : Shape := ⟨4, ![17, 16, 2, 16384]⟩
abbrev S17x4x16x2 : Shape := ⟨4, ![17, 4, 16, 2]⟩
abbrev S1x4x64x128 : Shape := ⟨4, ![1, 4, 64, 128]⟩
abbrev S1x4x16x64 : Shape := ⟨4, ![1, 4, 16, 64]⟩
abbrev S1x16x64x1024 : Shape := ⟨4, ![1, 16, 64, 1024]⟩
abbrev S1 : Shape := ⟨1, ![1]⟩
abbrev S1x16x2x1024 : Shape := ⟨4, ![1, 16, 2, 1024]⟩
abbrev S1x4x16x2 : Shape := ⟨4, ![1, 4, 16, 2]⟩
abbrev S16x32x64 : Shape := ⟨3, ![16, 32, 64]⟩
abbrev S16x32x128 : Shape := ⟨3, ![16, 32, 128]⟩
abbrev S1x1x64x128 : Shape := ⟨4, ![1, 1, 64, 128]⟩
abbrev S64x128 : Shape := ⟨2, ![64, 128]⟩
abbrev S128x64 : Shape := ⟨2, ![128, 64]⟩
abbrev S16x8x64 : Shape := ⟨3, ![16, 8, 64]⟩
abbrev S4x16x64 : Shape := ⟨3, ![4, 16, 64]⟩
abbrev S64x64 : Shape := ⟨2, ![64, 64]⟩
abbrev S64x32 : Shape := ⟨2, ![64, 32]⟩
abbrev S64 : Shape := ⟨1, ![64]⟩
abbrev S64x1 : Shape := ⟨2, ![64, 1]⟩
abbrev S64x2 : Shape := ⟨2, ![64, 2]⟩
abbrev S4x16x2 : Shape := ⟨3, ![4, 16, 2]⟩
abbrev S32x4 : Shape := ⟨2, ![32, 4]⟩
abbrev S4x1x64 : Shape := ⟨3, ![4, 1, 64]⟩
abbrev S4x64 : Shape := ⟨2, ![4, 64]⟩
abbrev S1x32x64 : Shape := ⟨3, ![1, 32, 64]⟩
abbrev S32x64 : Shape := ⟨2, ![32, 64]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩
abbrev S32x1024 : Shape := ⟨2, ![32, 1024]⟩
abbrev S1x1x32x1024 : Shape := ⟨4, ![1, 1, 32, 1024]⟩
abbrev S1x1x1x1024 : Shape := ⟨4, ![1, 1, 1, 1024]⟩
abbrev S1x1024 : Shape := ⟨2, ![1, 1024]⟩
abbrev S64x1024 : Shape := ⟨2, ![64, 1024]⟩
abbrev S16x8x1 : Shape := ⟨3, ![16, 8, 1]⟩

abbrev nBuf : Space → Nat
  | .hbm => 17
  | .vmem => 28
  | .smem => 1
  | _ => 0

abbrev bufTy : (tb : Table) → Fin (tcTables nBuf tb) → BufTy
  | .hbm, ⟨0, _⟩ => ⟨S17x4x128x64, .bf16⟩
  | .hbm, ⟨1, _⟩ => ⟨S17x4x16x64, .bf16⟩
  | .hbm, ⟨2, _⟩ => ⟨S17x4x16x64, .bf16⟩
  | .hbm, ⟨3, _⟩ => ⟨S17x16384x16x64, .fp8e4m3⟩
  | .hbm, ⟨4, _⟩ => ⟨S17x16384x16x2, .f32⟩
  | .hbm, ⟨5, _⟩ => ⟨S17x16384x16x64, .fp8e4m3⟩
  | .hbm, ⟨6, _⟩ => ⟨S17x16384x16x2, .f32⟩
  | .hbm, ⟨7, _⟩ => ⟨S17x4x64x128, .bf16⟩
  | .hbm, ⟨8, _⟩ => ⟨S17x16x64x16384, .fp8e4m3⟩
  | .hbm, ⟨9, _⟩ => ⟨S17x16x64x16384, .fp8e4m3⟩
  | .hbm, ⟨10, _⟩ => ⟨S17x16x2x16384, .f32⟩
  | .hbm, ⟨11, _⟩ => ⟨S17x16x2x16384, .f32⟩
  | .hbm, ⟨12, _⟩ => ⟨S17x4x64x128, .bf16⟩
  | .hbm, ⟨13, _⟩ => ⟨S17x4x16x64, .fp8e4m3⟩
  | .hbm, ⟨14, _⟩ => ⟨S17x4x16x2, .f32⟩
  | .hbm, ⟨15, _⟩ => ⟨S17x4x16x64, .fp8e4m3⟩
  | .hbm, ⟨16, _⟩ => ⟨S17x4x16x2, .f32⟩
  | .local _ .vmem, ⟨0, _⟩ => ⟨S1x4x64x128, .bf16⟩
  | .local _ .vmem, ⟨1, _⟩ => ⟨S1x4x64x128, .bf16⟩
  | .local _ .vmem, ⟨2, _⟩ => ⟨S1x4x16x64, .bf16⟩
  | .local _ .vmem, ⟨3, _⟩ => ⟨S1x4x16x64, .bf16⟩
  | .local _ .vmem, ⟨4, _⟩ => ⟨S1x4x16x64, .bf16⟩
  | .local _ .vmem, ⟨5, _⟩ => ⟨S1x4x16x64, .bf16⟩
  | .local _ .vmem, ⟨6, _⟩ => ⟨S1x16x64x1024, .fp8e4m3⟩
  | .local _ .vmem, ⟨7, _⟩ => ⟨S1x16x64x1024, .fp8e4m3⟩
  | .local _ .vmem, ⟨8, _⟩ => ⟨S1x16x2x1024, .f32⟩
  | .local _ .vmem, ⟨9, _⟩ => ⟨S1x16x2x1024, .f32⟩
  | .local _ .vmem, ⟨10, _⟩ => ⟨S1x16x64x1024, .fp8e4m3⟩
  | .local _ .vmem, ⟨11, _⟩ => ⟨S1x16x64x1024, .fp8e4m3⟩
  | .local _ .vmem, ⟨12, _⟩ => ⟨S1x16x2x1024, .f32⟩
  | .local _ .vmem, ⟨13, _⟩ => ⟨S1x16x2x1024, .f32⟩
  | .local _ .vmem, ⟨14, _⟩ => ⟨S1x4x64x128, .bf16⟩
  | .local _ .vmem, ⟨15, _⟩ => ⟨S1x4x64x128, .bf16⟩
  | .local _ .vmem, ⟨16, _⟩ => ⟨S1x4x16x64, .fp8e4m3⟩
  | .local _ .vmem, ⟨17, _⟩ => ⟨S1x4x16x64, .fp8e4m3⟩
  | .local _ .vmem, ⟨18, _⟩ => ⟨S1x4x16x2, .f32⟩
  | .local _ .vmem, ⟨19, _⟩ => ⟨S1x4x16x2, .f32⟩
  | .local _ .vmem, ⟨20, _⟩ => ⟨S1x4x16x64, .fp8e4m3⟩
  | .local _ .vmem, ⟨21, _⟩ => ⟨S1x4x16x64, .fp8e4m3⟩
  | .local _ .vmem, ⟨22, _⟩ => ⟨S1x4x16x2, .f32⟩
  | .local _ .vmem, ⟨23, _⟩ => ⟨S1x4x16x2, .f32⟩
  | .local _ .vmem, ⟨24, _⟩ => ⟨S16x32x64, .bf16⟩
  | .local _ .vmem, ⟨25, _⟩ => ⟨S16x32x64, .f32⟩
  | .local _ .vmem, ⟨26, _⟩ => ⟨S16x32x128, .f32⟩
  | .local _ .vmem, ⟨27, _⟩ => ⟨S16x32x128, .f32⟩
  | .local _ .smem, ⟨0, _⟩ => ⟨S17, .i32⟩
  | _, _ => ⟨S17x4x128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![17, 16], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_2 : BitVec 32 := 0#32
  let v11 : BitVec 1 := Scalar.cmpi .ne v10 c0_i32_2
  v11

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (k0_off1_inb : ∀ i : grid0.Coords, ∀ a, (k0_off1 i) a + S1.size a ≤ S17.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S17) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c1024_i32 : BitVec 32 := 1024#32
  let v4 : BitVec 32 := Scalar.divsi v3 c1024_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32 c0_i32_2
  let v11 : BitVec 32 := Scalar.extui v10
  let c0_i32_3 : BitVec 32 := 0#32
  let v12 : BitVec 1 := Scalar.cmpi .slt c1024_i32 c0_i32_3
  let v13 : BitVec 32 := Scalar.extui v12
  let v14 : BitVec 32 := Scalar.subi v11 v13
  let v15 : BitVec 1 := Scalar.cmpi .ne v9 v14
  let v16 : BitVec 32 := Scalar.remsi v3 c1024_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_4 (k0_off1_inb : ∀ i : grid0.Coords, ∀ a, (k0_off1 i) a + S1.size a ≤ S17.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S17) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c1024_i32 : BitVec 32 := 1024#32
  let v4 : BitVec 32 := Scalar.divsi v3 c1024_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32 c0_i32_2
  let v11 : BitVec 32 := Scalar.extui v10
  let c0_i32_3 : BitVec 32 := 0#32
  let v12 : BitVec 1 := Scalar.cmpi .slt c1024_i32 c0_i32_3
  let v13 : BitVec 32 := Scalar.extui v12
  let v14 : BitVec 32 := Scalar.subi v11 v13
  let v15 : BitVec 1 := Scalar.cmpi .ne v9 v14
  let v16 : BitVec 32 := Scalar.remsi v3 c1024_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_5 (k0_off1_inb : ∀ i : grid0.Coords, ∀ a, (k0_off1 i) a + S1.size a ≤ S17.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S17) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c1024_i32 : BitVec 32 := 1024#32
  let v4 : BitVec 32 := Scalar.divsi v3 c1024_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32 c0_i32_2
  let v11 : BitVec 32 := Scalar.extui v10
  let c0_i32_3 : BitVec 32 := 0#32
  let v12 : BitVec 1 := Scalar.cmpi .slt c1024_i32 c0_i32_3
  let v13 : BitVec 32 := Scalar.extui v12
  let v14 : BitVec 32 := Scalar.subi v11 v13
  let v15 : BitVec 1 := Scalar.cmpi .ne v9 v14
  let v16 : BitVec 32 := Scalar.remsi v3 c1024_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_6 (k0_off1_inb : ∀ i : grid0.Coords, ∀ a, (k0_off1 i) a + S1.size a ≤ S17.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S17) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c1024_i32 : BitVec 32 := 1024#32
  let v4 : BitVec 32 := Scalar.divsi v3 c1024_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32 c0_i32_2
  let v11 : BitVec 32 := Scalar.extui v10
  let c0_i32_3 : BitVec 32 := 0#32
  let v12 : BitVec 1 := Scalar.cmpi .slt c1024_i32 c0_i32_3
  let v13 : BitVec 32 := Scalar.extui v12
  let v14 : BitVec 32 := Scalar.subi v11 v13
  let v15 : BitVec 1 := Scalar.cmpi .ne v9 v14
  let v16 : BitVec 32 := Scalar.remsi v3 c1024_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x16x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x16x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x64x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x64x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x16x64 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x16x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x16x64 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x16x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2e_8" => some (((Real.log 2)⁻¹ * (1 / 8) : ℝ) : EReal)
  | _ => none
-- ==== ReferenceIdeal.lean ====
abbrev S17x4x128x64 : Shape := ⟨4, ![17, 4, 128, 64]⟩
abbrev S17x4x16x64 : Shape := ⟨4, ![17, 4, 16, 64]⟩
abbrev S17x16384x16x64 : Shape := ⟨4, ![17, 16384, 16, 64]⟩
abbrev S17x16384x16x2 : Shape := ⟨4, ![17, 16384, 16, 2]⟩
abbrev S17 : Shape := ⟨1, ![17]⟩
abbrev S17x4x16x2x32 : Shape := ⟨5, ![17, 4, 16, 2, 32]⟩
abbrev S_ : Shape := ⟨0, ![]⟩
abbrev S17x4x16x2 : Shape := ⟨4, ![17, 4, 16, 2]⟩
abbrev S17x4x16x2x1 : Shape := ⟨5, ![17, 4, 16, 2, 1]⟩
abbrev S17x4x16x8x64 : Shape := ⟨5, ![17, 4, 16, 8, 64]⟩
abbrev S17x16384x16x2x32 : Shape := ⟨5, ![17, 16384, 16, 2, 32]⟩
abbrev S17x16384x16x2x1 : Shape := ⟨5, ![17, 16384, 16, 2, 1]⟩
abbrev S17x16x16384x4x8 : Shape := ⟨5, ![17, 16, 16384, 4, 8]⟩
abbrev S17x4x16x8x16384 : Shape := ⟨5, ![17, 4, 16, 8, 16384]⟩
abbrev S17x16x4x4x8 : Shape := ⟨5, ![17, 16, 4, 4, 8]⟩
abbrev S17x4x16x8x4 : Shape := ⟨5, ![17, 4, 16, 8, 4]⟩
abbrev S16384 : Shape := ⟨1, ![16384]⟩
abbrev S1x16384 : Shape := ⟨2, ![1, 16384]⟩
abbrev S17x1 : Shape := ⟨2, ![17, 1]⟩
abbrev S17x16384 : Shape := ⟨2, ![17, 16384]⟩
abbrev S17x1x1x1x16384 : Shape := ⟨5, ![17, 1, 1, 1, 16384]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S1x4x1x1x4 : Shape := ⟨5, ![1, 4, 1, 1, 4]⟩
abbrev S17x4x16x8 : Shape := ⟨4, ![17, 4, 16, 8]⟩
abbrev S17x4x16x8x1 : Shape := ⟨5, ![17, 4, 16, 8, 1]⟩
abbrev S17x16x64x4x8 : Shape := ⟨5, ![17, 16, 64, 4, 8]⟩
abbrev S17x4x64x128 : Shape := ⟨4, ![17, 4, 64, 128]⟩

abbrev nBuf : Space → Nat
  | .hbm => 205
  | .vmem => 10
  | .smem => 0
  | _ => 0

abbrev hbmTy0_0 (i : Nat) : BufTy := match i % 128 with
  | 0 => ⟨S17x4x128x64, .bf16⟩
  | 1 => ⟨S17x4x16x64, .bf16⟩
  | 2 => ⟨S17x4x16x64, .bf16⟩
  | 3 => ⟨S17x16384x16x64, .fp8e4m3⟩
  | 4 => ⟨S17x16384x16x2, .f32⟩
  | 5 => ⟨S17x16384x16x64, .fp8e4m3⟩
  | 6 => ⟨S17x16384x16x2, .f32⟩
  | 7 => ⟨S17, .i32⟩
  | 8 => ⟨S17x4x16x64, .f32⟩
  | 9 => ⟨S17x4x16x2x32, .f32⟩
  | 10 => ⟨S17x4x16x2x32, .f32⟩
  | 11 => ⟨S_, .f32⟩
  | 12 => ⟨S17x4x16x2, .f32⟩
  | 13 => ⟨S_, .f32⟩
  | 14 => ⟨S17x4x16x2, .f32⟩
  | 15 => ⟨S17x4x16x2, .f32⟩
  | 16 => ⟨S_, .f32⟩
  | 17 => ⟨S17x4x16x2, .f32⟩
  | 18 => ⟨S17x4x16x2, .i1⟩
  | 19 => ⟨S17x4x16x2, .f32⟩
  | 20 => ⟨S_, .f32⟩
  | 21 => ⟨S_, .f32⟩
  | 22 => ⟨S17x4x16x2, .f32⟩
  | 23 => ⟨S17x4x16x2, .f32⟩
  | 24 => ⟨S17x4x16x2, .f32⟩
  | 25 => ⟨S_, .f32⟩
  | 26 => ⟨S17x4x16x2, .f32⟩
  | 27 => ⟨S17x4x16x2, .f32⟩
  | 28 => ⟨S_, .f32⟩
  | 29 => ⟨S_, .f32⟩
  | 30 => ⟨S17x4x16x2, .f32⟩
  | 31 => ⟨S17x4x16x2, .f32⟩
  | 32 => ⟨S_, .f32⟩
  | 33 => ⟨S17x4x16x2, .f32⟩
  | 34 => ⟨S17x4x16x2, .f32⟩
  | 35 => ⟨S17x4x16x2, .f32⟩
  | 36 => ⟨S_, .f32⟩
  | 37 => ⟨S17x4x16x2, .f32⟩
  | 38 => ⟨S17x4x16x2, .f32⟩
  | 39 => ⟨S17x4x16x2x1, .f32⟩
  | 40 => ⟨S17x4x16x2x32, .f32⟩
  | 41 => ⟨S17x4x16x2x32, .f32⟩
  | 42 => ⟨S_, .f32⟩
  | 43 => ⟨S_, .f32⟩
  | 44 => ⟨S_, .f32⟩
  | 45 => ⟨S17x4x16x2x32, .f32⟩
  | 46 => ⟨S17x4x16x2x32, .f32⟩
  | 47 => ⟨S_, .f32⟩
  | 48 => ⟨S17x4x16x2x32, .f32⟩
  | 49 => ⟨S17x4x16x2x32, .f32⟩
  | 50 => ⟨S17x4x16x64, .f32⟩
  | 51 => ⟨S17x4x16x64, .f32⟩
  | 52 => ⟨S17x4x16x2x32, .f32⟩
  | 53 => ⟨S17x4x16x2x32, .f32⟩
  | 54 => ⟨S_, .f32⟩
  | 55 => ⟨S17x4x16x2, .f32⟩
  | 56 => ⟨S_, .f32⟩
  | 57 => ⟨S17x4x16x2, .f32⟩
  | 58 => ⟨S17x4x16x2, .f32⟩
  | 59 => ⟨S_, .f32⟩
  | 60 => ⟨S17x4x16x2, .f32⟩
  | 61 => ⟨S17x4x16x2, .i1⟩
  | 62 => ⟨S17x4x16x2, .f32⟩
  | 63 => ⟨S_, .f32⟩
  | 64 => ⟨S_, .f32⟩
  | 65 => ⟨S17x4x16x2, .f32⟩
  | 66 => ⟨S17x4x16x2, .f32⟩
  | 67 => ⟨S17x4x16x2, .f32⟩
  | 68 => ⟨S_, .f32⟩
  | 69 => ⟨S17x4x16x2, .f32⟩
  | 70 => ⟨S17x4x16x2, .f32⟩
  | 71 => ⟨S_, .f32⟩
  | 72 => ⟨S_, .f32⟩
  | 73 => ⟨S17x4x16x2, .f32⟩
  | 74 => ⟨S17x4x16x2, .f32⟩
  | 75 => ⟨S_, .f32⟩
  | 76 => ⟨S17x4x16x2, .f32⟩
  | 77 => ⟨S17x4x16x2, .f32⟩
  | 78 => ⟨S17x4x16x2, .f32⟩
  | 79 => ⟨S_, .f32⟩
  | 80 => ⟨S17x4x16x2, .f32⟩
  | 81 => ⟨S17x4x16x2, .f32⟩
  | 82 => ⟨S17x4x16x2x1, .f32⟩
  | 83 => ⟨S17x4x16x2x32, .f32⟩
  | 84 => ⟨S17x4x16x2x32, .f32⟩
  | 85 => ⟨S_, .f32⟩
  | 86 => ⟨S_, .f32⟩
  | 87 => ⟨S_, .f32⟩
  | 88 => ⟨S17x4x16x2x32, .f32⟩
  | 89 => ⟨S17x4x16x2x32, .f32⟩
  | 90 => ⟨S_, .f32⟩
  | 91 => ⟨S17x4x16x2x32, .f32⟩
  | 92 => ⟨S17x4x16x2x32, .f32⟩
  | 93 => ⟨S17x4x16x64, .f32⟩
  | 94 => ⟨S17x4x16x64, .fp8e4m3⟩
  | 95 => ⟨S17x4x16x64, .fp8e4m3⟩
  | 96 => ⟨S17x4x16x64, .bf16⟩
  | 97 => ⟨S17x4x16x64, .bf16⟩
  | 98 => ⟨S17x16384x16x64, .bf16⟩
  | 99 => ⟨S17x16384x16x64, .bf16⟩
  | 100 => ⟨S17x4x16x8x64, .bf16⟩
  | 101 => ⟨S17x16384x16x2x32, .bf16⟩
  | 102 => ⟨S17x16384x16x2, .bf16⟩
  | 103 => ⟨S17x16384x16x2x1, .bf16⟩
  | 104 => ⟨S17x16384x16x2x32, .bf16⟩
  | 105 => ⟨S17x16384x16x2x32, .bf16⟩
  | 106 => ⟨S17x16384x16x64, .bf16⟩
  | 107 => ⟨S17x4x16x2x32, .bf16⟩
  | 108 => ⟨S17x4x16x2, .bf16⟩
  | 109 => ⟨S17x4x16x2x1, .bf16⟩
  | 110 => ⟨S17x4x16x2x32, .bf16⟩
  | 111 => ⟨S17x4x16x2x32, .bf16⟩
  | 112 => ⟨S17x4x16x64, .bf16⟩
  | 113 => ⟨S17x16x16384x4x8, .f32⟩
  | 114 => ⟨S17x4x16x8x16384, .f32⟩
  | 115 => ⟨S17x16x4x4x8, .f32⟩
  | 116 => ⟨S17x4x16x8x4, .f32⟩
  | 117 => ⟨S16384, .i32⟩
  | 118 => ⟨S1x16384, .i32⟩
  | 119 => ⟨S17x1, .i32⟩
  | 120 => ⟨S17x16384, .i32⟩
  | 121 => ⟨S17x16384, .i32⟩
  | 122 => ⟨S17x16384, .i1⟩
  | 123 => ⟨S17x1x1x1x16384, .i1⟩
  | 124 => ⟨S4, .i32⟩
  | 125 => ⟨S1x4, .i32⟩
  | 126 => ⟨S4, .i32⟩
  | 127 => ⟨S4x1, .i32⟩
  | _ => ⟨S17x4x128x64, .bf16⟩

abbrev hbmTy0_1 (i : Nat) : BufTy := match i % 128 with
  | 0 => ⟨S4x4, .i32⟩
  | 1 => ⟨S4x4, .i32⟩
  | 2 => ⟨S4x4, .i1⟩
  | 3 => ⟨S1x4x1x1x4, .i1⟩
  | 4 => ⟨S_, .f32⟩
  | 5 => ⟨S17x4x16x8x16384, .f32⟩
  | 6 => ⟨S17x4x16x8x16384, .f32⟩
  | 7 => ⟨S_, .f32⟩
  | 8 => ⟨S_, .f32⟩
  | 9 => ⟨S17x4x16x8x16384, .i1⟩
  | 10 => ⟨S17x4x16x8x16384, .f32⟩
  | 11 => ⟨S17x4x16x8x16384, .f32⟩
  | 12 => ⟨S_, .f32⟩
  | 13 => ⟨S17x4x16x8x4, .f32⟩
  | 14 => ⟨S17x4x16x8x4, .f32⟩
  | 15 => ⟨S_, .f32⟩
  | 16 => ⟨S_, .f32⟩
  | 17 => ⟨S17x4x16x8x4, .i1⟩
  | 18 => ⟨S17x4x16x8x4, .f32⟩
  | 19 => ⟨S17x4x16x8x4, .f32⟩
  | 20 => ⟨S_, .f32⟩
  | 21 => ⟨S17x4x16x8, .f32⟩
  | 22 => ⟨S17x4x16x8x1, .f32⟩
  | 23 => ⟨S_, .f32⟩
  | 24 => ⟨S17x4x16x8, .f32⟩
  | 25 => ⟨S17x4x16x8x1, .f32⟩
  | 26 => ⟨S17x4x16x8x1, .f32⟩
  | 27 => ⟨S17x4x16x8x16384, .f32⟩
  | 28 => ⟨S17x4x16x8x16384, .f32⟩
  | 29 => ⟨S17x4x16x8x16384, .f32⟩
  | 30 => ⟨S17x4x16x8x4, .f32⟩
  | 31 => ⟨S17x4x16x8x4, .f32⟩
  | 32 => ⟨S17x4x16x8x4, .f32⟩
  | 33 => ⟨S_, .f32⟩
  | 34 => ⟨S17x4x16x8, .f32⟩
  | 35 => ⟨S17x4x16x8x1, .f32⟩
  | 36 => ⟨S_, .f32⟩
  | 37 => ⟨S17x4x16x8, .f32⟩
  | 38 => ⟨S17x4x16x8x1, .f32⟩
  | 39 => ⟨S17x4x16x8x1, .f32⟩
  | 40 => ⟨S_, .f32⟩
  | 41 => ⟨S17x4x16x8x1, .f32⟩
  | 42 => ⟨S17x4x16x8x1, .f32⟩
  | 43 => ⟨S17x4x16x8x16384, .f32⟩
  | 44 => ⟨S17x4x16x8x16384, .f32⟩
  | 45 => ⟨S17x4x16x8x16384, .bf16⟩
  | 46 => ⟨S17x4x16x8x4, .f32⟩
  | 47 => ⟨S17x4x16x8x4, .f32⟩
  | 48 => ⟨S17x4x16x8x4, .bf16⟩
  | 49 => ⟨S17x16384x16x2x32, .bf16⟩
  | 50 => ⟨S17x16384x16x2, .bf16⟩
  | 51 => ⟨S17x16384x16x2x1, .bf16⟩
  | 52 => ⟨S17x16384x16x2x32, .bf16⟩
  | 53 => ⟨S17x16384x16x2x32, .bf16⟩
  | 54 => ⟨S17x16384x16x64, .bf16⟩
  | 55 => ⟨S17x4x16x2x32, .bf16⟩
  | 56 => ⟨S17x4x16x2, .bf16⟩
  | 57 => ⟨S17x4x16x2x1, .bf16⟩
  | 58 => ⟨S17x4x16x2x32, .bf16⟩
  | 59 => ⟨S17x4x16x2x32, .bf16⟩
  | 60 => ⟨S17x4x16x64, .bf16⟩
  | 61 => ⟨S17x16x64x4x8, .f32⟩
  | 62 => ⟨S17x4x16x8x64, .f32⟩
  | 63 => ⟨S17x16x64x4x8, .f32⟩
  | 64 => ⟨S17x4x16x8x64, .f32⟩
  | 65 => ⟨S17x4x16x8x64, .f32⟩
  | 66 => ⟨S_, .f32⟩
  | 67 => ⟨S17x4x16x8x1, .f32⟩
  | 68 => ⟨S17x4x16x8x1, .i1⟩
  | 69 => ⟨S_, .f32⟩
  | 70 => ⟨S_, .f32⟩
  | 71 => ⟨S17x4x16x8x64, .i1⟩
  | 72 => ⟨S17x4x16x8x64, .f32⟩
  | 73 => ⟨S17x4x16x8x64, .f32⟩
  | 74 => ⟨S17x4x128x64, .f32⟩
  | 75 => ⟨S17x4x128x64, .bf16⟩
  | 76 => ⟨S17x4x64x128, .bf16⟩
  | _ => ⟨S17x4x128x64, .bf16⟩

abbrev hbmTy (i : Nat) : BufTy := match i / 128 with
  | 0 => hbmTy0_0 i
  | 1 => hbmTy0_1 i
  | _ => ⟨S17x4x128x64, .bf16⟩

abbrev bufTy : (tb : Table) → Fin (tcTables nBuf tb) → BufTy
  | .hbm, ⟨i, _⟩ => hbmTy i
  | .local _ .vmem, ⟨0, _⟩ => ⟨S17x4x16x64, .f32⟩
  | .local _ .vmem, ⟨1, _⟩ => ⟨S17x4x16x64, .f32⟩
  | .local _ .vmem, ⟨2, _⟩ => ⟨S17x16384x16x64, .fp8e4m3⟩
  | .local _ .vmem, ⟨3, _⟩ => ⟨S17x16384x16x64, .fp8e4m3⟩
  | .local _ .vmem, ⟨4, _⟩ => ⟨S17x4x16x64, .fp8e4m3⟩
  | .local _ .vmem, ⟨5, _⟩ => ⟨S17x4x16x64, .fp8e4m3⟩
  | .local _ .vmem, ⟨6, _⟩ => ⟨S17x4x16x64, .bf16⟩
  | .local _ .vmem, ⟨7, _⟩ => ⟨S17x4x16x64, .bf16⟩
  | .local _ .vmem, ⟨8, _⟩ => ⟨S17x16384x16x64, .bf16⟩
  | .local _ .vmem, ⟨9, _⟩ => ⟨S17x16384x16x64, .bf16⟩
  | _, _ => ⟨S17x4x128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_cst_8 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_cst_10 : Ref sig .tc := ⟨.hbm, 56, rfl⟩
abbrev main_v30 : Ref sig .tc := ⟨.hbm, 57, rfl⟩
abbrev main_v31 : Ref sig .tc := ⟨.hbm, 58, rfl⟩
abbrev main_cst_11 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_12 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_13 : Ref sig .tc := ⟨.hbm, 68, rfl⟩
abbrev main_v39 : Ref sig .tc := ⟨.hbm, 69, rfl⟩
abbrev main_v40 : Ref sig .tc := ⟨.hbm, 70, rfl⟩
abbrev main_cst_14 : Ref sig .tc := ⟨.hbm, 71, rfl⟩
abbrev main_call2_v0 : Ref sig .tc := ⟨.hbm, 72, rfl⟩
abbrev main_call2_v1 : Ref sig .tc := ⟨.hbm, 73, rfl⟩
abbrev main_v41 : Ref sig .tc := ⟨.hbm, 74, rfl⟩
abbrev main_cst_15 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_16 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_17 : Ref sig .tc := ⟨.hbm, 85, rfl⟩
abbrev main_cst_18 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v50 : Ref sig .tc := ⟨.hbm, 92, rfl⟩
abbrev main_v51 : Ref sig .tc := ⟨.hbm, 93, rfl⟩
abbrev main_v52_0 : Ref sig .tc := ⟨.hbm, 94, rfl⟩
abbrev main_v52_1 : Ref sig .tc := ⟨.hbm, 95, rfl⟩
abbrev main_v52_2 : Ref sig .tc := ⟨.hbm, 96, rfl⟩
abbrev main_v52_3 : Ref sig .tc := ⟨.hbm, 97, rfl⟩
abbrev main_v52_4 : Ref sig .tc := ⟨.hbm, 98, rfl⟩
abbrev main_v52_5 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_19 : Ref sig .tc := ⟨.hbm, 132, rfl⟩
abbrev main_v85 : Ref sig .tc := ⟨.hbm, 133, rfl⟩
abbrev main_v86 : Ref sig .tc := ⟨.hbm, 134, rfl⟩
abbrev main_cst_20 : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_v87 : Ref sig .tc := ⟨.hbm, 139, rfl⟩
abbrev main_cst_21 : Ref sig .tc := ⟨.hbm, 140, rfl⟩
abbrev main_v88 : Ref sig .tc := ⟨.hbm, 141, rfl⟩
abbrev main_v89 : Ref sig .tc := ⟨.hbm, 142, rfl⟩
abbrev main_cst_22 : Ref sig .tc := ⟨.hbm, 143, rfl⟩
abbrev main_call5_v0 : Ref sig .tc := ⟨.hbm, 144, rfl⟩
abbrev main_call5_v1 : Ref sig .tc := ⟨.hbm, 145, rfl⟩
abbrev main_call5_v2 : Ref sig .tc := ⟨.hbm, 146, rfl⟩
abbrev main_v90 : Ref sig .tc := ⟨.hbm, 147, rfl⟩
abbrev main_cst_23 : Ref sig .tc := ⟨.hbm, 148, rfl⟩
abbrev main_v91 : Ref sig .tc := ⟨.hbm, 149, rfl⟩
abbrev main_v92 : Ref sig .tc := ⟨.hbm, 150, rfl⟩
abbrev main_cst_24 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_25 : Ref sig .tc := ⟨.hbm, 161, rfl⟩
abbrev main_v102 : Ref sig .tc := ⟨.hbm, 162, rfl⟩
abbrev main_v103 : Ref sig .tc := ⟨.hbm, 163, rfl⟩
abbrev main_cst_26 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_27 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_cst_28 : Ref sig .tc := ⟨.hbm, 194, rfl⟩
abbrev main_v132 : Ref sig .tc := ⟨.hbm, 195, rfl⟩
abbrev main_v133 : Ref sig .tc := ⟨.hbm, 196, rfl⟩
abbrev main_cst_29 : Ref sig .tc := ⟨.hbm, 197, rfl⟩
abbrev main_call6_v0 : Ref sig .tc := ⟨.hbm, 198, rfl⟩
abbrev main_call6_v1 : Ref sig .tc := ⟨.hbm, 199, rfl⟩
abbrev main_call6_v2 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S17x4x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S17x4x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17x16384x16x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17x16384x16x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S17x4x16x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S17x4x16x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S17x4x16x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S17x4x16x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S17x16384x16x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S17x16384x16x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BlockIx.lean ====
/- The block of keys a grid point fetches. The index maps of the four cache operands take the block number
   `min(c, max(len - 1, 0) / 1024)`, written with signed words and the sign corrections of a floor division. This
   module reads that word as a natural number. -/
module

public import Idealize.ShloMosaic.PureOps.Float

@[expose] public section

namespace Cert.BlockIx

open Idealize.ShloMosaic

/-- The word `max(n - 1, 0) / 1024` as the index maps compute it: a truncating division, corrected to a floor
    division where the signs differ and the remainder is not zero. -/
def lastBlk (n : BitVec 32) : BitVec 32 :=
  let v3 := Scalar.maxsi (Scalar.subi n 1#32) 0#32
  let v4 := Scalar.divsi v3 1024#32
  let v9 := Scalar.subi (Scalar.extui (Scalar.cmpi .sgt v3 0#32)) (Scalar.extui (Scalar.cmpi .slt v3 0#32))
  let v14 := Scalar.subi (Scalar.extui (Scalar.cmpi .sgt 1024#32 0#32)) (Scalar.extui (Scalar.cmpi .slt 1024#32 0#32))
  let v15 := Scalar.cmpi .ne v9 v14
  let v17 := Scalar.cmpi .ne (Scalar.remsi v3 1024#32) 0#32
  Scalar.select (Scalar.andi v15 v17) (Scalar.subi v4 1#32) v4

/-- The signed maximum with zero is a word below the sign bit. -/
theorem maxsi_zero_lt (x : BitVec 32) : (Scalar.maxsi x 0#32).toNat < 2 ^ 31 := by
  simp only [Scalar.maxsi, IntOp.maxsi, BitVec.slt]
  have hx := BitVec.toInt_eq_toNat_cond x
  split
  · rename_i h
    have h' : (0 : Int) < x.toInt := by simpa using h
    rw [hx] at h'
    have := x.isLt
    split at h' <;> omega
  · simp

/-- On a word below the sign bit the corrected division is the division of naturals. -/
theorem lastBlk_eq (n : BitVec 32) :
    (lastBlk n).toNat = (Scalar.maxsi (Scalar.subi n 1#32) 0#32).toNat / 1024 := by
  have hv := maxsi_zero_lt (Scalar.subi n 1#32)
  unfold lastBlk
  generalize Scalar.maxsi (Scalar.subi n 1#32) 0#32 = v at hv ⊢
  have hmsb : v.msb = false := by
    rw [BitVec.msb_eq_decide]; simpa using hv
  have hc : ¬ IntOp.SDivCorner v 1024#32 := by
    unfold IntOp.SDivCorner
    rintro (h | ⟨_, h⟩) <;> exact absurd h (by decide)
  have hd : Scalar.divsi v 1024#32 = v / 1024#32 := by
    simp only [Scalar.divsi, IntOp.divsi, if_neg hc]
    rw [BitVec.sdiv_eq, hmsb]; rfl
  have hr : Scalar.remsi v 1024#32 = v % 1024#32 := by
    simp only [Scalar.remsi, IntOp.remsi, if_neg hc]
    rw [BitVec.srem_eq, hmsb]; rfl
  simp only [hd, hr]
  have hbase : (v / 1024#32).toNat = v.toNat / 1024 := by
    rw [BitVec.toNat_udiv]; rfl
  have hlt : Scalar.cmpi .slt v 0#32 = 0#1 := by
    have : v.slt 0#32 = false := by
      rw [BitVec.slt, BitVec.toInt_eq_toNat_of_msb hmsb]; simp
    simp only [Scalar.cmpi, IntOp.cmpi, this]; rfl
  by_cases h0 : v = 0#32
  · subst h0; rfl
  · have hgt : Scalar.cmpi .sgt v 0#32 = 1#1 := by
      have : (0#32).slt v = true := by
        rw [BitVec.slt, BitVec.toInt_eq_toNat_of_msb hmsb]
        have : v.toNat ≠ 0 := fun h => h0 (BitVec.eq_of_toNat_eq (by simpa using h))
        simp; omega
      simp only [Scalar.cmpi, IntOp.cmpi, this]; rfl
    have hs : Scalar.andi (Scalar.cmpi .ne (Scalar.subi (Scalar.extui (1#1)) (Scalar.extui (0#1)))
        (Scalar.subi (Scalar.extui (Scalar.cmpi .sgt 1024#32 0#32)) (Scalar.extui (Scalar.cmpi .slt 1024#32 0#32))))
        (Scalar.cmpi .ne (v % 1024#32) 0#32) = 0#1 := by
      have : Scalar.cmpi .ne (Scalar.subi (Scalar.extui (1#1)) (Scalar.extui (0#1)))
        (Scalar.subi (Scalar.extui (Scalar.cmpi .sgt 1024#32 0#32)) (Scalar.extui (Scalar.cmpi .slt 1024#32 0#32)))
          = 0#1 := by decide
      rw [this]
      simp [Scalar.andi, IntOp.andi]
    rw [hlt, hgt, hs]
    exact hbase

/-- The fetched block number never passes the chunk number. -/
theorem minsi_lastBlk_le (c : Nat) (hc : c < 16) (n : BitVec 32) :
    (Scalar.minsi (BitVec.ofNat 32 c) (lastBlk n)).toNat ≤ c := by
  have hl := lastBlk_eq n
  have hv := maxsi_zero_lt (Scalar.subi n 1#32)
  have hcn : (BitVec.ofNat 32 c).toNat = c := by rw [BitVec.toNat_ofNat]; omega
  simp only [Scalar.minsi, IntOp.minsi]
  split
  · exact hcn.le
  · rename_i h
    rw [Bool.not_eq_true, BitVec.slt, decide_eq_false_iff_not, BitVec.toInt_eq_toNat_cond, BitVec.toInt_eq_toNat_cond,
      hcn, if_pos (by omega), if_pos (by omega)] at h
    omega

/-- Where chunk `c` holds a cached key, the fetched block is block `c`. -/
theorem minsi_lastBlk_eq (c : Nat) (hc : c < 16) (n : BitVec 32) (hn : (c : Int) * 1024 < n.toInt) :
    (Scalar.minsi (BitVec.ofNat 32 c) (lastBlk n)).toNat = c := by
  have hl := lastBlk_eq n
  have hcn : (BitVec.ofNat 32 c).toNat = c := by rw [BitVec.toNat_ofNat]; omega
  have hnn : n.toInt = n.toNat := by
    have h := BitVec.toInt_eq_toNat_cond n
    have := n.isLt
    split at h <;> omega
  have hs : (Scalar.subi n 1#32).toNat = n.toNat - 1 := by
    simp only [Scalar.subi, IntOp.subi, BitVec.toNat_sub]
    have := n.isLt
    simp; omega
  have hm : (Scalar.maxsi (Scalar.subi n 1#32) 0#32).toNat = n.toNat - 1 := by
    simp only [Scalar.maxsi, IntOp.maxsi]
    have h31 : n.toNat < 2 ^ 31 := by
      have h := BitVec.toInt_eq_toNat_cond n
      have := n.isLt
      split at h <;> omega
    have hi : (Scalar.subi n 1#32).toInt = (n.toNat - 1 : Nat) := by
      rw [BitVec.toInt_eq_toNat_cond, hs, if_pos (by omega)]
    split
    · exact hs
    · rename_i h
      rw [Bool.not_eq_true, BitVec.slt, decide_eq_false_iff_not, hi] at h
      simp at h ⊢
      omega
  rw [hm] at hl
  simp only [Scalar.minsi, IntOp.minsi]
  split
  · exact hcn
  · rename_i h
    have h31 : n.toNat < 2 ^ 31 := by
      have h := BitVec.toInt_eq_toNat_cond n
      have := n.isLt
      split at h <;> omega
    rw [Bool.not_eq_true, BitVec.slt, decide_eq_false_iff_not, BitVec.toInt_eq_toNat_cond, BitVec.toInt_eq_toNat_cond,
      hcn, if_pos (by omega), if_pos (by omega)] at h
    omega

end Cert.BlockIx

end
-- ==== Proof.Ok.lean ====
/- The side condition on the prefetched table `cache_len`: whatever the lengths are, every block the four cache
   operands fetch lies inside its array and ends at whole words. Proved for both kernels, of every table. -/
module

public import proofs.«01_k».proof.Proof.Gen.Kernel
public import proofs.«01_k».proof.Proof.Gen.KernelIdeal
public import proofs.«01_k».proof.Proof.BlockIx

@[expose] public section

namespace Cert.Kernel.Hand

open Idealize.ShloMosaic Cert.Kernel Cert.Kernel.Gen Cert.BlockIx

variable {F : FTy → Type} [FloatOps F]

/-- Every table is admissible. -/
theorem ok (pf : pre0.Contents (Elt F)) : ok0 pf := by
  have hb (i : grid0.Coords) : (BitVec.ofNat 32 (i 0).val).toNat < 17 := by
    have : (i 0).val < 17 := (i 0).isLt
    rw [BitVec.toNat_ofNat]; omega
  have hk (i : grid0.Coords) (n : BitVec 32) :
      (Scalar.minsi (BitVec.ofNat 32 (i 1).val) (lastBlk n)).toNat < 16 :=
    lt_of_le_of_lt (minsi_lastBlk_le _ (i 1).isLt n) (i 1).isLt
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩,
    fun i => ⟨fun a => ?_, .inl rfl⟩⟩ <;>
  · have h0 := hb i
    have h1 := hk i (pf.at 0 (Rect.unit (s := S17) ![(Scalar.indexCast (BitVec.ofNat 32 (i 0).val)).toNat] S1.size (k0_off1_inb i)) numel1_S1)
    fin_cases a
    · show (BitVec.toNat _ + 1) * 1 ≤ 17
      omega
    · exact Nat.le_of_eq rfl
    · exact Nat.le_of_eq rfl
    · show (BitVec.toNat (Scalar.minsi (BitVec.ofNat 32 (i 1).val) (lastBlk _)) + 1) * 1024 ≤ 16384
      omega

end Cert.Kernel.Hand

namespace Cert.KernelIdeal.Hand

open Idealize.ShloMosaic Cert.KernelIdeal Cert.KernelIdeal.Gen Cert.BlockIx

variable {F : FTy → Type} [FloatOps F] [Named F]

/-- Every table is admissible. -/
theorem ok (pf : pre0.Contents (Elt F)) : ok0 pf := by
  have hb (i : grid0.Coords) : (BitVec.ofNat 32 (i 0).val).toNat < 17 := by
    have : (i 0).val < 17 := (i 0).isLt
    rw [BitVec.toNat_ofNat]; omega
  have hk (i : grid0.Coords) (n : BitVec 32) :
      (Scalar.minsi (BitVec.ofNat 32 (i 1).val) (lastBlk n)).toNat < 16 :=
    lt_of_le_of_lt (minsi_lastBlk_le _ (i 1).isLt n) (i 1).isLt
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩,
    fun i => ⟨fun a => ?_, .inl rfl⟩⟩ <;>
  · have h0 := hb i
    have h1 := hk i (pf.at 0 (Rect.unit (s := S17) ![(Scalar.indexCast (BitVec.ofNat 32 (i 0).val)).toNat] S1.size (k0_off1_inb i)) numel1_S1)
    fin_cases a
    · show (BitVec.toNat _ + 1) * 1 ≤ 17
      omega
    · exact Nat.le_of_eq rfl
    · exact Nat.le_of_eq rfl
    · show (BitVec.toNat (Scalar.minsi (BitVec.ofNat 32 (i 1).val) (lastBlk _)) + 1) * 1024 ≤ 16384
      omega

end Cert.KernelIdeal.Hand

end
-- ==== Proof.Bridge.lean ====
module

public import proofs.«01_k».proof.Defs

/-! The kernel read over machine floats is the program printed for the ideal reading, read over machine floats: the two
differ in one constant, which the ideal reading names, and over machine floats that name is given the constant's own bits.
So a run proved of the second program over any floats is a run of the first. -/

@[expose] public section

set_option maxRecDepth 100000
set_option maxHeartbeats 4000000

noncomputable section

namespace Cert.Bridge

open Idealize.ShloMosaic Idealize.SL.Sem Idealize.ShloMosaic.TcCoe

/-- Over machine floats a named constant is its bits. -/
@[reducible] def namedBits : Named Bits := ⟨fun _ _ {φ} b => FloatOps.ofBits φ b⟩

attribute [local instance] namedBits

variable [Cert.Kernel.Facts] [Cert.KernelIdeal.Facts]

theorem body_eq : @Cert.Kernel.cc0_decode_attn Bits _ _ = @Cert.KernelIdeal.cc0_decode_attn Bits _ _ _ := rfl

theorem defs₀_eq : Cert.Kernel.defs₀ (F := Bits) = Cert.KernelIdeal.defs₀ (F := Bits) := by
  unfold Cert.Kernel.defs₀ Cert.KernelIdeal.defs₀
  congr 1
  funext a b
  match a, b with
  | ⟨0, _⟩, (t, s) =>
    dsimp only
    rw [body_eq]
    rfl
  | ⟨n + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [defs₀_eq]
  rfl

theorem main_eq : Cert.Kernel.main (F := Bits) = Cert.KernelIdeal.main (F := Bits) := rfl

/-- A run of the program printed for the ideal reading, over machine floats, is a run of the kernel. -/
theorem run_of (m : (ℓ : Loc Cert.Kernel.nD Cert.Kernel.τ Cert.Kernel.sig) → Buf (Elt Bits) ℓ)
    (g : Dev Cert.Kernel.nD → PrngReg)
    (h : θ_run (Cert.KernelIdeal.defs (F := Bits)) (onTc (τ := Cert.KernelIdeal.τ) (Cert.KernelIdeal.main (F := Bits)))
      ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧
      r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧
      r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧
      r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧
      r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧
      r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧
      r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧
      r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)) :
    θ_run (Cert.Kernel.defs (F := Bits)) (onTc (τ := Cert.Kernel.τ) (Cert.Kernel.main (F := Bits)))
      ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0) ∧
      r.2.mem ((c.tc : Thread Cert.Kernel.nD Cert.Kernel.τ).loc Cert.Kernel.main_arg1) = m ((c.tc : Thread Cert.Kernel.nD Cert.Kernel.τ).loc Cert.Kernel.main_arg1) ∧
      r.2.mem ((c.tc : Thread Cert.Kernel.nD Cert.Kernel.τ).loc Cert.Kernel.main_arg2) = m ((c.tc : Thread Cert.Kernel.nD Cert.Kernel.τ).loc Cert.Kernel.main_arg2) ∧
      r.2.mem ((c.tc : Thread Cert.Kernel.nD Cert.Kernel.τ).loc Cert.Kernel.main_arg3) = m ((c.tc : Thread Cert.Kernel.nD Cert.Kernel.τ).loc Cert.Kernel.main_arg3) ∧
      r.2.mem ((c.tc : Thread Cert.Kernel.nD Cert.Kernel.τ).loc Cert.Kernel.main_arg4) = m ((c.tc : Thread Cert.Kernel.nD Cert.Kernel.τ).loc Cert.Kernel.main_arg4) ∧
      r.2.mem ((c.tc : Thread Cert.Kernel.nD Cert.Kernel.τ).loc Cert.Kernel.main_arg5) = m ((c.tc : Thread Cert.Kernel.nD Cert.Kernel.τ).loc Cert.Kernel.main_arg5) ∧
      r.2.mem ((c.tc : Thread Cert.Kernel.nD Cert.Kernel.τ).loc Cert.Kernel.main_arg6) = m ((c.tc : Thread Cert.Kernel.nD Cert.Kernel.τ).loc Cert.Kernel.main_arg6) ∧
      r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0) := by
  rw [defs_eq, main_eq]
  exact h

end Cert.Bridge

end
-- ==== Proof.KI.Points.lean ====
/- The schedule of the kernel's pipeline at exact arithmetic: for each window, at which grid points its block is
   fetched and at which it is written back, in closed form; the staging buffers current at a point; and the kernel
   body as it is called there. -/
module

public import proofs.«01_k».proof.Proof.Gen.KernelIdeal
public import Idealize.ShloMosaic.Lib.Pipeline.Kit

@[expose] public section

noncomputable section

namespace Cert.KernelIdeal.Hand

open Cert.KernelIdeal.Gen
open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the points ≡ 0 (mod 16), at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_reads cc0_transform_0 reads0_0 hreads0_0 0 (by decide) (by decide) (Pipeline.Window.sep_of_coord cc0_transform_0 0 0 (fun _ => rfl) (by decide)) (P := 16) (by decide) t : ∀ t : Fin grid0.N, Pipeline.Window.fetchOf grid0 false cc0_transform_0 t = true ↔ t.val % 16 = 0)
/-- Window 1 (operand 2 (%arg1)) is fetched at the points ≡ 0 (mod 16), at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_reads cc0_transform_1 reads0_1 hreads0_1 0 (by decide) (by decide) (Pipeline.Window.sep_of_coord cc0_transform_1 0 0 (fun _ => rfl) (by decide)) (P := 16) (by decide) t : ∀ t : Fin grid0.N, Pipeline.Window.fetchOf grid0 false cc0_transform_1 t = true ↔ t.val % 16 = 0)
/-- Window 2 (operand 3 (%arg2)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 0 (by decide) (by decide) (Pipeline.Window.sep_of_coord cc0_transform_2 0 0 (fun _ => rfl) (by decide)) (P := 16) (by decide) t : ∀ t : Fin grid0.N, Pipeline.Window.fetchOf grid0 false cc0_transform_2 t = true ↔ t.val % 16 = 0)
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
/-- Window 7 (result 0 (%5#0)) is written back at the points ≡ 15 (mod 16), at any contents of the tables (its index map reads none). -/
theorem flush0_7 (a : (pcfg0 (F := F)).Adm) : ∀ t : Fin (cfg0 a).N, ((cfg0 a).win 7).flush t = true ↔ t.val % 16 = 15 :=
  (fun t => Pipeline.Window.flushOf_reads cc0_transform_7 reads0_7 hreads0_7 0 (by decide) (by decide) (Pipeline.Window.sep_of_coord cc0_transform_7 0 0 (fun _ => rfl) (by decide)) (P := 16) (m := 15) (by decide) rfl t : ∀ t : Fin grid0.N, Pipeline.Window.flushOf grid0 true cc0_transform_7 t = true ↔ t.val % 16 = 15)
/-- Window 8 (result 1 (%5#1)) is written back at the points ≡ 15 (mod 16), at any contents of the tables (its index map reads none). -/
theorem flush0_8 (a : (pcfg0 (F := F)).Adm) : ∀ t : Fin (cfg0 a).N, ((cfg0 a).win 8).flush t = true ↔ t.val % 16 = 15 :=
  (fun t => Pipeline.Window.flushOf_reads cc0_transform_8 reads0_8 hreads0_8 0 (by decide) (by decide) (Pipeline.Window.sep_of_coord cc0_transform_8 0 0 (fun _ => rfl) (by decide)) (P := 16) (m := 15) (by decide) rfl t : ∀ t : Fin grid0.N, Pipeline.Window.flushOf grid0 true cc0_transform_8 t = true ↔ t.val % 16 = 15)
/-- Window 9 (result 2 (%5#2)) is written back at the points ≡ 15 (mod 16), at any contents of the tables (its index map reads none). -/
theorem flush0_9 (a : (pcfg0 (F := F)).Adm) : ∀ t : Fin (cfg0 a).N, ((cfg0 a).win 9).flush t = true ↔ t.val % 16 = 15 :=
  (fun t => Pipeline.Window.flushOf_reads cc0_transform_9 reads0_9 hreads0_9 0 (by decide) (by decide) (Pipeline.Window.sep_of_coord cc0_transform_9 0 0 (fun _ => rfl) (by decide)) (P := 16) (m := 15) (by decide) rfl t : ∀ t : Fin grid0.N, Pipeline.Window.flushOf grid0 true cc0_transform_9 t = true ↔ t.val % 16 = 15)
/-- Window 10 (result 3 (%5#3)) is written back at the points ≡ 15 (mod 16), at any contents of the tables (its index map reads none). -/
theorem flush0_10 (a : (pcfg0 (F := F)).Adm) : ∀ t : Fin (cfg0 a).N, ((cfg0 a).win 10).flush t = true ↔ t.val % 16 = 15 :=
  (fun t => Pipeline.Window.flushOf_reads cc0_transform_10 reads0_10 hreads0_10 0 (by decide) (by decide) (Pipeline.Window.sep_of_coord cc0_transform_10 0 0 (fun _ => rfl) (by decide)) (P := 16) (m := 15) (by decide) rfl t : ∀ t : Fin grid0.N, Pipeline.Window.flushOf grid0 true cc0_transform_10 t = true ↔ t.val % 16 = 15)
/-- Window 11 (result 4 (%5#4)) is written back at the points ≡ 15 (mod 16), at any contents of the tables (its index map reads none). -/
theorem flush0_11 (a : (pcfg0 (F := F)).Adm) : ∀ t : Fin (cfg0 a).N, ((cfg0 a).win 11).flush t = true ↔ t.val % 16 = 15 :=
  (fun t => Pipeline.Window.flushOf_reads cc0_transform_11 reads0_11 hreads0_11 0 (by decide) (by decide) (Pipeline.Window.sep_of_coord cc0_transform_11 0 0 (fun _ => rfl) (by decide)) (P := 16) (m := 15) (by decide) rfl t : ∀ t : Fin grid0.N, Pipeline.Window.flushOf grid0 true cc0_transform_11 t = true ↔ t.val % 16 = 15)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_decode_attn (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Hand

end
-- ==== Proof.KI.Runs.lean ====
/- What every run of the kernel at exact arithmetic shares: the host operations before the pipeline and the arrays
   they leave, the prefetched table of lengths, the blocks of the input windows, the conditions of the body's three
   branches in terms of the grid point, and the points at which an output window is written. -/
module

public import proofs.«01_k».proof.Proof.Gen.KernelIdeal.Launch
public import proofs.«01_k».proof.Proof.Gen.KernelIdeal.Skeleton
public import proofs.«01_k».proof.Proof.KI.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S17 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin grid0.N, cond0_0 (grid0.coords t) ↔ t.val % 16 = 0 :=
  (fun t => by
    have ht : t.val < 272 := Nat.lt_of_lt_of_eq t.isLt N_0
    have e0 : (grid0.coords t 0).val = t.val / 16 % 17 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1: over WORDS the body reads from its tables or input SMEM windows
    (`v1`), so no function of the point — a case variable: a hypothesis of each run, a `by_cases`
    of the obligation and an `if` of `outsAt`, stated over the argument blocks' words there. -/
abbrev cond0_1 (i : grid0.Coords) (v1 : BitVec 32) : Prop := (Scalar.cmpi .ne (Scalar.extui (Scalar.cmpi .slt (Scalar.muli (BitVec.ofNat 32 (i 1).val) 1024#32) v1)) 0#32) = 1#1

/-- The condition of the body's `scf.if` 2 (`k0_h3`), from the grid coordinates (the skeleton's scalar
    chain substituted). -/
abbrev cond0_2 (i : grid0.Coords) : Prop := k0_cond3 i = 1#1
/-- It holds at the points ≡ 15 (mod 16) — by arithmetic of the point. -/
theorem hcond0_2 : ∀ t : Fin grid0.N, cond0_2 (grid0.coords t) ↔ t.val % 16 = 15 :=
  (fun t => by
    have ht : t.val < 272 := Nat.lt_of_lt_of_eq t.isLt N_0
    have e0 : (grid0.coords t 0).val = t.val / 16 % 17 := Pipeline.Grid.coords_val t 0 (by decide) rfl
    have e1 : (grid0.coords t 1).val = t.val / 1 % 16 := Pipeline.Grid.coords_val t 1 (by decide) rfl
    simp only [cond0_2, k0_cond3, e0, e1]
    word_cmp
   : ∀ t : Fin grid0.N, cond0_2 (grid0.coords t) ↔ t.val % 16 = 15)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- At the points of case A the printed configuration (`Cfg.idle`) calls output 7 idle: the case stores nothing into it. -/
theorem idleAt0_7_A (hO : Ok m) : ∀ t : Fin (cfgM m hO).N, cond0_0 (grid0.coords t) → ¬cond0_2 (grid0.coords t) → (cfgM m hO).idle 7 (grid0.coords t) = true :=
  (by decide +kernel : ∀ t : Fin grid0.N, cond0_0 (grid0.coords t) → ¬cond0_2 (grid0.coords t) → idle0 7 (grid0.coords t) = true)
/-- At the points of case A the pipeline does not write output 7's block back. -/
theorem noFlush0_7_A (hO : Ok m) : ∀ t : Fin (cfgM m hO).N, cond0_0 (grid0.coords t) → ¬cond0_2 (grid0.coords t) → ((cfgM m hO).win 7).flush t = false :=
  (by decide +kernel : ∀ t : Fin grid0.N, cond0_0 (grid0.coords t) → ¬cond0_2 (grid0.coords t) → Pipeline.Window.flushOf grid0 true cc0_transform_7 t = false)
/-- At the points of case B the printed configuration (`Cfg.idle`) calls output 7 idle: the case stores nothing into it. -/
theorem idleAt0_7_B (hO : Ok m) : ∀ t : Fin (cfgM m hO).N, cond0_0 (grid0.coords t) → ¬cond0_2 (grid0.coords t) → (cfgM m hO).idle 7 (grid0.coords t) = true :=
  (by decide +kernel : ∀ t : Fin grid0.N, cond0_0 (grid0.coords t) → ¬cond0_2 (grid0.coords t) → idle0 7 (grid0.coords t) = true)
/-- At the points of case B the pipeline does not write output 7's block back. -/
theorem noFlush0_7_B (hO : Ok m) : ∀ t : Fin (cfgM m hO).N, cond0_0 (grid0.coords t) → ¬cond0_2 (grid0.coords t) → ((cfgM m hO).win 7).flush t = false :=
  (by decide +kernel : ∀ t : Fin grid0.N, cond0_0 (grid0.coords t) → ¬cond0_2 (grid0.coords t) → Pipeline.Window.flushOf grid0 true cc0_transform_7 t = false)
/-- At the points of case C the printed configuration (`Cfg.idle`) calls output 7 idle: the case stores nothing into it. -/
theorem idleAt0_7_C (hO : Ok m) : ∀ t : Fin (cfgM m hO).N, ¬cond0_0 (grid0.coords t) → ¬cond0_2 (grid0.coords t) → (cfgM m hO).idle 7 (grid0.coords t) = true :=
  (by decide +kernel : ∀ t : Fin grid0.N, ¬cond0_0 (grid0.coords t) → ¬cond0_2 (grid0.coords t) → idle0 7 (grid0.coords t) = true)
/-- At the points of case C the pipeline does not write output 7's block back. -/
theorem noFlush0_7_C (hO : Ok m) : ∀ t : Fin (cfgM m hO).N, ¬cond0_0 (grid0.coords t) → ¬cond0_2 (grid0.coords t) → ((cfgM m hO).win 7).flush t = false :=
  (by decide +kernel : ∀ t : Fin grid0.N, ¬cond0_0 (grid0.coords t) → ¬cond0_2 (grid0.coords t) → Pipeline.Window.flushOf grid0 true cc0_transform_7 t = false)
/-- At the points of case D the printed configuration (`Cfg.idle`) calls output 7 idle: the case stores nothing into it. -/
theorem idleAt0_7_D (hO : Ok m) : ∀ t : Fin (cfgM m hO).N, ¬cond0_0 (grid0.coords t) → ¬cond0_2 (grid0.coords t) → (cfgM m hO).idle 7 (grid0.coords t) = true :=
  (by decide +kernel : ∀ t : Fin grid0.N, ¬cond0_0 (grid0.coords t) → ¬cond0_2 (grid0.coords t) → idle0 7 (grid0.coords t) = true)
/-- At the points of case D the pipeline does not write output 7's block back. -/
theorem noFlush0_7_D (hO : Ok m) : ∀ t : Fin (cfgM m hO).N, ¬cond0_0 (grid0.coords t) → ¬cond0_2 (grid0.coords t) → ((cfgM m hO).win 7).flush t = false :=
  (by decide +kernel : ∀ t : Fin grid0.N, ¬cond0_0 (grid0.coords t) → ¬cond0_2 (grid0.coords t) → Pipeline.Window.flushOf grid0 true cc0_transform_7 t = false)
/-- At the points of case E the printed configuration (`Cfg.idle`) calls output 7 live: the case stores into it. -/
theorem liveAt0_7_E (hO : Ok m) : ∀ t : Fin (cfgM m hO).N, ¬cond0_0 (grid0.coords t) → cond0_2 (grid0.coords t) → (cfgM m hO).idle 7 (grid0.coords t) = false :=
  (by decide +kernel : ∀ t : Fin grid0.N, ¬cond0_0 (grid0.coords t) → cond0_2 (grid0.coords t) → idle0 7 (grid0.coords t) = false)
/-- At the points of case F the printed configuration (`Cfg.idle`) calls output 7 live: the case stores into it. -/
theorem liveAt0_7_F (hO : Ok m) : ∀ t : Fin (cfgM m hO).N, ¬cond0_0 (grid0.coords t) → cond0_2 (grid0.coords t) → (cfgM m hO).idle 7 (grid0.coords t) = false :=
  (by decide +kernel : ∀ t : Fin grid0.N, ¬cond0_0 (grid0.coords t) → cond0_2 (grid0.coords t) → idle0 7 (grid0.coords t) = false)
/-- At the points of case A the printed configuration (`Cfg.idle`) calls output 8 live: the case stores into it. -/
theorem liveAt0_8_A (hO : Ok m) : ∀ t : Fin (cfgM m hO).N, cond0_0 (grid0.coords t) → ¬cond0_2 (grid0.coords t) → (cfgM m hO).idle 8 (grid0.coords t) = false :=
  (by decide +kernel : ∀ t : Fin grid0.N, cond0_0 (grid0.coords t) → ¬cond0_2 (grid0.coords t) → idle0 8 (grid0.coords t) = false)
/-- At the points of case B the printed configuration (`Cfg.idle`) calls output 8 live: the case stores into it. -/
theorem liveAt0_8_B (hO : Ok m) : ∀ t : Fin (cfgM m hO).N, cond0_0 (grid0.coords t) → ¬cond0_2 (grid0.coords t) → (cfgM m hO).idle 8 (grid0.coords t) = false :=
  (by decide +kernel : ∀ t : Fin grid0.N, cond0_0 (grid0.coords t) → ¬cond0_2 (grid0.coords t) → idle0 8 (grid0.coords t) = false)
/-- At the points of case C the printed configuration (`Cfg.idle`) calls output 8 idle: the case stores nothing into it. -/
theorem idleAt0_8_C (hO : Ok m) : ∀ t : Fin (cfgM m hO).N, ¬cond0_0 (grid0.coords t) → ¬cond0_2 (grid0.coords t) → (cfgM m hO).idle 8 (grid0.coords t) = true :=
  (by decide +kernel : ∀ t : Fin grid0.N, ¬cond0_0 (grid0.coords t) → ¬cond0_2 (grid0.coords t) → idle0 8 (grid0.coords t) = true)
/-- At the points of case C the pipeline does not write output 8's block back. -/
theorem noFlush0_8_C (hO : Ok m) : ∀ t : Fin (cfgM m hO).N, ¬cond0_0 (grid0.coords t) → ¬cond0_2 (grid0.coords t) → ((cfgM m hO).win 8).flush t = false :=
  (by decide +kernel : ∀ t : Fin grid0.N, ¬cond0_0 (grid0.coords t) → ¬cond0_2 (grid0.coords t) → Pipeline.Window.flushOf grid0 true cc0_transform_8 t = false)
/-- At the points of case D the printed configuration (`Cfg.idle`) calls output 8 idle: the case stores nothing into it. -/
theorem idleAt0_8_D (hO : Ok m) : ∀ t : Fin (cfgM m hO).N, ¬cond0_0 (grid0.coords t) → ¬cond0_2 (grid0.coords t) → (cfgM m hO).idle 8 (grid0.coords t) = true :=
  (by decide +kernel : ∀ t : Fin grid0.N, ¬cond0_0 (grid0.coords t) → ¬cond0_2 (grid0.coords t) → idle0 8 (grid0.coords t) = true)
/-- At the points of case D the pipeline does not write output 8's block back. -/
theorem noFlush0_8_D (hO : Ok m) : ∀ t : Fin (cfgM m hO).N, ¬cond0_0 (grid0.coords t) → ¬cond0_2 (grid0.coords t) → ((cfgM m hO).win 8).flush t = false :=
  (by decide +kernel : ∀ t : Fin grid0.N, ¬cond0_0 (grid0.coords t) → ¬cond0_2 (grid0.coords t) → Pipeline.Window.flushOf grid0 true cc0_transform_8 t = false)
/-- At the points of case E the printed configuration (`Cfg.idle`) calls output 8 idle: the case stores nothing into it. -/
theorem idleAt0_8_E (hO : Ok m) : ∀ t : Fin (cfgM m hO).N, ¬cond0_0 (grid0.coords t) → cond0_2 (grid0.coords t) → (cfgM m hO).idle 8 (grid0.coords t) = true :=
  (by decide +kernel : ∀ t : Fin grid0.N, ¬cond0_0 (grid0.coords t) → cond0_2 (grid0.coords t) → idle0 8 (grid0.coords t) = true)
/-- At the points of case F the printed configuration (`Cfg.idle`) calls output 8 idle: the case stores nothing into it. -/
theorem idleAt0_8_F (hO : Ok m) : ∀ t : Fin (cfgM m hO).N, ¬cond0_0 (grid0.coords t) → cond0_2 (grid0.coords t) → (cfgM m hO).idle 8 (grid0.coords t) = true :=
  (by decide +kernel : ∀ t : Fin grid0.N, ¬cond0_0 (grid0.coords t) → cond0_2 (grid0.coords t) → idle0 8 (grid0.coords t) = true)
/-- At the points of case A the printed configuration (`Cfg.idle`) calls output 9 live: the case stores into it. -/
theorem liveAt0_9_A (hO : Ok m) : ∀ t : Fin (cfgM m hO).N, cond0_0 (grid0.coords t) → ¬cond0_2 (grid0.coords t) → (cfgM m hO).idle 9 (grid0.coords t) = false :=
  (by decide +kernel : ∀ t : Fin grid0.N, cond0_0 (grid0.coords t) → ¬cond0_2 (grid0.coords t) → idle0 9 (grid0.coords t) = false)
/-- At the points of case B the printed configuration (`Cfg.idle`) calls output 9 live: the case stores into it. -/
theorem liveAt0_9_B (hO : Ok m) : ∀ t : Fin (cfgM m hO).N, cond0_0 (grid0.coords t) → ¬cond0_2 (grid0.coords t) → (cfgM m hO).idle 9 (grid0.coords t) = false :=
  (by decide +kernel : ∀ t : Fin grid0.N, cond0_0 (grid0.coords t) → ¬cond0_2 (grid0.coords t) → idle0 9 (grid0.coords t) = false)
/-- At the points of case C the printed configuration (`Cfg.idle`) calls output 9 idle: the case stores nothing into it. -/
theorem idleAt0_9_C (hO : Ok m) : ∀ t : Fin (cfgM m hO).N, ¬cond0_0 (grid0.coords t) → ¬cond0_2 (grid0.coords t) → (cfgM m hO).idle 9 (grid0.coords t) = true :=
  (by decide +kernel : ∀ t : Fin grid0.N, ¬cond0_0 (grid0.coords t) → ¬cond0_2 (grid0.coords t) → idle0 9 (grid0.coords t) = true)
/-- At the points of case C the pipeline does not write output 9's block back. -/
theorem noFlush0_9_C (hO : Ok m) : ∀ t : Fin (cfgM m hO).N, ¬cond0_0 (grid0.coords t) → ¬cond0_2 (grid0.coords t) → ((cfgM m hO).win 9).flush t = false :=
  (by decide +kernel : ∀ t : Fin grid0.N, ¬cond0_0 (grid0.coords t) → ¬cond0_2 (grid0.coords t) → Pipeline.Window.flushOf grid0 true cc0_transform_9 t = false)
/-- At the points of case D the printed configuration (`Cfg.idle`) calls output 9 idle: the case stores nothing into it. -/
theorem idleAt0_9_D (hO : Ok m) : ∀ t : Fin (cfgM m hO).N, ¬cond0_0 (grid0.coords t) → ¬cond0_2 (grid0.coords t) → (cfgM m hO).idle 9 (grid0.coords t) = true :=
  (by decide +kernel : ∀ t : Fin grid0.N, ¬cond0_0 (grid0.coords t) → ¬cond0_2 (grid0.coords t) → idle0 9 (grid0.coords t) = true)
/-- At the points of case D the pipeline does not write output 9's block back. -/
theorem noFlush0_9_D (hO : Ok m) : ∀ t : Fin (cfgM m hO).N, ¬cond0_0 (grid0.coords t) → ¬cond0_2 (grid0.coords t) → ((cfgM m hO).win 9).flush t = false :=
  (by decide +kernel : ∀ t : Fin grid0.N, ¬cond0_0 (grid0.coords t) → ¬cond0_2 (grid0.coords t) → Pipeline.Window.flushOf grid0 true cc0_transform_9 t = false)
/-- At the points of case E the printed configuration (`Cfg.idle`) calls output 9 idle: the case stores nothing into it. -/
theorem idleAt0_9_E (hO : Ok m) : ∀ t : Fin (cfgM m hO).N, ¬cond0_0 (grid0.coords t) → cond0_2 (grid0.coords t) → (cfgM m hO).idle 9 (grid0.coords t) = true :=
  (by decide +kernel : ∀ t : Fin grid0.N, ¬cond0_0 (grid0.coords t) → cond0_2 (grid0.coords t) → idle0 9 (grid0.coords t) = true)
/-- At the points of case F the printed configuration (`Cfg.idle`) calls output 9 idle: the case stores nothing into it. -/
theorem idleAt0_9_F (hO : Ok m) : ∀ t : Fin (cfgM m hO).N, ¬cond0_0 (grid0.coords t) → cond0_2 (grid0.coords t) → (cfgM m hO).idle 9 (grid0.coords t) = true :=
  (by decide +kernel : ∀ t : Fin grid0.N, ¬cond0_0 (grid0.coords t) → cond0_2 (grid0.coords t) → idle0 9 (grid0.coords t) = true)
/-- At the points of case A the printed configuration (`Cfg.idle`) calls output 10 live: the case stores into it. -/
theorem liveAt0_10_A (hO : Ok m) : ∀ t : Fin (cfgM m hO).N, cond0_0 (grid0.coords t) → ¬cond0_2 (grid0.coords t) → (cfgM m hO).idle 10 (grid0.coords t) = false :=
  (by decide +kernel : ∀ t : Fin grid0.N, cond0_0 (grid0.coords t) → ¬cond0_2 (grid0.coords t) → idle0 10 (grid0.coords t) = false)
/-- At the points of case B the printed configuration (`Cfg.idle`) calls output 10 live: the case stores into it. -/
theorem liveAt0_10_B (hO : Ok m) : ∀ t : Fin (cfgM m hO).N, cond0_0 (grid0.coords t) → ¬cond0_2 (grid0.coords t) → (cfgM m hO).idle 10 (grid0.coords t) = false :=
  (by decide +kernel : ∀ t : Fin grid0.N, cond0_0 (grid0.coords t) → ¬cond0_2 (grid0.coords t) → idle0 10 (grid0.coords t) = false)
/-- At the points of case C the printed configuration (`Cfg.idle`) calls output 10 idle: the case stores nothing into it. -/
theorem idleAt0_10_C (hO : Ok m) : ∀ t : Fin (cfgM m hO).N, ¬cond0_0 (grid0.coords t) → ¬cond0_2 (grid0.coords t) → (cfgM m hO).idle 10 (grid0.coords t) = true :=
  (by decide +kernel : ∀ t : Fin grid0.N, ¬cond0_0 (grid0.coords t) → ¬cond0_2 (grid0.coords t) → idle0 10 (grid0.coords t) = true)
/-- At the points of case C the pipeline does not write output 10's block back. -/
theorem noFlush0_10_C (hO : Ok m) : ∀ t : Fin (cfgM m hO).N, ¬cond0_0 (grid0.coords t) → ¬cond0_2 (grid0.coords t) → ((cfgM m hO).win 10).flush t = false :=
  (by decide +kernel : ∀ t : Fin grid0.N, ¬cond0_0 (grid0.coords t) → ¬cond0_2 (grid0.coords t) → Pipeline.Window.flushOf grid0 true cc0_transform_10 t = false)
/-- At the points of case D the printed configuration (`Cfg.idle`) calls output 10 idle: the case stores nothing into it. -/
theorem idleAt0_10_D (hO : Ok m) : ∀ t : Fin (cfgM m hO).N, ¬cond0_0 (grid0.coords t) → ¬cond0_2 (grid0.coords t) → (cfgM m hO).idle 10 (grid0.coords t) = true :=
  (by decide +kernel : ∀ t : Fin grid0.N, ¬cond0_0 (grid0.coords t) → ¬cond0_2 (grid0.coords t) → idle0 10 (grid0.coords t) = true)
/-- At the points of case D the pipeline does not write output 10's block back. -/
theorem noFlush0_10_D (hO : Ok m) : ∀ t : Fin (cfgM m hO).N, ¬cond0_0 (grid0.coords t) → ¬cond0_2 (grid0.coords t) → ((cfgM m hO).win 10).flush t = false :=
  (by decide +kernel : ∀ t : Fin grid0.N, ¬cond0_0 (grid0.coords t) → ¬cond0_2 (grid0.coords t) → Pipeline.Window.flushOf grid0 true cc0_transform_10 t = false)
/-- At the points of case E the printed configuration (`Cfg.idle`) calls output 10 idle: the case stores nothing into it. -/
theorem idleAt0_10_E (hO : Ok m) : ∀ t : Fin (cfgM m hO).N, ¬cond0_0 (grid0.coords t) → cond0_2 (grid0.coords t) → (cfgM m hO).idle 10 (grid0.coords t) = true :=
  (by decide +kernel : ∀ t : Fin grid0.N, ¬cond0_0 (grid0.coords t) → cond0_2 (grid0.coords t) → idle0 10 (grid0.coords t) = true)
/-- At the points of case F the printed configuration (`Cfg.idle`) calls output 10 idle: the case stores nothing into it. -/
theorem idleAt0_10_F (hO : Ok m) : ∀ t : Fin (cfgM m hO).N, ¬cond0_0 (grid0.coords t) → cond0_2 (grid0.coords t) → (cfgM m hO).idle 10 (grid0.coords t) = true :=
  (by decide +kernel : ∀ t : Fin grid0.N, ¬cond0_0 (grid0.coords t) → cond0_2 (grid0.coords t) → idle0 10 (grid0.coords t) = true)
/-- At the points of case A the printed configuration (`Cfg.idle`) calls output 11 live: the case stores into it. -/
theorem liveAt0_11_A (hO : Ok m) : ∀ t : Fin (cfgM m hO).N, cond0_0 (grid0.coords t) → ¬cond0_2 (grid0.coords t) → (cfgM m hO).idle 11 (grid0.coords t) = false :=
  (by decide +kernel : ∀ t : Fin grid0.N, cond0_0 (grid0.coords t) → ¬cond0_2 (grid0.coords t) → idle0 11 (grid0.coords t) = false)
/-- At the points of case B the printed configuration (`Cfg.idle`) calls output 11 live: the case stores into it. -/
theorem liveAt0_11_B (hO : Ok m) : ∀ t : Fin (cfgM m hO).N, cond0_0 (grid0.coords t) → ¬cond0_2 (grid0.coords t) → (cfgM m hO).idle 11 (grid0.coords t) = false :=
  (by decide +kernel : ∀ t : Fin grid0.N, cond0_0 (grid0.coords t) → ¬cond0_2 (grid0.coords t) → idle0 11 (grid0.coords t) = false)
/-- At the points of case C the printed configuration (`Cfg.idle`) calls output 11 idle: the case stores nothing into it. -/
theorem idleAt0_11_C (hO : Ok m) : ∀ t : Fin (cfgM m hO).N, ¬cond0_0 (grid0.coords t) → ¬cond0_2 (grid0.coords t) → (cfgM m hO).idle 11 (grid0.coords t) = true :=
  (by decide +kernel : ∀ t : Fin grid0.N, ¬cond0_0 (grid0.coords t) → ¬cond0_2 (grid0.coords t) → idle0 11 (grid0.coords t) = true)
/-- At the points of case C the pipeline does not write output 11's block back. -/
theorem noFlush0_11_C (hO : Ok m) : ∀ t : Fin (cfgM m hO).N, ¬cond0_0 (grid0.coords t) → ¬cond0_2 (grid0.coords t) → ((cfgM m hO).win 11).flush t = false :=
  (by decide +kernel : ∀ t : Fin grid0.N, ¬cond0_0 (grid0.coords t) → ¬cond0_2 (grid0.coords t) → Pipeline.Window.flushOf grid0 true cc0_transform_11 t = false)
/-- At the points of case D the printed configuration (`Cfg.idle`) calls output 11 idle: the case stores nothing into it. -/
theorem idleAt0_11_D (hO : Ok m) : ∀ t : Fin (cfgM m hO).N, ¬cond0_0 (grid0.coords t) → ¬cond0_2 (grid0.coords t) → (cfgM m hO).idle 11 (grid0.coords t) = true :=
  (by decide +kernel : ∀ t : Fin grid0.N, ¬cond0_0 (grid0.coords t) → ¬cond0_2 (grid0.coords t) → idle0 11 (grid0.coords t) = true)
/-- At the points of case D the pipeline does not write output 11's block back. -/
theorem noFlush0_11_D (hO : Ok m) : ∀ t : Fin (cfgM m hO).N, ¬cond0_0 (grid0.coords t) → ¬cond0_2 (grid0.coords t) → ((cfgM m hO).win 11).flush t = false :=
  (by decide +kernel : ∀ t : Fin grid0.N, ¬cond0_0 (grid0.coords t) → ¬cond0_2 (grid0.coords t) → Pipeline.Window.flushOf grid0 true cc0_transform_11 t = false)
/-- At the points of case E the printed configuration (`Cfg.idle`) calls output 11 idle: the case stores nothing into it. -/
theorem idleAt0_11_E (hO : Ok m) : ∀ t : Fin (cfgM m hO).N, ¬cond0_0 (grid0.coords t) → cond0_2 (grid0.coords t) → (cfgM m hO).idle 11 (grid0.coords t) = true :=
  (by decide +kernel : ∀ t : Fin grid0.N, ¬cond0_0 (grid0.coords t) → cond0_2 (grid0.coords t) → idle0 11 (grid0.coords t) = true)
/-- At the points of case F the printed configuration (`Cfg.idle`) calls output 11 idle: the case stores nothing into it. -/
theorem idleAt0_11_F (hO : Ok m) : ∀ t : Fin (cfgM m hO).N, ¬cond0_0 (grid0.coords t) → cond0_2 (grid0.coords t) → (cfgM m hO).idle 11 (grid0.coords t) = true :=
  (by decide +kernel : ∀ t : Fin grid0.N, ¬cond0_0 (grid0.coords t) → cond0_2 (grid0.coords t) → idle0 11 (grid0.coords t) = true)

/-! ## The kernel body on any staging memrefs: a subtype the run finds -/

/-- One staging buffer of output window 7, through which its contents are stated (`View.read_writes_of_cover`: the
    choice does not matter). -/
abbrev VO0_7 : View sig .tc .vmem S1x4x64x128 .bf16 := (Memref.whole cc0_stg7_0 : Memref sig .tc .vmem S1x4x64x128 .bf16).view
/-- One staging buffer of output window 8, through which its contents are stated (`View.read_writes_of_cover`: the
    choice does not matter). -/
abbrev VO0_8 : View sig .tc .vmem S1x4x16x64 .fp8e4m3 := (Memref.whole cc0_stg8_0 : Memref sig .tc .vmem S1x4x16x64 .fp8e4m3).view
/-- One staging buffer of output window 9, through which its contents are stated (`View.read_writes_of_cover`: the
    choice does not matter). -/
abbrev VO0_9 : View sig .tc .vmem S1x4x16x2 .f32 := (Memref.whole cc0_stg9_0 : Memref sig .tc .vmem S1x4x16x2 .f32).view
/-- One staging buffer of output window 10, through which its contents are stated (`View.read_writes_of_cover`: the
    choice does not matter). -/
abbrev VO0_10 : View sig .tc .vmem S1x4x16x64 .fp8e4m3 := (Memref.whole cc0_stg10_0 : Memref sig .tc .vmem S1x4x16x64 .fp8e4m3).view
/-- One staging buffer of output window 11, through which its contents are stated (`View.read_writes_of_cover`: the
    choice does not matter). -/
abbrev VO0_11 : View sig .tc .vmem S1x4x16x2 .f32 := (Memref.whole cc0_stg11_0 : Memref sig .tc .vmem S1x4x16x2 .f32).view
/-- Each window's current staging memref at point `t`, spelled as the pipeline passes it (`bodyAt0`), and its wholeness. -/
abbrev ms0_0 (hO : Ok m) (t : Fin (cfgM m hO).N) : Memref sig .tc .vmem S1x4x64x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x16x64 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4x16x64 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x16x64x1024 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x16x2x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x16x64x1024 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x16x2x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4x64x128 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x4x16x64 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x4x16x2 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x4x16x64 .fp8e4m3 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x4x16x2 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S16x32x64 .bf16 := Memref.whole cc0_scratch0
abbrev scM0_1 : Memref sig .tc .vmem S16x32x64 .f32 := Memref.whole cc0_scratch1
abbrev scM0_2 : Memref sig .tc .vmem S16x32x128 .f32 := Memref.whole cc0_scratch2
abbrev scM0_3 : Memref sig .tc .vmem S16x32x128 .f32 := Memref.whole cc0_scratch3
/-- The scratch `arg15` the kernel carries between points, as a view: what it holds is stated through it. -/
abbrev VS0_0 : View sig .tc .vmem S16x32x64 .bf16 := scM0_0.view
/-- The scratch `arg16` the kernel carries between points, as a view: what it holds is stated through it. -/
abbrev VS0_1 : View sig .tc .vmem S16x32x64 .f32 := scM0_1.view
/-- The scratch `arg17` the kernel carries between points, as a view: what it holds is stated through it. -/
abbrev VS0_2 : View sig .tc .vmem S16x32x128 .f32 := scM0_2.view
/-- The scratch `arg18` the kernel carries between points, as a view: what it holds is stated through it. -/
abbrev VS0_3 : View sig .tc .vmem S16x32x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.KI.Parts.lean ====
module

public import proofs.«01_k».proof.Proof.KI.Runs

/-! The kernel body as its three conditional blocks in sequence: the block of a row's first point (quantise, set the
queries, attend to the new positions), the block of a point whose chunk holds cached positions, and the block of a row's
last point (normalise and write the result). -/

@[expose] public section

set_option maxRecDepth 65536

noncomputable section

namespace Cert.KernelIdeal.Hand

open Cert.KernelIdeal.Gen
open Idealize.ShloMosaic Idealize.SL.Sem

variable {F : FTy → Type} [FloatOps F] [Named F]

/-- The block of a row's first point. Then `k`. -/
def firstBlock (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)
    (k : Prog (TpuEff nD τ sig (Elt F) Λ₀ .tc) PUnit) : Prog (TpuEff nD τ sig (Elt F) Λ₀ .tc) PUnit := do
  k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let ⟨v43, v44, v49, v78, v80, v82⟩ : Σ' (v43 : FVec F S64x64 .f32) (v44 : FVec F S64x32 .f32) (v49 : FVec F S64x1 .f32) (v78 : IVec S64x1 32) (v80 : IVec S64x1 32), IVec S64x1 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  let ⟨v117, v126, v127⟩ : Σ' (v117 : FVec F S64x1 .f32) (v126 : FVec F S64x32 .f32), FVec F S64x32 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v44 v49 v78 v80 v82
  let ⟨v128, v129, v134, v170, v172, c23_i32_58⟩ : Σ' (v128 : FVec F S64x32 .f32) (v129 : FVec F S64x32 .f32) (v134 : FVec F S64x1 .f32) (v170 : IVec S64x1 32) (v172 : IVec S64x1 32), BitVec 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v43 v126 v127
  let ⟨v202, v215, v216⟩ : Σ' (v202 : FVec F S64x1 .f32) (v215 : FVec F S64x64 .fp8e4m3), FVec F S4x16x64 .fp8e4m3 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v128 v129 v134 v170 v172 c23_i32_58
  let ⟨v233, v237, v238, v243, v258⟩ : Σ' (v233 : FVec F S4x16x64 .f32) (v237 : FVec F S64x64 .f32) (v238 : FVec F S64x32 .f32) (v243 : FVec F S64x1 .f32), IVec S64x1 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v117 v202 v215 v216
  let ⟨v302, v304⟩ : Σ' (v302 : IVec S64x1 1), IVec S64x1 32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v243 v258
  let ⟨v311, v322, v323, v328, v343, v345, v348⟩ : Σ' (v311 : FVec F S64x1 .f32) (v322 : FVec F S64x32 .f32) (v323 : FVec F S64x32 .f32) (v328 : FVec F S64x1 .f32) (v343 : IVec S64x1 32) (v345 : IVec S64x1 32), FVec F S64x1 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v237 v238 v302 v304
  let ⟨v391, v393, c23_i32_135⟩ : Σ' (v391 : IVec S64x1 32) (v393 : IVec S64x1 32), BitVec 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v328 v343 v345 v348
  let ⟨v427, v428, c8_i32_148, v430, v433, v436⟩ : Σ' (v427 : FVec F S4x16x64 .f32) (v428 : IVec S32x4 32) (c8_i32_148 : BitVec 32) (v430 : IVec S32x4 32) (v433 : IVec S32x4 32), IVec S32x4 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v311 v322 v323 v391 v393 c23_i32_135
  let ⟨v452, v453, v459, v472, v480⟩ : Σ' (v452 : IVec S32x4 32) (v453 : IVec S32x4 32) (v459 : FVec F S4x64 .bf16) (v472 : FVec F S32x4 .f32), FVec F S32x1 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v428 c8_i32_148 v430 v433 v436
  let ⟨v495, v508, v517⟩ : Σ' (v495 : FVec F S4x64 .bf16) (v508 : FVec F S32x4 .f32), FVec F S32x128 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v459 v472 v480
  let ⟨v531, v544, v553⟩ : Σ' (v531 : FVec F S4x64 .bf16) (v544 : FVec F S32x4 .f32), FVec F S32x128 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v495 v508 v517
  let ⟨v567, v593⟩ : Σ' (v567 : FVec F S4x64 .bf16), FVec F S32x4 .bf16 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v531 v544 v553
  let v630 : FVec F S32x64 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v567 v593
  let ⟨v666, v667⟩ : Σ' (v666 : FVec F S32x64 .f32), Vec F S1x32x64 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v630
  k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v666 v667
  let v744 : FVec F S4x64 .bf16 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453
  let ⟨v780, v783⟩ : Σ' (v780 : FVec F S4x64 .bf16), FVec F S4x64 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v744
  let ⟨v816, v819⟩ : Σ' (v816 : FVec F S4x64 .bf16), FVec F S4x64 .bf16 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v780 v783
  let ⟨v852, v855, v857, cst_349⟩ : Σ' (v852 : FVec F S4x64 .bf16) (v855 : FVec F S4x64 .bf16) (v857 : FVec F S32x64 .bf16), FVec F S32x4 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v816 v819
  let ⟨v891, v894, v895⟩ : Σ' (v891 : FVec F S4x64 .bf16) (v894 : FVec F S32x4 .f32), FVec F S32x4 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v852 v855 v857 cst_349
  let ⟨v927, v932, v933, cst_385⟩ : Σ' (v927 : FVec F S4x64 .bf16) (v932 : FVec F S32x4 .f32) (v933 : IVec S32x4 1), F .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v891 v894 v895
  let ⟨v963, v971⟩ : Σ' (v963 : FVec F S4x64 .bf16), FVec F S32x4 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v927 v932 v933 cst_385
  let ⟨v999, v1007, v1009, v1010⟩ : Σ' (v999 : FVec F S4x64 .bf16) (v1007 : FVec F S32x4 .f32) (v1009 : FVec F S32x1 .f32), FVec F S32x4 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v233 v427 v452 v453 v963 v971
  let v1015 : Vec F S1x32x128 .f32 ← Prog.lift (.load arg17 (Rect.unit (s := S16x32x128) ![15, 0, 0] S1x32x128.size inb_S16x32x128_S1x32x128_15_0_0).toLoadRect (View.loadsAt_vmem h_S1x32x128))
  Prog.lift (.store arg17 (Rect.unit (s := S16x32x128) ![15, 0, 0] S1x32x128.size inb_S16x32x128_S1x32x128_15_0_0) (k0_pay2 v1009) Finset.univ (View.stores_vmem_bits_univ h_S1x32x128 rfl) (.inl rfl))
  let v1022 : Vec F S1x32x128 .f32 ← Prog.lift (.load arg18 (Rect.unit (s := S16x32x128) ![15, 0, 0] S1x32x128.size inb_S16x32x128_S1x32x128_15_0_0).toLoadRect (View.loadsAt_vmem h_S1x32x128))
  Prog.lift (.store arg18 (Rect.unit (s := S16x32x128) ![15, 0, 0] S1x32x128.size inb_S16x32x128_S1x32x128_15_0_0) (k0_pay3 v1007 v1010) Finset.univ (View.stores_vmem_bits_univ h_S1x32x128 rfl) (.inl rfl))
  let v1027 : Vec F S1x32x64 .f32 ← Prog.lift (.load arg16 (Rect.unit (s := S16x32x64) ![15, 0, 0] S1x32x64.size inb_S16x32x64_S1x32x64_15_0_0).toLoadRect (View.loadsAt_vmem h_S1x32x64))
  Prog.lift (.store arg16 (Rect.unit (s := S16x32x64) ![15, 0, 0] S1x32x64.size inb_S16x32x64_S1x32x64_15_0_0) (k0_pay4 v999 v1007 v1010) Finset.univ (View.stores_vmem_bits_univ h_S1x32x64 rfl) (.inl rfl))
  k

/-- The block of a point with cached positions; `v1` is the row's cache length. Then `k`. -/
def chunkBlock (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole) (v1 : Elt F .i32)
    (k : Prog (TpuEff nD τ sig (Elt F) Λ₀ .tc) PUnit) : Prog (TpuEff nD τ sig (Elt F) Λ₀ .tc) PUnit := do
  let ⟨v1293, v1305, v1331⟩ : Σ' (v1293 : FVec F S32x1 .f32) (v1305 : FVec F S32x1 .f32), FVec F S32x64 .f32 ← k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) v1
  let v1332 : Vec F S1x32x64 .f32 ← Prog.lift (.load arg16 (Rect.unit (s := S16x32x64) ![15, 0, 0] S1x32x64.size inb_S16x32x64_S1x32x64_15_0_0).toLoadRect (View.loadsAt_vmem h_S1x32x64))
  Prog.lift (.store arg16 (Rect.unit (s := S16x32x64) ![15, 0, 0] S1x32x64.size inb_S16x32x64_S1x32x64_15_0_0) (k0_pay5 v1331) Finset.univ (View.stores_vmem_bits_univ h_S1x32x64 rfl) (.inl rfl))
  let v1337 : Vec F S1x32x128 .f32 ← Prog.lift (.load arg17 (Rect.unit (s := S16x32x128) ![15, 0, 0] S1x32x128.size inb_S16x32x128_S1x32x128_15_0_0).toLoadRect (View.loadsAt_vmem h_S1x32x128))
  Prog.lift (.store arg17 (Rect.unit (s := S16x32x128) ![15, 0, 0] S1x32x128.size inb_S16x32x128_S1x32x128_15_0_0) (k0_pay6 v1293) Finset.univ (View.stores_vmem_bits_univ h_S1x32x128 rfl) (.inl rfl))
  let v1342 : Vec F S1x32x128 .f32 ← Prog.lift (.load arg18 (Rect.unit (s := S16x32x128) ![15, 0, 0] S1x32x128.size inb_S16x32x128_S1x32x128_15_0_0).toLoadRect (View.loadsAt_vmem h_S1x32x128))
  Prog.lift (.store arg18 (Rect.unit (s := S16x32x128) ![15, 0, 0] S1x32x128.size inb_S16x32x128_S1x32x128_15_0_0) (k0_pay7 v1305) Finset.univ (View.stores_vmem_bits_univ h_S1x32x128 rfl) (.inl rfl))
  k

/-- The block of a row's last point. Then `k`. -/
def lastBlock (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)
    (k : Prog (TpuEff nD τ sig (Elt F) Λ₀ .tc) PUnit) : Prog (TpuEff nD τ sig (Elt F) Λ₀ .tc) PUnit := do
  let ⟨v38, v39⟩ : Σ' (v38 : FVec F S64x128 .bf16), Vec F S1x1x64x128 .bf16 ← k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  Prog.lift (.store arg10 (Rect.unit (s := S1x4x64x128) ![0, 2, 0, 0] S1x1x64x128.size inb_S1x4x64x128_S1x1x64x128_0_2_0_0) (k0_pay8 v38) Finset.univ (View.stores_vmem h_S1x1x64x128 (harg10.storeExact_slice rfl _ packedbf16_S1x4x64x128_S1x1x64x128_0_2_0_0) (fun _ => rfl)) (.inl rfl))
  let v42 : Vec F S16x8x64 .f32 ← Prog.lift (.load arg16 (Rect.unit (s := S16x32x64) ![0, 24, 0] S16x8x64.size inb_S16x32x64_S16x8x64_0_24_0).toLoadRect (View.loadsAt_vmem h_S16x8x64))
  let v43 : Vec F S16x8x1 .f32 ← Prog.lift (.load arg18 (Rect.unit (s := S16x32x128) ![0, 24, 0] S16x8x1.size inb_S16x32x128_S16x8x1_0_24_0).toLoadRect (View.loadsAt_vmem h_S16x8x1))
  let v49 : Vec F S1x1x64x128 .bf16 ← Prog.lift (.load arg10 (Rect.unit (s := S1x4x64x128) ![0, 3, 0, 0] S1x1x64x128.size inb_S1x4x64x128_S1x1x64x128_0_3_0_0).toLoadRect (View.loadsAt_vmem h_S1x1x64x128))
  Prog.lift (.store arg10 (Rect.unit (s := S1x4x64x128) ![0, 3, 0, 0] S1x1x64x128.size inb_S1x4x64x128_S1x1x64x128_0_3_0_0) (k0_pay9 v42 v43) Finset.univ (View.stores_vmem h_S1x1x64x128 (harg10.storeExact_slice rfl _ packedbf16_S1x4x64x128_S1x1x64x128_0_3_0_0) (fun _ => rfl)) (.inl rfl))
  k

/-- What follows the first two blocks. -/
def afterChunk (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole) :
    Prog (TpuEff nD τ sig (Elt F) Λ₀ .tc) PUnit :=
  if k0_cond3 i = 1#1 then
    lastBlock i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 (pure
      ⟨⟩)
  else pure ⟨⟩

/-- What follows the first block. -/
def afterFirst (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole) (v1 : Elt F .i32) :
    Prog (TpuEff nD τ sig (Elt F) Λ₀ .tc) PUnit :=
  if cond0_1 i v1 then
    chunkBlock i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 v1
      (afterChunk (F := F) i arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18)
  else
    afterChunk i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18

/-- What follows the load of the row's cache length. -/
def afterLoad (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole) (v1 : Elt F .i32) :
    Prog (TpuEff nD τ sig (Elt F) Λ₀ .tc) PUnit :=
  if k0_cond1 i = 1#1 then
    firstBlock i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18
      (afterFirst (F := F) i arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18
        harg18 v1)
  else
    afterFirst i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 v1

/-- The body is the load of the cache length and then the three blocks. -/
theorem body_blocks (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole) :
    cc0_decode_attn i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18
      = ((smemLoad arg2 (Rect.unit (s := S17) (k0_off1 i) S1.size (k0_off1_inb i)) numel1_S1 rfl : Prog (TpuEff nD τ sig (Elt F) Λ₀ .tc) (Elt F .i32)) >>=
        afterLoad (F := F) i arg2 harg2 arg3 harg3 arg4 harg4 arg5 harg5 arg6 harg6 arg7 harg7 arg8 harg8 arg9 harg9
          arg10 harg10 arg11 harg11 arg12 harg12 arg13 harg13 arg14 harg14 arg15 harg15 arg16 harg16 arg17 harg17
          arg18 harg18) := by
  rw [cc0_decode_attn_eq_skeleton]
  rfl

end Cert.KernelIdeal.Hand

end
-- ==== Proof.KI.RunFirst.lean ====
module

public import proofs.«01_k».proof.Proof.KI.Parts

/-! The run of the block of a row's first point. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)

set_option maxHeartbeats 3000000 in
/-- What the first block's stores leave in the code and scale outputs and in the four scratches, as pieces (last first), with
    the proof that the block runs from the input blocks `x0 x1 x2` to `k`; the pieces are the witness the run finds. -/
def runFirst
    (x0 : Vec F S1x4x64x128 .bf16) (x1 : Vec F S1x4x16x64 .bf16) (x2 : Vec F S1x4x16x64 .bf16) :
    Σ' (L11 : List (View.Piece (Elt F) S1x4x16x64 .fp8e4m3)), Σ' (L12 : List (View.Piece (Elt F) S1x4x16x2 .f32)), Σ'
      (L13 : List (View.Piece (Elt F) S1x4x16x64 .fp8e4m3)), Σ' (L14 : List (View.Piece (Elt F) S1x4x16x2 .f32)), Σ'
      (L15 : List (View.Piece (Elt F) S16x32x64 .bf16)), Σ' (L16 : List (View.Piece (Elt F) S16x32x64 .f32)), Σ' (L17
      : List (View.Piece (Elt F) S16x32x128 .f32)),{ L18 : List (View.Piece (Elt F) S16x32x128 .f32) //
      ∀ (E : Set ℕ) (k : Prog (TpuEff nD τ sig (Elt F) Λ₀ .tc) PUnit) (K : PUnit → sProp 𝕄),
        iprop(owns (c : Thread nD τ) arg3 fullShare x0
          ∗ owns (c : Thread nD τ) arg4 fullShare x1
          ∗ owns (c : Thread nD τ) arg5 fullShare x2
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (iprop(owns (c : Thread nD τ) arg3 fullShare x0
              ∗ owns (c : Thread nD τ) arg4 fullShare x1
              ∗ owns (c : Thread nD τ) arg5 fullShare x2
              ∗ (∃ f, arg11.view.loc (c : Thread nD τ) ↦[arg11.view.set]{fullShare} arg11.view.writes (Elt F) f L11)
              ∗ (∃ f, arg12.view.loc (c : Thread nD τ) ↦[arg12.view.set]{fullShare} arg12.view.writes (Elt F) f L12)
              ∗ (∃ f, arg13.view.loc (c : Thread nD τ) ↦[arg13.view.set]{fullShare} arg13.view.writes (Elt F) f L13)
              ∗ (∃ f, arg14.view.loc (c : Thread nD τ) ↦[arg14.view.set]{fullShare} arg14.view.writes (Elt F) f L14)
              ∗ (∃ f, arg15.view.loc (c : Thread nD τ) ↦[arg15.view.set]{fullShare} arg15.view.writes (Elt F) f L15)
              ∗ (∃ f, arg16.view.loc (c : Thread nD τ) ↦[arg16.view.set]{fullShare} arg16.view.writes (Elt F) f L16)
              ∗ (∃ f, arg17.view.loc (c : Thread nD τ) ↦[arg17.view.set]{fullShare} arg17.view.writes (Elt F) f L17)
              ∗ (∃ f, arg18.view.loc (c : Thread nD τ) ↦[arg18.view.set]{fullShare} arg18.view.writes (Elt F) f L18))
            -∗ wp frame (wpE (defs₀ (F := F)) Variants.none c none) E k K))
        ⊢ wp frame (wpE (defs₀ (F := F)) Variants.none c none) E
          (firstBlock i arg2 harg2 arg3 harg3 arg4 harg4 arg5 harg5 arg6 harg6 arg7 harg7 arg8 harg8 arg9 harg9 arg10
            harg10 arg11 harg11 arg12 harg12 arg13 harg13 arg14 harg14 arg15 harg15 arg16 harg16 arg17 harg17 arg18
            harg18 k) K } := by
  refine ⟨?_, ?_, ?_, ?_, ?_, ?_, ?_, ?_, fun E k K => ?run⟩
  case run =>
    unfold firstBlock
    simp only [k0_part1_eq_skeleton, k0_part2_eq_skeleton, k0_part3_eq_skeleton, k0_part4_eq_skeleton, k0_part5_eq_skeleton,
        k0_part6_eq_skeleton, k0_part7_eq_skeleton, k0_part8_eq_skeleton, k0_part9_eq_skeleton, k0_part10_eq_skeleton,
        k0_part11_eq_skeleton, k0_part12_eq_skeleton, k0_part13_eq_skeleton, k0_part14_eq_skeleton,
        k0_part15_eq_skeleton, k0_part16_eq_skeleton, k0_part17_eq_skeleton, k0_part18_eq_skeleton,
        k0_part19_eq_skeleton, k0_part20_eq_skeleton, k0_part21_eq_skeleton, k0_part22_eq_skeleton,
        k0_part23_eq_skeleton, k0_part24_eq_skeleton, k0_part25_eq_skeleton]
    unfold owns
    iintro ⟨⟨%f3, %hf3, H3⟩, ⟨%f4, %hf4, H4⟩, ⟨%f5, %hf5, H5⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg3.eq_unread hf3
    obtain rfl := harg4.eq_unread hf4
    obtain rfl := harg5.eq_unread hf5
    sl_exec
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.KernelIdeal.Hand

end
-- ==== Proof.KI.RunChunk.lean ====
module

public import proofs.«01_k».proof.Proof.KI.Parts

/-! The run of the block of a point with cached positions. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)

set_option maxHeartbeats 3000000 in
/-- What the chunk block's stores leave in the accumulator, the running maximum and the running denominator, as pieces (last
    first), with the proof that the block runs from the four cache blocks `x3 … x6`, the queries `xs0` and the carried
    contents `xs1 xs2 xs3` to `k`; the pieces are the witness the run finds. -/
def runChunk
    (x3 : Vec F S1x16x64x1024 .fp8e4m3) (x4 : Vec F S1x16x2x1024 .f32) (x5 : Vec F S1x16x64x1024 .fp8e4m3)
    (x6 : Vec F S1x16x2x1024 .f32) (xs0 : Vec F S16x32x64 .bf16) (xs1 : Vec F S16x32x64 .f32)
    (xs2 : Vec F S16x32x128 .f32) (xs3 : Vec F S16x32x128 .f32) (v1 : Elt F .i32) :
    Σ' (L16 : List (View.Piece (Elt F) S16x32x64 .f32)), Σ' (L17 : List (View.Piece (Elt F) S16x32x128 .f32)),{ L18 : List (View.Piece (Elt F) S16x32x128 .f32) //
      ∀ (E : Set ℕ) (k : Prog (TpuEff nD τ sig (Elt F) Λ₀ .tc) PUnit) (K : PUnit → sProp 𝕄),
        iprop(owns (c : Thread nD τ) arg6 fullShare x3
          ∗ owns (c : Thread nD τ) arg7 fullShare x4
          ∗ owns (c : Thread nD τ) arg8 fullShare x5
          ∗ owns (c : Thread nD τ) arg9 fullShare x6
          ∗ owns (c : Thread nD τ) arg15 fullShare xs0
          ∗ owns (c : Thread nD τ) arg16 fullShare xs1
          ∗ owns (c : Thread nD τ) arg17 fullShare xs2
          ∗ owns (c : Thread nD τ) arg18 fullShare xs3
          ∗ (iprop(owns (c : Thread nD τ) arg6 fullShare x3
              ∗ owns (c : Thread nD τ) arg7 fullShare x4
              ∗ owns (c : Thread nD τ) arg8 fullShare x5
              ∗ owns (c : Thread nD τ) arg9 fullShare x6
              ∗ owns (c : Thread nD τ) arg15 fullShare xs0
              ∗ (∃ f, arg16.view.loc (c : Thread nD τ) ↦[arg16.view.set]{fullShare} arg16.view.writes (Elt F) f L16)
              ∗ (∃ f, arg17.view.loc (c : Thread nD τ) ↦[arg17.view.set]{fullShare} arg17.view.writes (Elt F) f L17)
              ∗ (∃ f, arg18.view.loc (c : Thread nD τ) ↦[arg18.view.set]{fullShare} arg18.view.writes (Elt F) f L18))
            -∗ wp frame (wpE (defs₀ (F := F)) Variants.none c none) E k K))
        ⊢ wp frame (wpE (defs₀ (F := F)) Variants.none c none) E
          (chunkBlock i arg2 harg2 arg3 harg3 arg4 harg4 arg5 harg5 arg6 harg6 arg7 harg7 arg8 harg8 arg9 harg9 arg10
            harg10 arg11 harg11 arg12 harg12 arg13 harg13 arg14 harg14 arg15 harg15 arg16 harg16 arg17 harg17 arg18
            harg18 v1 k) K } := by
  refine ⟨?_, ?_, ?_, fun E k K => ?run⟩
  case run =>
    unfold chunkBlock
    simp only [k0_part26_eq_skeleton, k0_part27_eq_skeleton, k0_part28_eq_skeleton, k0_part29_eq_skeleton,
        k0_part30_eq_skeleton, k0_part31_eq_skeleton, k0_part32_eq_skeleton, k0_part33_eq_skeleton,
        k0_part34_eq_skeleton, k0_part35_eq_skeleton, k0_part36_eq_skeleton, k0_part37_eq_skeleton,
        k0_part38_eq_skeleton, k0_part39_eq_skeleton, k0_part40_eq_skeleton, k0_part41_eq_skeleton,
        k0_part42_eq_skeleton, k0_part43_eq_skeleton, k0_part44_eq_skeleton, k0_part45_eq_skeleton,
        k0_part46_eq_skeleton, k0_part47_eq_skeleton, k0_part48_eq_skeleton, k0_part49_eq_skeleton,
        k0_part50_eq_skeleton, k0_part51_eq_skeleton, k0_part52_eq_skeleton, k0_part53_eq_skeleton,
        k0_part54_eq_skeleton, k0_part55_eq_skeleton, k0_part56_eq_skeleton, k0_part57_eq_skeleton,
        k0_part58_eq_skeleton, k0_part59_eq_skeleton, k0_part60_eq_skeleton, k0_part61_eq_skeleton,
        k0_part62_eq_skeleton, k0_part63_eq_skeleton, k0_part64_eq_skeleton]
    unfold owns
    iintro ⟨⟨%f6, %hf6, H6⟩, ⟨%f7, %hf7, H7⟩, ⟨%f8, %hf8, H8⟩, ⟨%f9, %hf9, H9⟩, ⟨%f15, %hf15, H15⟩, ⟨%f16, %hf16, H16⟩, ⟨%f17, %hf17, H17⟩, ⟨%f18, %hf18, H18⟩, Hk⟩
    obtain rfl := harg6.eq_unread hf6
    obtain rfl := harg7.eq_unread hf7
    obtain rfl := harg8.eq_unread hf8
    obtain rfl := harg9.eq_unread hf9
    obtain rfl := harg15.eq_unread hf15
    obtain rfl := harg16.eq_unread hf16
    obtain rfl := harg17.eq_unread hf17
    obtain rfl := harg18.eq_unread hf18
    sl_exec
    iapply Hk
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H15]
    · iexists _; isplitr; · ipureintro; exact harg15.read_unread _
      iexact H15
    isplitl [H16]; · iexists _; iexact H16
    isplitl [H17]; · iexists _; iexact H17
    iexists _; iexact H18

end Cert.KernelIdeal.Hand

end
-- ==== Proof.KI.RunLast.lean ====
module

public import proofs.«01_k».proof.Proof.KI.Parts

/-! The run of the block of a row's last point. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)

set_option maxHeartbeats 3000000 in
/-- What the last block's stores leave in the output block, as pieces (last first), with the proof that the block runs from
    the accumulator `xs1` and the denominator `xs3` to `k`; the pieces are the witness the run finds. -/
def runLast
    (xs1 : Vec F S16x32x64 .f32) (xs3 : Vec F S16x32x128 .f32) :
{ L10 : List (View.Piece (Elt F) S1x4x64x128 .bf16) //
      ∀ (E : Set ℕ) (k : Prog (TpuEff nD τ sig (Elt F) Λ₀ .tc) PUnit) (K : PUnit → sProp 𝕄),
        iprop((∃ d, owns (c : Thread nD τ) arg10 fullShare d)
          ∗ owns (c : Thread nD τ) arg16 fullShare xs1
          ∗ owns (c : Thread nD τ) arg18 fullShare xs3
          ∗ (iprop((∃ f, arg10.view.loc (c : Thread nD τ) ↦[arg10.view.set]{fullShare} arg10.view.writes (Elt F) f L10)
              ∗ owns (c : Thread nD τ) arg16 fullShare xs1
              ∗ owns (c : Thread nD τ) arg18 fullShare xs3)
            -∗ wp frame (wpE (defs₀ (F := F)) Variants.none c none) E k K))
        ⊢ wp frame (wpE (defs₀ (F := F)) Variants.none c none) E
          (lastBlock i arg2 harg2 arg3 harg3 arg4 harg4 arg5 harg5 arg6 harg6 arg7 harg7 arg8 harg8 arg9 harg9 arg10
            harg10 arg11 harg11 arg12 harg12 arg13 harg13 arg14 harg14 arg15 harg15 arg16 harg16 arg17 harg17 arg18
            harg18 k) K } := by
  refine ⟨?_, fun E k K => ?run⟩
  case run =>
    unfold lastBlock
    simp only [k0_part65_eq_skeleton]
    unfold owns
    iintro ⟨⟨%d10, %f10, -, H10⟩, ⟨%f16, %hf16, H16⟩, ⟨%f18, %hf18, H18⟩, Hk⟩
    obtain rfl := harg16.eq_unread hf16
    obtain rfl := harg18.eq_unread hf18
    sl_exec
    iapply Hk
    isplitl [H10]; · iexists _; iexact H10
    isplitl [H16]
    · iexists _; isplitr; · ipureintro; exact harg16.read_unread _
      iexact H16
    iexists _; isplitr; · ipureintro; exact harg18.read_unread _
    iexact H18

end Cert.KernelIdeal.Hand

end
-- ==== Proof.KI.AnyFloats.lean ====
module

public import proofs.«01_k».proof.Proof.KI.Runs
public import proofs.«01_k».proof.Proof.KI.RunFirst
public import proofs.«01_k».proof.Proof.KI.RunChunk
public import proofs.«01_k».proof.Proof.KI.RunLast
public import Idealize.ShloMosaic.Lib.Claim

/-! The run of the kernel over any floats, saying nothing of what it computes: it terminates, leaves the arguments as they
were and every counter at zero. Each block runs from any contents of the buffers it writes and leaves them at some contents,
so the invariant between points names none. -/

@[expose] public section

set_option maxRecDepth 16384

noncomputable section

namespace Cert.KernelIdeal.Loose

open Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A buffer that was written holds something. -/
theorem owns_any {s : Shape} {e : EltTy} (c : Dev nD) (M : Memref sig .tc .vmem s e) (L : List (View.Piece (Elt F) s e)) :
    iprop(∃ f, M.view.loc (c : Thread nD τ) ↦[M.view.set]{fullShare} M.view.writes (Elt F) f L)
      ⊢ (iprop(∃ d, owns (c : Thread nD τ) M fullShare d) : sProp 𝕄) := by
  iintro ⟨%f, H⟩
  unfold owns
  iexists _
  iexists _
  isplitr
  swap
  · iexact H
  ipureintro
  rfl

section Blocks

variable (c : Dev nD) (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)

/-- The carried buffers at some contents. -/
abbrev carriedAny : sProp 𝕄 :=
  iprop((∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))

/-- The chunk of a point, run or passed over. -/
theorem chunk_any (n : BitVec 32) (x3 : Vec F S1x16x64x1024 .fp8e4m3) (x4 : Vec F S1x16x2x1024 .f32) (x5 : Vec F S1x16x64x1024 .fp8e4m3)
    (x6 : Vec F S1x16x2x1024 .f32) (E : Set ℕ) (K : PUnit → sProp 𝕄) :
    iprop(owns (c : Thread nD τ) arg6 fullShare x3 ∗ owns (c : Thread nD τ) arg7 fullShare x4 ∗ owns (c : Thread nD τ) arg8 fullShare x5 ∗ owns (c : Thread nD τ) arg9 fullShare x6 ∗ carriedAny c arg15 arg16 arg17 arg18
      ∗ (iprop(owns (c : Thread nD τ) arg6 fullShare x3 ∗ owns (c : Thread nD τ) arg7 fullShare x4 ∗ owns (c : Thread nD τ) arg8 fullShare x5 ∗ owns (c : Thread nD τ) arg9 fullShare x6 ∗ carriedAny c arg15 arg16 arg17 arg18)
        -∗ wp frame (wpE (defs₀ (F := F)) Variants.none c none) E (afterChunk (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K))
      ⊢ wp frame (wpE (defs₀ (F := F)) Variants.none c none) E (afterFirst (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n) K := by
  unfold carriedAny afterFirst
  split
  · iintro ⟨H6, H7, H8, H9, ⟨⟨%d15, H15⟩, ⟨%d16, H16⟩, ⟨%d17, H17⟩, ⟨%d18, H18⟩⟩, Hk⟩
    iapply (runChunk (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 d15 d16 d17 d18 n).2.2.2 E _ K
    isplitl [H6]; · iexact H6
    isplitl [H7]; · iexact H7
    isplitl [H8]; · iexact H8
    isplitl [H9]; · iexact H9
    isplitl [H15]; · iexact H15
    isplitl [H16]; · iexact H16
    isplitl [H17]; · iexact H17
    isplitl [H18]; · iexact H18
    iintro ⟨H6, H7, H8, H9, H15, H16, H17, H18⟩
    iapply Hk
    isplitl [H6]; · iexact H6
    isplitl [H7]; · iexact H7
    isplitl [H8]; · iexact H8
    isplitl [H9]; · iexact H9
    isplitl [H15]; · iexists _; iexact H15
    isplitl [H16]; · iapply (owns_any c arg16 _); iexact H16
    isplitl [H17]; · iapply (owns_any c arg17 _); iexact H17
    iapply (owns_any c arg18 _); iexact H18
  · iintro ⟨H6, H7, H8, H9, HC, Hk⟩
    iapply Hk
    isplitl [H6]; · iexact H6
    isplitl [H7]; · iexact H7
    isplitl [H8]; · iexact H8
    isplitl [H9]; · iexact H9
    iexact HC

/-- The end of a point: the division at a row's last point, nothing at the others. -/
theorem last_any (E : Set ℕ) (K : PUnit → sProp 𝕄) :
    iprop((∃ d, owns (c : Thread nD τ) arg10 fullShare d) ∗ carriedAny c arg15 arg16 arg17 arg18
      ∗ (iprop((∃ d, owns (c : Thread nD τ) arg10 fullShare d) ∗ carriedAny c arg15 arg16 arg17 arg18) -∗ K ⟨⟩))
      ⊢ wp frame (wpE (defs₀ (F := F)) Variants.none c none) E (afterChunk (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold carriedAny afterChunk
  split
  · iintro ⟨H10, ⟨H15, ⟨%d16, H16⟩, H17, ⟨%d18, H18⟩⟩, Hk⟩
    iapply (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 d16 d18).2 E _ K
    isplitl [H10]; · iexact H10
    isplitl [H16]; · iexact H16
    isplitl [H18]; · iexact H18
    iintro ⟨H10, H16, H18⟩
    rw [wp_pure]
    imodintro
    iapply Hk
    isplitl [H10]; · iapply (owns_any c arg10 _); iexact H10
    isplitl [H15]; · iexact H15
    isplitl [H16]; · iexists _; iexact H16
    isplitl [H17]; · iexact H17
    iexists _; iexact H18
  · rw [wp_pure]
    iintro ⟨H10, HC, Hk⟩
    imodintro
    iapply Hk
    isplitl [H10]; · iexact H10
    iexact HC

/-- The start of a point: the first block at a row's first point, nothing at the others. -/
theorem first_any (n : BitVec 32) (x0 : Vec F S1x4x64x128 .bf16) (x1 x2 : Vec F S1x4x16x64 .bf16) (E : Set ℕ) (K : PUnit → sProp 𝕄) :
    iprop(owns (c : Thread nD τ) arg3 fullShare x0 ∗ owns (c : Thread nD τ) arg4 fullShare x1 ∗ owns (c : Thread nD τ) arg5 fullShare x2
      ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ carriedAny c arg15 arg16 arg17 arg18
      ∗ (iprop(owns (c : Thread nD τ) arg3 fullShare x0 ∗ owns (c : Thread nD τ) arg4 fullShare x1 ∗ owns (c : Thread nD τ) arg5 fullShare x2
          ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ carriedAny c arg15 arg16 arg17 arg18)
        -∗ wp frame (wpE (defs₀ (F := F)) Variants.none c none) E (afterFirst (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n) K))
      ⊢ wp frame (wpE (defs₀ (F := F)) Variants.none c none) E (afterLoad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n) K := by
  unfold carriedAny afterLoad
  split
  · iintro ⟨H3, H4, H5, H11, H12, H13, H14, ⟨H15, H16, H17, H18⟩, Hk⟩
    iapply (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.2.2.2.2 E _ K
    isplitl [H3]; · iexact H3
    isplitl [H4]; · iexact H4
    isplitl [H5]; · iexact H5
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iintro ⟨H3, H4, H5, H11, H12, H13, H14, H15, H16, H17, H18⟩
    iapply Hk
    isplitl [H3]; · iexact H3
    isplitl [H4]; · iexact H4
    isplitl [H5]; · iexact H5
    isplitl [H11]; · iapply (owns_any c arg11 _); iexact H11
    isplitl [H12]; · iapply (owns_any c arg12 _); iexact H12
    isplitl [H13]; · iapply (owns_any c arg13 _); iexact H13
    isplitl [H14]; · iapply (owns_any c arg14 _); iexact H14
    isplitl [H15]; · iapply (owns_any c arg15 _); iexact H15
    isplitl [H16]; · iapply (owns_any c arg16 _); iexact H16
    isplitl [H17]; · iapply (owns_any c arg17 _); iexact H17
    iapply (owns_any c arg18 _); iexact H18
  · iintro ⟨H3, H4, H5, H11, H12, H13, H14, HC, Hk⟩
    iapply Hk
    isplitl [H3]; · iexact H3
    isplitl [H4]; · iexact H4
    isplitl [H5]; · iexact H5
    isplitl [H11]; · iexact H11
    isplitl [H12]; · iexact H12
    isplitl [H13]; · iexact H13
    isplitl [H14]; · iexact H14
    iexact HC

/-- The body loads its row's word of the table and goes on with it. -/
theorem load_any (f : Buf (Elt F) (arg2.view.loc (c : Thread nD τ))) (E : Set ℕ) (K : PUnit → sProp 𝕄) :
    iprop((arg2.view.loc (c : Thread nD τ) ↦{fullShare.right} f)
      ∗ (∀ n, (arg2.view.loc (c : Thread nD τ) ↦{fullShare.right} f)
        -∗ wp frame (wpE (defs₀ (F := F)) Variants.none c none) E (afterLoad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n) K))
      ⊢ wp frame (wpE (defs₀ (F := F)) Variants.none c none) E (cc0_decode_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_blocks, wp_bind]
  iintro ⟨H, Hk⟩
  unfold smemLoad
  iapply (wp_smemLoadElt_named Variants.none (c : Thread nD τ) none E (m := arg2)
    (r := Rect.unit (s := S17) (k0_off1 i) S1.size (k0_off1_inb i)) (x := Shape.Idx.first (numel1_S1.symm ▸ Nat.one_pos))) $$ H
  iintro H %w %hw
  rw [wp_ret]
  imodintro
  iapply Hk
  iexact H

end Blocks

variable (m : (ℓ : Loc nD τ sig) → Buf (Elt F) ℓ) (ρ : Dev nD → PrngReg) (hO : Ok m) (c : Dev nD)

/-- The five outputs, of which nothing is said. -/
def unsaid : Fin 12 → Bool := fun w => w.val == 7 || w.val == 8 || w.val == 9 || w.val == 10 || w.val == 11

/-- The pipeline's proof data: each input's buffer holds its block. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

theorem A_eq (w : Fin (cfgM m hO).W) : (dats m hO 0 c).A w = V m c (Pipeline.arrRef spec0 w) := by
  dsimp only [dats]

theorem after0_0 (t : Fin (cfgM m hO).N) : (dats m hO 0 c).after 0 t = iblk m hO c 0 t := by dsimp only [dats]; try rfl
theorem after0_1 (t : Fin (cfgM m hO).N) : (dats m hO 0 c).after 1 t = iblk m hO c 1 t := by dsimp only [dats]; try rfl
theorem after0_2 (t : Fin (cfgM m hO).N) : (dats m hO 0 c).after 2 t = iblk m hO c 2 t := by dsimp only [dats]; try rfl
theorem after0_3 (t : Fin (cfgM m hO).N) : (dats m hO 0 c).after 3 t = iblk m hO c 3 t := by dsimp only [dats]; try rfl
theorem after0_4 (t : Fin (cfgM m hO).N) : (dats m hO 0 c).after 4 t = iblk m hO c 4 t := by dsimp only [dats]; try rfl
theorem after0_5 (t : Fin (cfgM m hO).N) : (dats m hO 0 c).after 5 t = iblk m hO c 5 t := by dsimp only [dats]; try rfl
theorem after0_6 (t : Fin (cfgM m hO).N) : (dats m hO 0 c).after 6 t = iblk m hO c 6 t := by dsimp only [dats]; try rfl

theorem before0_0 (t : Fin (cfgM m hO).N) (d) : (dats m hO 0 c).before 0 t d = iblk m hO c 0 t :=
  before0_0_of m hO (dats m hO 0 c) (A_eq m hO c 0) (after0_0 m hO c) t d
theorem before0_1 (t : Fin (cfgM m hO).N) (d) : (dats m hO 0 c).before 1 t d = iblk m hO c 1 t :=
  before0_1_of m hO (dats m hO 0 c) (A_eq m hO c 1) (after0_1 m hO c) t d
theorem before0_2 (t : Fin (cfgM m hO).N) (d) : (dats m hO 0 c).before 2 t d = iblk m hO c 2 t :=
  before0_2_of m hO (dats m hO 0 c) (A_eq m hO c 2) (after0_2 m hO c) t d
theorem before0_3 (t : Fin (cfgM m hO).N) (d) : (dats m hO 0 c).before 3 t d = iblk m hO c 3 t :=
  before0_3_of m hO (dats m hO 0 c) (A_eq m hO c 3) (after0_3 m hO c) t d
theorem before0_4 (t : Fin (cfgM m hO).N) (d) : (dats m hO 0 c).before 4 t d = iblk m hO c 4 t :=
  before0_4_of m hO (dats m hO 0 c) (A_eq m hO c 4) (after0_4 m hO c) t d
theorem before0_5 (t : Fin (cfgM m hO).N) (d) : (dats m hO 0 c).before 5 t d = iblk m hO c 5 t :=
  before0_5_of m hO (dats m hO 0 c) (A_eq m hO c 5) (after0_5 m hO c) t d
theorem before0_6 (t : Fin (cfgM m hO).N) (d) : (dats m hO 0 c).before 6 t d = iblk m hO c 6 t :=
  before0_6_of m hO (dats m hO 0 c) (A_eq m hO c 6) (after0_6 m hO c) t d

/-- What the body is called with at point `t`, -/
def bodyPre (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- and what it returns. -/
def bodyPost (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- What an input's buffer is left at. -/
theorem leaves_in (t : Fin (cfgM m hO).N) : (dats m hO 0 c).leavesExact 0 t = owns (c : Thread nD τ) (ms0_0 m hO t) fullShare (iblk m hO c 0 t) ∧ (dats m hO 0 c).leavesExact 1 t = owns (c : Thread nD τ) (ms0_1 m hO t) fullShare (iblk m hO c 1 t) ∧ (dats m hO 0 c).leavesExact 2 t = owns (c : Thread nD τ) (ms0_2 m hO t) fullShare (iblk m hO c 2 t) ∧ (dats m hO 0 c).leavesExact 3 t = owns (c : Thread nD τ) (ms0_3 m hO t) fullShare (iblk m hO c 3 t) ∧ (dats m hO 0 c).leavesExact 4 t = owns (c : Thread nD τ) (ms0_4 m hO t) fullShare (iblk m hO c 4 t) ∧ (dats m hO 0 c).leavesExact 5 t = owns (c : Thread nD τ) (ms0_5 m hO t) fullShare (iblk m hO c 5 t) ∧ (dats m hO 0 c).leavesExact 6 t = owns (c : Thread nD τ) (ms0_6 m hO t) fullShare (iblk m hO c 6 t) := by
  refine ⟨?_, ?_, ?_, ?_, ?_, ?_, ?_⟩
  · unfold Dat.leavesExact; rw [← after0_0, liveAt0_0 m hO t]; try rfl
  · unfold Dat.leavesExact; rw [← after0_1, liveAt0_1 m hO t]; try rfl
  · unfold Dat.leavesExact; rw [← after0_2, liveAt0_2 m hO t]; try rfl
  · unfold Dat.leavesExact; rw [← after0_3, liveAt0_3 m hO t]; try rfl
  · unfold Dat.leavesExact; rw [← after0_4, liveAt0_4 m hO t]; try rfl
  · unfold Dat.leavesExact; rw [← after0_5, liveAt0_5 m hO t]; try rfl
  · unfold Dat.leavesExact; rw [← after0_6, liveAt0_6 m hO t]; try rfl

set_option maxHeartbeats 2000000 in
/-- The body at any point. -/
theorem sound_body (t : Fin (cfgM m hO).N) :
    bodyPre m hO c t ⊢ wp frame (wpE (defs₀ (F := F)) Variants.none c none) Set.univ (bodyAt0 (adm m hO) t) (fun _ => bodyPost m hO c t) := by
  unfold bodyPre bodyPost
  simp only [before0_0, before0_1, before0_2, before0_3, before0_4, before0_5, before0_6]
  obtain ⟨e0, e1, e2, e3, e4, e5, e6⟩ := leaves_in m hO c t
  rw [e0, e1, e2, e3, e4, e5, e6]
  rw [show (dats m hO 0 c).owesAt () t.succ = (dats m hO 0 c).owesAt () t.castSucc from rfl,
    show (dats m hO 0 c).Φ t.castSucc = iprop(Pipeline.ΦA spec0 c ∗ Pipeline.ΦT pre0 (tbl m) c) from rfl,
    show (dats m hO 0 c).Φ t.succ = iprop(Pipeline.ΦA spec0 c ∗ Pipeline.ΦT pre0 (tbl m) c) from rfl, PhiT0_eq, PhiA0_eq]
  show _ ⊢ wp frame (wpE (defs₀ (F := F)) Variants.none c none) Set.univ (cc0_decode_attn (F := F) (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _)) _
  iintro ⟨⟨⟨HC, Hg⟩, HT⟩, Ho, ⟨%d0, H0⟩, ⟨%d1, H1⟩, ⟨%d2, H2⟩, ⟨%d3, H3⟩, ⟨%d4, H4⟩, ⟨%d5, H5⟩, ⟨%d6, H6⟩, H7, H8, H9, H10, H11⟩
  iapply (load_any c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) (tbl m 0) Set.univ _)
  isplitl [HT]; · iexact HT
  iintro %n HT
  iapply (first_any c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) n (iblk m hO c 0 t) (iblk m hO c 1 t) (iblk m hO c 2 t) Set.univ _)
  isplitl [H0]; · iexact H0
  isplitl [H1]; · iexact H1
  isplitl [H2]; · iexact H2
  isplitl [H8]; · iexact H8
  isplitl [H9]; · iexact H9
  isplitl [H10]; · iexact H10
  isplitl [H11]; · iexact H11
  isplitl [HC]; · iexact HC
  iintro ⟨H0, H1, H2, H8, H9, H10, H11, HC⟩
  iapply (chunk_any c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) n (iblk m hO c 3 t) (iblk m hO c 4 t) (iblk m hO c 5 t) (iblk m hO c 6 t) Set.univ _)
  isplitl [H3]; · iexact H3
  isplitl [H4]; · iexact H4
  isplitl [H5]; · iexact H5
  isplitl [H6]; · iexact H6
  isplitl [HC]; · iexact HC
  iintro ⟨H3, H4, H5, H6, HC⟩
  iapply (last_any c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) Set.univ _)
  isplitl [H7]; · iexact H7
  isplitl [HC]; · iexact HC
  iintro ⟨H7, HC⟩
  isplitl [HC Hg HT]
  · isplitl [HC Hg]
    · isplitl [HC]; · iexact HC
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation : BodyObligation (dats m hO 0 c) (defs₀ (F := F)) Variants.none () Set.univ unsaid := fun t => by
  rw [bigSep_W0, bigSep_W0, defs₀_row m hO]
  exact triple_restated (sound_body m hO c t) rfl .rfl fun _ => .rfl

set_option backward.isDefEq.respectTransparency.types false in
/-- The run. -/
theorem run_main : θ_run defs (onTc (τ := τ) (main (F := F))) (s₀ m ρ)
    (fun r => (Pipeline.RDat.FramePost ((Pipeline.pin pcfgs fun _ => adm m hO) 0) (fun c => (dats m hO 0 c).toRForget unsaid) (V m)) r ∧ r.2.sem = fun _ => 0) :=
  Pipeline.θ_run_frameP_track_forget (Q' := _) pcfgs (fun _ => adm m hO) (dats m hO) (0 : Fin 1) launch0 defs₀ Variants.none unsaid m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => Entails.refl _) (hout := fun c => by
      rw [show (dats m hO 0 c).Φ (Fin.last (cfgM m hO).N) = iprop(Pipeline.ΦA spec0 c ∗ Pipeline.ΦT pre0 (tbl m) c) from rfl]
      iintro ⟨H, -⟩
      iexact H)

include hO in
/-- The argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7))
      ∧ r.2.sem = fun _ => 0) :=
  (θ_run defs _ _).mono (fun _ h => ⟨fun c => ⟨
      ((h.1 c).2 main_arg0 (by decide : main_arg0 ∈ Pipeline.restRefs sig spec0)).trans (V_main_arg0 m c),
      (Pipeline.RDat.FramePost.arr_in h.1 c 1 rfl).trans ((A_eq m hO c 1).trans (V_main_arg1 m c)),
      (Pipeline.RDat.FramePost.arr_in h.1 c 2 rfl).trans ((A_eq m hO c 2).trans (V_main_arg2 m c)),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c),
      ((h.1 c).2 main_arg7 (by decide : main_arg7 ∈ Pipeline.restRefs sig spec0)).trans (V_main_arg7 m c)⟩, h.2⟩) (run_main m ρ hO)

end Cert.KernelIdeal.Loose

end
-- ==== Proof.KI.HeadsChunk.lean ====
module

public import proofs.«01_k».proof.Proof.KI.RunChunk

/-! The chunk block one head at a time: the same program text for each of the sixteen heads, so the lists of stores are one
payload taken at the sixteen heads. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

variable {F : FTy → Type} [FloatOps F] [Named F]

/-- The sixteen heads in the order the stores are listed: the last store first. -/
def heads {α : Type*} (f : Fin 16 → α) : List α :=
  [f 15, f 14, f 13, f 12, f 11, f 10, f 9, f 8, f 7, f 6, f 5, f 4, f 3, f 2, f 1, f 0]

theorem mem_heads {α : Type*} (f : Fin 16 → α) (a : α) : a ∈ heads f ↔ ∃ h, a = f h := by
  constructor
  · intro ha
    simp only [heads, List.mem_cons, List.not_mem_nil, or_false] at ha
    rcases ha with h | h | h | h | h | h | h | h | h | h | h | h | h | h | h | h <;> exact ⟨_, h⟩
  · rintro ⟨h, rfl⟩
    fin_cases h <;> simp [heads]

theorem inbAcc (h : Fin 16) : ∀ a, (![h.val, 0, 0] : Fin 3 → Nat) a + S1x32x64.size a ≤ S16x32x64.size a := by
  revert h; decide
theorem inbRow (h : Fin 16) : ∀ a, (![h.val, 0, 0] : Fin 3 → Nat) a + S1x32x128.size a ≤ S16x32x128.size a := by
  revert h; decide
theorem inbCode0 (h : Fin 16) : ∀ a, (![0, h.val, 0, 0] : Fin 4 → Nat) a + S1x1x32x1024.size a ≤ S1x16x64x1024.size a := by
  revert h; decide
theorem inbCode1 (h : Fin 16) : ∀ a, (![0, h.val, 32, 0] : Fin 4 → Nat) a + S1x1x32x1024.size a ≤ S1x16x64x1024.size a := by
  revert h; decide
theorem inbScale0 (h : Fin 16) : ∀ a, (![0, h.val, 0, 0] : Fin 4 → Nat) a + S1x1x1x1024.size a ≤ S1x16x2x1024.size a := by
  revert h; decide
theorem inbScale1 (h : Fin 16) : ∀ a, (![0, h.val, 1, 0] : Fin 4 → Nat) a + S1x1x1x1024.size a ≤ S1x16x2x1024.size a := by
  revert h; decide

/-- The rectangle of one head in an accumulator buffer, a row-statistics buffer, and the two halves of a code and a scale
block. -/
abbrev rAcc (h : Fin 16) : Rect S16x32x64 := Rect.unit (s := S16x32x64) ![h.val, 0, 0] S1x32x64.size (inbAcc h)
abbrev rRow (h : Fin 16) : Rect S16x32x128 := Rect.unit (s := S16x32x128) ![h.val, 0, 0] S1x32x128.size (inbRow h)
abbrev rCode0 (h : Fin 16) : Rect S1x16x64x1024 := Rect.unit (s := S1x16x64x1024) ![0, h.val, 0, 0] S1x1x32x1024.size (inbCode0 h)
abbrev rCode1 (h : Fin 16) : Rect S1x16x64x1024 := Rect.unit (s := S1x16x64x1024) ![0, h.val, 32, 0] S1x1x32x1024.size (inbCode1 h)
abbrev rScale0 (h : Fin 16) : Rect S1x16x2x1024 := Rect.unit (s := S1x16x2x1024) ![0, h.val, 0, 0] S1x1x1x1024.size (inbScale0 h)
abbrev rScale1 (h : Fin 16) : Rect S1x16x2x1024 := Rect.unit (s := S1x16x2x1024) ![0, h.val, 1, 0] S1x1x1x1024.size (inbScale1 h)

variable (c : Dev nD) (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)

/-- The masked, scaled scores of one head against the chunk. -/
def hScore (x3 : Vec F S1x16x64x1024 .fp8e4m3) (x4 : Vec F S1x16x2x1024 .f32) (xs0 : Vec F S16x32x64 .bf16) (v1 : Elt F .i32)
    (h : Fin 16) : FVec F S32x1024 .f32 :=
  k0_pay182 (BitVec.ofNat 32 (i 1).val) v1
    (View.readAt (Elt F) arg6.view (rCode0 h).toLoadRect (harg6.unread x3))
    (View.readAt (Elt F) arg7.view (rScale0 h).toLoadRect (harg7.unread x4))
    (View.readAt (Elt F) arg6.view (rCode1 h).toLoadRect (harg6.unread x3))
    (View.readAt (Elt F) arg7.view (rScale1 h).toLoadRect (harg7.unread x4))
    (View.readAt (Elt F) arg15.view (rAcc h).toLoadRect (harg15.unread xs0))

/-- The maximum carried into the chunk, one head. -/
def hMax (xs2 : Vec F S16x32x128 .f32) (h : Fin 16) : FVec F S32x1 .f32 :=
  k0_pay183 (View.readAt (Elt F) arg17.view (rRow h).toLoadRect (harg17.unread xs2))

theorem runChunk_acc (x3 : Vec F S1x16x64x1024 .fp8e4m3) (x4 : Vec F S1x16x2x1024 .f32) (x5 : Vec F S1x16x64x1024 .fp8e4m3)
    (x6 : Vec F S1x16x2x1024 .f32) (xs0 : Vec F S16x32x64 .bf16) (xs1 : Vec F S16x32x64 .f32)
    (xs2 : Vec F S16x32x128 .f32) (xs3 : Vec F S16x32x128 .f32) (v1 : Elt F .i32) :
    (runChunk (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs0 xs1 xs2 xs3 v1).1 = heads fun h => ⟨rAcc h,
      k0_pay189 (k0_pay185 (hScore i arg6 harg6 arg7 harg7 arg15 harg15 x3 x4 xs0 v1 h) (hMax arg17 harg17 xs2 h))
        (k0_pay188 (hScore i arg6 harg6 arg7 harg7 arg15 harg15 x3 x4 xs0 v1 h) (hMax arg17 harg17 xs2 h)
          (View.readAt (Elt F) arg8.view (rCode0 h).toLoadRect (harg8.unread x5))
          (View.readAt (Elt F) arg9.view (rScale0 h).toLoadRect (harg9.unread x6))
          (View.readAt (Elt F) arg8.view (rCode1 h).toLoadRect (harg8.unread x5))
          (View.readAt (Elt F) arg9.view (rScale1 h).toLoadRect (harg9.unread x6)))
        (View.readAt (Elt F) arg16.view (rAcc h).toLoadRect (harg16.unread xs1))⟩ := rfl

theorem runChunk_max (x3 : Vec F S1x16x64x1024 .fp8e4m3) (x4 : Vec F S1x16x2x1024 .f32) (x5 : Vec F S1x16x64x1024 .fp8e4m3)
    (x6 : Vec F S1x16x2x1024 .f32) (xs0 : Vec F S16x32x64 .bf16) (xs1 : Vec F S16x32x64 .f32)
    (xs2 : Vec F S16x32x128 .f32) (xs3 : Vec F S16x32x128 .f32) (v1 : Elt F .i32) :
    (runChunk (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs0 xs1 xs2 xs3 v1).2.1 = heads fun h => ⟨rRow h,
      k0_pay190 (k0_pay184 (hScore i arg6 harg6 arg7 harg7 arg15 harg15 x3 x4 xs0 v1 h) (hMax arg17 harg17 xs2 h))⟩ := rfl

theorem runChunk_den (x3 : Vec F S1x16x64x1024 .fp8e4m3) (x4 : Vec F S1x16x2x1024 .f32) (x5 : Vec F S1x16x64x1024 .fp8e4m3)
    (x6 : Vec F S1x16x2x1024 .f32) (xs0 : Vec F S16x32x64 .bf16) (xs1 : Vec F S16x32x64 .f32)
    (xs2 : Vec F S16x32x128 .f32) (xs3 : Vec F S16x32x128 .f32) (v1 : Elt F .i32) :
    (runChunk (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs0 xs1 xs2 xs3 v1).2.2.1 = heads fun h => ⟨rRow h,
      k0_pay191 (k0_pay187 (hScore i arg6 harg6 arg7 harg7 arg15 harg15 x3 x4 xs0 v1 h) (hMax arg17 harg17 xs2 h)
        (View.readAt (Elt F) arg18.view (rRow h).toLoadRect (harg18.unread xs3)))⟩ := rfl

end Cert.KernelIdeal.Hand
-- ==== Proof.KI.HeadsFirst.lean ====
module

public import proofs.«01_k».proof.Proof.KI.RunFirst
public import proofs.«01_k».proof.Proof.KI.RunLast
public import proofs.«01_k».proof.Proof.KI.HeadsChunk

/-! The first and the last block's stores in one form for all heads and all positions: the lists of stores are one payload
taken at the sixteen heads, or at the four positions. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

variable {F : FTy → Type} [FloatOps F] [Named F]

/-! ## The new keys and values of one row: codes, scales, and the codes widened again -/

section Quant

variable (t : Vec F S1x4x16x64 .bf16)

/-- The exponents of the two groups of 32, of the keys … -/
def keyExp0 : IVec S64x1 32 := k0_pay20 (k0_pay16 t) (k0_pay17 t) (k0_pay18 t) (k0_pay19 t)
def keyExp1 : IVec S64x1 32 := k0_pay29 (k0_pay26 (k0_pay14 t)) (k0_pay27 (k0_pay14 t)) (k0_pay28 (k0_pay14 t)) 23#32
/-- … their scales … -/
def keyScale0 : FVec F S64x1 .f32 := k0_pay21 (k0_pay16 t) (k0_pay17 t) (k0_pay18 t) (k0_pay19 t)
def keyScale1 : FVec F S64x1 .f32 := k0_pay30 (k0_pay26 (k0_pay14 t)) (k0_pay27 (k0_pay14 t)) (k0_pay28 (k0_pay14 t)) 23#32
/-- … the codes … -/
def keyLow : FVec F S64x32 .f32 :=
  k0_pay24 (k0_pay22 (k0_pay15 t) (k0_pay16 t) (k0_pay17 t) (k0_pay18 t) (k0_pay19 t)) k0_pay23
def keyCodes : FVec F S64x64 .fp8e4m3 :=
  k0_pay31 (keyLow t) (k0_pay25 (k0_pay14 t)) (k0_pay26 (k0_pay14 t)) (k0_pay27 (k0_pay14 t)) (k0_pay28 (k0_pay14 t)) 23#32
def keyCodes3 : FVec F S4x16x64 .fp8e4m3 :=
  k0_pay32 (keyLow t) (k0_pay25 (k0_pay14 t)) (k0_pay26 (k0_pay14 t)) (k0_pay27 (k0_pay14 t)) (k0_pay28 (k0_pay14 t)) 23#32
/-- … and the codes times the scales. -/
def keyWide : FVec F S4x16x64 .f32 := k0_pay35 (keyScale0 t) (keyScale1 t) (keyCodes t)

/-- The same of the values. -/
def valExp0 : IVec S64x1 32 := k0_pay43 (k0_pay41 (k0_pay38 t) (k0_pay39 t)) (k0_pay42 (k0_pay38 t) (k0_pay39 t))
def valExp1 : IVec S64x1 32 := k0_pay51 (k0_pay47 (k0_pay36 t)) (k0_pay48 (k0_pay36 t)) (k0_pay49 (k0_pay36 t)) (k0_pay50 (k0_pay36 t))
def valScale0 : FVec F S64x1 .f32 := k0_pay44 (k0_pay41 (k0_pay38 t) (k0_pay39 t)) (k0_pay42 (k0_pay38 t) (k0_pay39 t))
def valBias1 : IVec S64x1 32 := k0_pay52 (k0_pay47 (k0_pay36 t)) (k0_pay48 (k0_pay36 t)) (k0_pay49 (k0_pay36 t)) (k0_pay50 (k0_pay36 t))
def valLow : FVec F S64x32 .f32 :=
  k0_pay45 (k0_pay37 t) (k0_pay41 (k0_pay38 t) (k0_pay39 t)) (k0_pay42 (k0_pay38 t) (k0_pay39 t))
def valWide : FVec F S4x16x64 .f32 :=
  k0_pay57 (valScale0 t) (valLow t) (k0_pay46 (k0_pay36 t)) (valExp1 t) (valBias1 t) 23#32

end Quant

/-! ## One head against the four new keys -/

theorem slHead (h : Fin 16) : S4x16x64.Slices ![0, h.val, 0] S4x1x64 := by revert h; decide

/-- Head `h` of the widened new keys or values. -/
def nTile (w : FVec F S4x16x64 .f32) (h : Fin 16) : FVec F S4x64 .bf16 :=
  truncf .bf16 (shapeCast S4x64 (extractStridedSlice S4x1x64 ![0, h.val, 0] w (slHead h)) shapeCasts_S4x1x64_S4x64) bitsLt_bf16_f32

/-- The position of each query row, and of each new key. -/
def rowPos : IVec S32x4 32 := k0_pay61 (iota .tc S32x4 32 [0] iota_S32x4_d0_w32) 8#32 k0_pay58 k0_pay59 k0_pay60
def keyPos : IVec S32x4 32 := iota .tc S32x4 32 [1] iota_S32x4_d1_w32

/-- The masked, scaled scores. -/
def nScore (w : FVec F S4x16x64 .f32) (q : Vec F S1x32x64 .bf16) (h : Fin 16) : FVec F S32x4 .f32 :=
  select (cmpi .sle keyPos rowPos)
    (mulf (matmul dot_S32x64_S4x64_S32x4_1_1_0_0_n_n none (shapeCast S32x64 q shapeCasts_S1x32x64_S32x64) (nTile w h)
        (constant S32x4 .f32 0x00000000#32))
      (broadcast S32x4 (Named.named κ "log2e_8" 0x3E38AA3B#32)))
    (broadcast S32x4 (Scalar.ofBits .f32 0xFF800000#32))

/-- Their maximum and the weights. -/
def nMax (s : FVec F S32x4 .f32) : FVec F S32x1 .f32 :=
  shapeCast S32x1 (multiReduction .maximumf [1] S32 s 0xFF800000#32 reduces_S32x4_S32 (.inl rfl) rfl) shapeCasts_S32_S32x1
def nWeight (s : FVec F S32x4 .f32) : FVec F S32x4 .f32 :=
  exp2 (subf s (broadcastTo S32x4 (nMax s) broadcasts_S32x1_S32x4))

/-- What is stored: the maximum, the sum of the weights, the weighted values. -/
def nStoreMax (s : FVec F S32x4 .f32) : FVec F S1x32x128 .f32 :=
  shapeCast S1x32x128 (broadcastTo S32x128 (shapeCast S32x1 (nMax s) shapeCasts_S32x1_S32x1) broadcasts_S32x1_S32x128)
    shapeCasts_S32x128_S1x32x128
def nStoreDen (s : FVec F S32x4 .f32) : FVec F S1x32x128 .f32 :=
  shapeCast S1x32x128 (broadcastTo S32x128 (shapeCast S32x1
    (shapeCast S32x1 (multiReduction .add [1] S32 (nWeight s) 0x00000000#32 reduces_S32x4_S32 (.inl rfl) rfl) shapeCasts_S32_S32x1)
    shapeCasts_S32x1_S32x1) broadcasts_S32x1_S32x128) shapeCasts_S32x128_S1x32x128
def nStoreAcc (s : FVec F S32x4 .f32) (v : FVec F S4x64 .bf16) : FVec F S1x32x64 .f32 :=
  shapeCast S1x32x64 (matmul dot_S32x4_S4x64_S32x64_1_0_0_1_n_n none (truncf .bf16 (nWeight s) bitsLt_bf16_f32) v
    (constant S32x64 .f32 0x00000000#32)) shapeCasts_S32x64_S1x32x64

/-! ## One position of the query and of the result -/

/-- The four positions in the order the stores are listed: the last first. -/
def positions {α : Type*} (f : Fin 4 → α) : List α := [f 3, f 2, f 1, f 0]

theorem mem_positions {α : Type*} (f : Fin 4 → α) (a : α) : a ∈ positions f ↔ ∃ s, a = f s := by
  constructor
  · intro ha
    simp only [positions, List.mem_cons, List.not_mem_nil, or_false] at ha
    rcases ha with h | h | h | h <;> exact ⟨_, h⟩
  · rintro ⟨h, rfl⟩
    fin_cases h <;> simp [positions]

theorem inbQ (s : Fin 4) : ∀ a, (![0, 8 * s.val, 0] : Fin 3 → Nat) a + S16x8x64.size a ≤ S16x32x64.size a := by
  revert s; decide
theorem inbRow1 (s : Fin 4) : ∀ a, (![0, 8 * s.val, 0] : Fin 3 → Nat) a + S16x8x1.size a ≤ S16x32x128.size a := by
  revert s; decide
theorem inbX (s : Fin 4) : ∀ a, (![0, s.val, 0, 0] : Fin 4 → Nat) a + S1x1x64x128.size a ≤ S1x4x64x128.size a := by
  revert s; decide
abbrev rQ (s : Fin 4) : Rect S16x32x64 := Rect.unit (s := S16x32x64) ![0, 8 * s.val, 0] S16x8x64.size (inbQ s)
abbrev rRow1 (s : Fin 4) : Rect S16x32x128 := Rect.unit (s := S16x32x128) ![0, 8 * s.val, 0] S16x8x1.size (inbRow1 s)
abbrev rX (s : Fin 4) : Rect S1x4x64x128 := Rect.unit (s := S1x4x64x128) ![0, s.val, 0, 0] S1x1x64x128.size (inbX s)

variable (c : Dev nD) (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)

/-- A whole tile of new keys or values, as the block loads it. -/
def newTile (arg : Memref sig .tc .vmem S1x4x16x64 .bf16) (harg : arg.IsWhole) (x : Vec F S1x4x16x64 .bf16) : Vec F S1x4x16x64 .bf16 :=
  View.readAt (Elt F) arg.view (Rect.unit (s := S1x4x16x64) ![0, 0, 0, 0] S1x4x16x64.size inb_S1x4x16x64_S1x4x16x64_0_0_0_0).toLoadRect
    (harg.unread x)

/-- The query's stores. -/
def qPieces (x0 : Vec F S1x4x64x128 .bf16) : List (View.Piece (Elt F) S16x32x64 .bf16) :=
  positions fun s => ⟨rQ s, k0_pay10 (View.readAt (Elt F) arg3.view (rX s).toLoadRect (harg3.unread x0))⟩

/-- One head's query, read back from them. -/
def qTile (x0 : Vec F S1x4x64x128 .bf16) (h : Fin 16) : Vec F S1x32x64 .bf16 :=
  arg15.view.readCov (qPieces arg3 harg3 x0) (rAcc h).toLoadRect

/-- One head's scores against the new keys. -/
def fScore (x0 : Vec F S1x4x64x128 .bf16) (x1 : Vec F S1x4x16x64 .bf16) (h : Fin 16) : FVec F S32x4 .f32 :=
  nScore (keyWide (newTile arg4 harg4 x1)) (qTile arg3 harg3 arg15 x0 h) h

variable (x0 : Vec F S1x4x64x128 .bf16) (x1 x2 : Vec F S1x4x16x64 .bf16)

theorem runFirst_kCodes : (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).1
    = [⟨Rect.unit (s := S1x4x16x64) ![0, 0, 0, 0] S1x4x16x64.size inb_S1x4x16x64_S1x4x16x64_0_0_0_0, k0_pay33 (keyCodes3 (newTile arg4 harg4 x1))⟩] := rfl
theorem runFirst_kScale : (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.1
    = [⟨Rect.unit (s := S1x4x16x2) ![0, 0, 0, 0] S1x4x16x2.size inb_S1x4x16x2_S1x4x16x2_0_0_0_0,
        k0_pay34 (keyScale0 (newTile arg4 harg4 x1)) (keyScale1 (newTile arg4 harg4 x1))⟩] := rfl
theorem runFirst_vCodes : (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.1
    = [⟨Rect.unit (s := S1x4x16x64) ![0, 0, 0, 0] S1x4x16x64.size inb_S1x4x16x64_S1x4x16x64_0_0_0_0,
        k0_pay55 (valLow (newTile arg5 harg5 x2)) (k0_pay46 (k0_pay36 (newTile arg5 harg5 x2))) (valExp1 (newTile arg5 harg5 x2))⟩] := rfl
theorem runFirst_vScale : (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.1
    = [⟨Rect.unit (s := S1x4x16x2) ![0, 0, 0, 0] S1x4x16x2.size inb_S1x4x16x2_S1x4x16x2_0_0_0_0,
        k0_pay56 (valScale0 (newTile arg5 harg5 x2)) (valBias1 (newTile arg5 harg5 x2)) 23#32⟩] := rfl
theorem runFirst_q : (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.1 = qPieces arg3 harg3 x0 := rfl
theorem runFirst_acc : (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.2.1
    = heads fun h => ⟨rAcc h, nStoreAcc (fScore arg3 harg3 arg4 harg4 arg15 x0 x1 h) (nTile (valWide (newTile arg5 harg5 x2)) h)⟩ := rfl
theorem runFirst_max : (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.2.2.1
    = heads fun h => ⟨rRow h, nStoreMax (fScore arg3 harg3 arg4 harg4 arg15 x0 x1 h)⟩ := rfl
theorem runFirst_den : (runFirst (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.2.2.2.1
    = heads fun h => ⟨rRow h, nStoreDen (fScore arg3 harg3 arg4 harg4 arg15 x0 x1 h)⟩ := rfl

/-- The result's payload at one position. -/
def oTile (acc : Vec F S16x8x64 .f32) (den : Vec F S16x8x1 .f32) : FVec F S1x1x64x128 .bf16 := k0_pay365 acc den

theorem runLast_out (xs1 : Vec F S16x32x64 .f32) (xs3 : Vec F S16x32x128 .f32) :
    (runLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 xs1 xs3).1
    = positions fun s => ⟨rX s, oTile (View.readAt (Elt F) arg16.view (rQ s).toLoadRect (harg16.unread xs1))
        (View.readAt (Elt F) arg18.view (rRow1 s).toLoadRect (harg18.unread xs3))⟩ := rfl

end Cert.KernelIdeal.Hand
-- ==== Proof.Softmax.lean ====
module

public import Idealize.ShloMosaic.Lib.Pointwise

/-!
  ONLINE SOFTMAX over the extended reals.

  A softmax-weighted sum of values taken set of keys by set of keys, with a running maximum, is the softmax-weighted sum
  over all keys. Nothing is assumed finite: a score may be `⊥` (a masked key weighs nothing) or `⊤`.
-/
@[expose] public section

namespace Cert.Softmax

open Idealize.ShloMosaic
open scoped BigOperators

/-- `log₂ e`, the factor that takes a natural exponent to a binary one. -/
noncomputable def lam : EReal := ((Real.log 2)⁻¹ : ℝ)

theorem exp2_bot : Ideal.exp2 ⊥ = 0 := rfl
theorem exp2_top : Ideal.exp2 ⊤ = ⊤ := rfl
theorem exp_bot : Ideal.exp ⊥ = 0 := rfl
theorem exp_top : Ideal.exp ⊤ = ⊤ := rfl

theorem lam_pos : (0 : ℝ) < (Real.log 2)⁻¹ := inv_pos.mpr (Real.log_pos one_lt_two)

/-- `2 ^ (z · log₂ e) = e ^ z`, at the infinities too. -/
theorem exp2_mul_lam (z : EReal) : Ideal.exp2 (z * lam) = Ideal.exp z := by
  unfold lam
  induction z with
  | bot => rw [EReal.bot_mul_coe_of_pos lam_pos]; simp only [exp2_bot, exp_bot, exp2_top, exp_top]
  | top => rw [EReal.top_mul_coe_of_pos lam_pos]; simp only [exp2_bot, exp_bot, exp2_top, exp_top]
  | coe r =>
    rw [← EReal.coe_mul, Ideal.exp2_coe, Ideal.exp_coe]
    congr 1
    show (2 : ℝ) ^ (r * (Real.log 2)⁻¹) = Real.exp r
    rw [Real.rpow_def_of_pos two_pos]
    congr 1
    have : Real.log 2 ≠ 0 := (Real.log_pos one_lt_two).ne'
    field_simp

theorem sub_mul_lam (x y : EReal) : x * lam - y * lam = (x - y) * lam := by
  unfold lam
  have h := EReal.right_distrib_of_nonneg_of_ne_top (x := (((Real.log 2)⁻¹ : ℝ) : EReal))
    (by exact_mod_cast lam_pos.le) (EReal.coe_ne_top _) x (-y)
  rw [sub_eq_add_neg, sub_eq_add_neg, h, EReal.neg_mul]

theorem lam_mono : Monotone (fun x : EReal => x * lam) := fun _ _ h =>
  mul_le_mul_of_nonneg_right h (by unfold lam; exact_mod_cast lam_pos.le)

theorem bot_mul_lam : (⊥ : EReal) * lam = ⊥ := EReal.bot_mul_coe_of_pos lam_pos

/-- The rescaling factor is a nonnegative real. -/
theorem exp2_sub_real {m m' : EReal} (h : m ≤ m') : 0 ≤ Ideal.exp2 (m - m') ∧ Ideal.exp2 (m - m') ≠ ⊤ := by
  induction m with
  | bot => simp [exp2_bot, exp2_top]
  | top => rw [top_le_iff] at h; subst h; simp [exp2_bot, exp2_top]
  | coe r =>
    induction m' with
    | bot => simp at h
    | top => simp [exp2_bot, exp2_top]
    | coe r' =>
      rw [← EReal.coe_sub, Ideal.exp2_coe]
      exact ⟨by exact_mod_cast (Real.rpow_pos_of_pos two_pos _).le, EReal.coe_ne_top _⟩

/-- Rescaling a weight from one running maximum to the next. -/
theorem exp2_step {a m m' : EReal} (h : a ≤ m) (h' : m ≤ m') :
    Ideal.exp2 (a - m) * Ideal.exp2 (m - m') = Ideal.exp2 (a - m') := by
  induction m with
  | bot => rw [le_bot_iff] at h; subst h; simp [exp2_bot, exp2_top]
  | top => rw [top_le_iff] at h'; subst h'; simp [exp2_bot, exp2_top]
  | coe r =>
    induction m' with
    | bot => simp at h'
    | top => simp [exp2_bot, exp2_top]
    | coe r' =>
      induction a with
      | bot => simp [exp2_bot, exp2_top]
      | top => simp at h
      | coe s =>
        rw [← EReal.coe_sub, ← EReal.coe_sub, ← EReal.coe_sub, Ideal.exp2_coe, Ideal.exp2_coe, Ideal.exp2_coe,
          ← EReal.coe_mul]
        congr 1
        show (2 : ℝ) ^ (s - r) * (2 : ℝ) ^ (r - r') = (2 : ℝ) ^ (s - r')
        rw [← Real.rpow_add two_pos]
        congr 1; ring

theorem sum_mul_real {ι : Type*} (S : Finset ι) (f : ι → EReal) {r : EReal} (h : 0 ≤ r) (h' : r ≠ ⊤) :
    (∑ k ∈ S, f k) * r = ∑ k ∈ S, f k * r := by
  classical
  induction S using Finset.induction_on with
  | empty => simp
  | insert a S ha ih =>
    rw [Finset.sum_insert ha, Finset.sum_insert ha, EReal.right_distrib_of_nonneg_of_ne_top h h', ih]

section Online

variable {K : Type*} [DecidableEq K] (s : K → EReal) (v : K → EReal)

/-- The running maximum over the keys of `S`. -/
noncomputable def M (S : Finset K) : EReal := S.sup s
/-- The running denominator. -/
noncomputable def L (S : Finset K) : EReal := ∑ k ∈ S, Ideal.exp2 (s k - M s S)
/-- The running weighted sum of values. -/
noncomputable def A (S : Finset K) : EReal := ∑ k ∈ S, Ideal.exp2 (s k - M s S) * v k

theorem M_union (S T : Finset K) : M s (S ∪ T) = max (M s S) (M s T) := Finset.sup_union

theorem le_M {S : Finset K} {k : K} (h : k ∈ S) : s k ≤ M s S := Finset.le_sup h

/-- One online step: the keys of `T` are taken in after those of `S`. -/
theorem L_union {S T : Finset K} (hd : Disjoint S T) :
    L s (S ∪ T) = L s S * Ideal.exp2 (M s S - M s (S ∪ T)) + ∑ k ∈ T, Ideal.exp2 (s k - M s (S ∪ T)) := by
  have hle : M s S ≤ M s (S ∪ T) := by rw [M_union]; exact le_max_left _ _
  obtain ⟨h0, h1⟩ := exp2_sub_real hle
  rw [L, Finset.sum_union hd, L, sum_mul_real _ _ h0 h1]
  congr 1
  exact Finset.sum_congr rfl fun k hk => (exp2_step (le_M s hk) hle).symm

theorem A_union {S T : Finset K} (hd : Disjoint S T) :
    A s v (S ∪ T) = A s v S * Ideal.exp2 (M s S - M s (S ∪ T)) + ∑ k ∈ T, Ideal.exp2 (s k - M s (S ∪ T)) * v k := by
  have hle : M s S ≤ M s (S ∪ T) := by rw [M_union]; exact le_max_left _ _
  obtain ⟨h0, h1⟩ := exp2_sub_real hle
  rw [A, Finset.sum_union hd, A, sum_mul_real _ _ h0 h1]
  congr 1
  refine Finset.sum_congr rfl fun k hk => ?_
  rw [← exp2_step (le_M s hk) hle, mul_right_comm]

/-- Keys whose score is `⊥` change nothing. -/
theorem masked {S T : Finset K} (hd : Disjoint S T) (h : ∀ k ∈ T, s k = ⊥) :
    M s (S ∪ T) = M s S ∧ L s (S ∪ T) = L s S ∧ A s v (S ∪ T) = A s v S := by
  have hM : M s (S ∪ T) = M s S := by
    rw [M_union, show M s T = ⊥ from (Finset.sup_eq_bot_iff _ _).2 h]; exact max_bot_right _
  refine ⟨hM, ?_, ?_⟩
  · rw [L, hM, Finset.sum_union hd, L]
    rw [show (∑ k ∈ T, Ideal.exp2 (s k - M s S)) = 0 from Finset.sum_eq_zero fun k hk => by simp [h k hk, exp2_bot]]
    exact add_zero _
  · rw [A, hM, Finset.sum_union hd, A]
    rw [show (∑ k ∈ T, Ideal.exp2 (s k - M s S) * v k) = 0 from
      Finset.sum_eq_zero fun k hk => by simp [h k hk, exp2_bot]]
    exact add_zero _

/-- Every weight lies between 0 and 1. -/
theorem weight_real {S : Finset K} {k : K} (h : k ∈ S) :
    0 ≤ Ideal.exp2 (s k - M s S) ∧ Ideal.exp2 (s k - M s S) ≠ ⊤ := exp2_sub_real (le_M s h)

theorem L_real (S : Finset K) : 0 ≤ L s S ∧ L s S ≠ ⊤ := by
  refine ⟨Finset.sum_nonneg fun k hk => (weight_real s hk).1, ?_⟩
  unfold L
  generalize hm : M s S = m
  have hk : ∀ k ∈ S, Ideal.exp2 (s k - m) ≠ ⊤ := fun k h => hm ▸ (weight_real s h).2
  have h0 : ∀ k ∈ S, 0 ≤ Ideal.exp2 (s k - m) := fun k h => hm ▸ (weight_real s h).1
  clear hm
  induction S using Finset.induction_on with
  | empty => simp
  | insert a S ha ih =>
    rw [Finset.sum_insert ha]
    refine EReal.add_ne_top (hk a (Finset.mem_insert_self _ _))
      (ih (fun k h => hk k (Finset.mem_insert_of_mem h)) (fun k h => h0 k (Finset.mem_insert_of_mem h)))

/-- What the division at the end leaves: the values weighted by the softmax, or `⊥` when no weight is positive. -/
theorem div_eq (S : Finset K) :
    Ideal.div (A s v S) (L s S)
      = if L s S = 0 then ⊥ else ∑ k ∈ S, (Ideal.exp2 (s k - M s S) * Ideal.div 1 (L s S)) * v k := by
  obtain ⟨h0, h1⟩ := L_real s S
  by_cases h : L s S = 0
  · rw [if_pos h, h]
    have hA : A s v S = 0 := by
      refine Finset.sum_eq_zero fun k hk => ?_
      have := (Finset.sum_eq_zero_iff_of_nonneg (fun k hk => (weight_real s hk).1)).1 h k hk
      rw [this, zero_mul]
    rw [hA]; simp [Ideal.div]
  · rw [if_neg h]
    have hr : 0 ≤ (L s S)⁻¹ := EReal.inv_nonneg_of_nonneg h0
    have hr' : (L s S)⁻¹ ≠ ⊤ := (EReal.inv_lt_top _).ne
    rw [Ideal.div, if_neg h, Ideal.div, if_neg h, one_mul, A, sum_mul_real _ _ hr hr']
    exact Finset.sum_congr rfl fun k _ => mul_right_comm _ _ _

end Online

/-- The binary-exponent softmax of scores scaled by `log₂ e` is the natural one: the maximum … -/
theorem M_scaled {K : Type*} (s : K → EReal) (S : Finset K) : M (fun k => s k * lam) S = S.sup s * lam :=
  (Finset.comp_sup_eq_sup_comp (fun x : EReal => x * lam) (fun x y => lam_mono.map_max (a := x) (b := y))
    bot_mul_lam).symm

/-- … and each weight. -/
theorem weight_scaled {K : Type*} (s : K → EReal) (S : Finset K) (k : K) :
    Ideal.exp2 (s k * lam - M (fun k => s k * lam) S) = Ideal.exp (s k - S.sup s) := by
  rw [M_scaled, sub_mul_lam, exp2_mul_lam]

end Cert.Softmax
-- ==== Proof.KI.Spec.lean ====
module

public import proofs.«01_k».proof.Proof.Gen.KernelIdeal
public import proofs.«01_k».proof.Proof.Softmax
public import Idealize.ShloMosaic.Lib.Pointwise

/-! What the decode-attention kernel computes, as plain functions. For one batch row the keys are the four new ones and
the 16384 of the cache; a query row attends to the new keys of its own and earlier positions and to the cached keys below
the row's length. -/

@[expose] public section

set_option maxRecDepth 16384

noncomputable section

namespace Cert.Spec

open Idealize.ShloMosaic Cert.Softmax
open scoped BigOperators

/-- A key: one of the four new positions or one of the cached ones. -/
abbrev Key := Fin 4 ⊕ Fin 16384

/-- The new keys and the cached keys below `n`. -/
def upto (n : ℕ) : Finset Key := Finset.univ.disjSum (Finset.univ.filter fun t : Fin 16384 => t.val < n)

/-- Key `x` of chunk `c` of the cache. -/
def chunkKey (c : Fin 16) (x : Fin 1024) : Key := .inr ⟨c.val * 1024 + x.val, by omega⟩

theorem chunkKey_inj (c : Fin 16) : Function.Injective (chunkKey c) := fun x y h => by
  have := congrArg Fin.val (Sum.inr.inj h)
  simp only at this
  exact Fin.ext (by omega)

/-- The keys of chunk `c`. -/
def chunk (c : Fin 16) : Finset Key := Finset.univ.map ⟨chunkKey c, chunkKey_inj c⟩

theorem mem_upto_inr (n : ℕ) (t : Fin 16384) : (.inr t : Key) ∈ upto n ↔ t.val < n := by
  simp [upto]

theorem mem_chunk_inr (c : Fin 16) (t : Fin 16384) :
    (.inr t : Key) ∈ chunk c ↔ c.val * 1024 ≤ t.val ∧ t.val < (c.val + 1) * 1024 := by
  simp only [chunk, Finset.mem_map, Finset.mem_univ, true_and, Function.Embedding.coeFn_mk, chunkKey]
  constructor
  · rintro ⟨x, hx⟩
    have := congrArg Fin.val (Sum.inr.inj hx)
    simp only at this
    omega
  · rintro ⟨h1, h2⟩
    exact ⟨⟨t.val - c.val * 1024, by omega⟩, congrArg Sum.inr (Fin.ext (by simp only; omega))⟩

theorem upto_succ (c : Fin 16) : upto ((c.val + 1) * 1024) = upto (c.val * 1024) ∪ chunk c := by
  ext k
  rcases k with j | t
  · simp [upto]
  · rw [Finset.mem_union, mem_upto_inr, mem_upto_inr, mem_chunk_inr]; omega

theorem upto_disjoint (c : Fin 16) : Disjoint (upto (c.val * 1024)) (chunk c) := by
  rw [Finset.disjoint_left]
  rintro (j | t) h h'
  · simp [chunk, chunkKey] at h'
  · rw [mem_upto_inr] at h; rw [mem_chunk_inr] at h'; omega

theorem upto_all : upto 16384 = Finset.univ := by
  ext k
  rcases k with j | t
  · simp [upto]
  · rw [mem_upto_inr]; simp [t.isLt]

theorem upto_zero : upto 0 = Finset.univ.map ⟨Sum.inl, Sum.inl_injective⟩ := by
  ext k
  rcases k with j | t
  · simp [upto]
  · rw [mem_upto_inr]; simp

theorem sum_chunk (c : Fin 16) (f : Key → EReal) : ∑ k ∈ chunk c, f k = ∑ x, f (chunkKey c x) := Finset.sum_map _ _ _

theorem sum_new (f : Key → EReal) : ∑ k ∈ upto 0, f k = ∑ j, f (.inl j) := by
  rw [upto_zero]; exact Finset.sum_map _ _ _

theorem fold_max_eq_sup {ι : Type*} (S : Finset ι) (f : ι → EReal) : Finset.fold max ⊥ f S = S.sup f := rfl

theorem sup_chunk (c : Fin 16) (f : Key → EReal) : (chunk c).sup f = Finset.univ.sup fun x => f (chunkKey c x) :=
  Finset.sup_map _ _ _

theorem sup_new (f : Key → EReal) : (upto 0).sup f = Finset.univ.sup fun j => f (.inl j) := by
  rw [upto_zero]; exact Finset.sup_map _ _ _

/-- The scale of the scores, for a softmax in powers of two. -/
def lam8 : EReal := ((Real.log 2)⁻¹ * (1 / 8) : ℝ)

/-- The scaled score of query row `r` of head `h` against each key; `⊥` where the row may not look. The query rows of a head
are the four positions times eight heads of the group, position major. -/
def score (q : Fin 16 → Fin 32 → Fin 64 → EReal) (kn : Fin 4 → Fin 16 → Fin 64 → EReal)
    (k : Fin 16 → Fin 64 → Fin 16384 → EReal) (n : BitVec 32) (h : Fin 16) (r : Fin 32) : Key → EReal :=
  Sum.elim (fun j => if j.val ≤ r.val / 8 then (∑ d, q h r d * kn j h d) * lam8 else ⊥)
    (fun t => if (t.val : ℤ) < n.toInt then (∑ d, q h r d * k h d t) * lam8 else ⊥)

/-- Component `d` of each key's value. -/
def value (vn : Fin 4 → Fin 16 → Fin 64 → EReal) (v : Fin 16 → Fin 64 → Fin 16384 → EReal) (h : Fin 16) (d : Fin 64) :
    Key → EReal := Sum.elim (fun j => vn j h d) (fun t => v h d t)

/-- A sum over 64 terms in two halves. -/
theorem sum_halves (f : Fin 64 → EReal) :
    ∑ d, f d = (∑ x : Fin 32, f ⟨x.val, by omega⟩) + ∑ x : Fin 32, f ⟨32 + x.val, by omega⟩ :=
  Fin.sum_univ_add (a := 32) (b := 32) f

/-! ## The mask's word comparisons -/

theorem chunk_active (c : Fin 16) (n : BitVec 32) :
    Scalar.cmpi .ne (Scalar.extui (Scalar.cmpi .slt (Scalar.muli (BitVec.ofNat 32 c.val) 1024#32) n)) 0#32 = 1#1
      ↔ ((c.val * 1024 : ℕ) : ℤ) < n.toInt := by
  have hc : (Scalar.muli (BitVec.ofNat 32 c.val) 1024#32) = BitVec.ofNat 32 (c.val * 1024) := by
    apply BitVec.eq_of_toNat_eq
    simp [Scalar.muli, IntOp.muli, BitVec.toNat_mul, BitVec.toNat_ofNat]
  have hi : (BitVec.ofNat 32 (c.val * 1024)).toInt = ((c.val * 1024 : ℕ) : ℤ) := by
    rw [BitVec.toInt_ofNat']
    have := c.isLt
    simp only [Int.bmod]; omega
  rw [hc]
  unfold Scalar.cmpi Scalar.extui
  simp only [IntOp.cmpi, BitVec.slt, hi]
  by_cases h : ((c.val * 1024 : ℕ) : ℤ) < n.toInt
  · rw [decide_eq_true h]
    exact ⟨fun _ => h, fun _ => by decide⟩
  · rw [decide_eq_false h]
    exact ⟨fun h' => absurd h' (by decide), fun h' => absurd h' h⟩

theorem key_masked (c : Fin 16) (x : Fin 1024) (n : BitVec 32) (h : ((c.val * 1024 : ℕ) : ℤ) < n.toInt) (a b : EReal) :
    Scalar.select (IntOp.cmpi .slt (BitVec.ofNat 32 x.val) (Scalar.subi n (Scalar.muli (BitVec.ofNat 32 c.val) 1024#32))) a b
      = if ((c.val * 1024 + x.val : ℕ) : ℤ) < n.toInt then a else b := by
  have hc : (Scalar.muli (BitVec.ofNat 32 c.val) 1024#32) = BitVec.ofNat 32 (c.val * 1024) := by
    apply BitVec.eq_of_toNat_eq
    simp [Scalar.muli, IntOp.muli, BitVec.toNat_mul, BitVec.toNat_ofNat]
  have hi : (BitVec.ofNat 32 (c.val * 1024)).toInt = ((c.val * 1024 : ℕ) : ℤ) := by
    rw [BitVec.toInt_ofNat']
    have := c.isLt
    simp only [Int.bmod]; omega
  have hx : (BitVec.ofNat 32 x.val).toInt = (x.val : ℤ) := by
    rw [BitVec.toInt_ofNat']
    have := x.isLt
    simp only [Int.bmod]; omega
  have hs : (Scalar.subi n (BitVec.ofNat 32 (c.val * 1024))).toInt = n.toInt - ((c.val * 1024 : ℕ) : ℤ) := by
    show (n - BitVec.ofNat 32 (c.val * 1024)).toInt = _
    rw [BitVec.toInt_sub, hi]
    have h1 := n.toInt_lt
    simp only [Int.bmod]; omega
  rw [hc]
  unfold Scalar.select
  simp only [IntOp.cmpi, BitVec.slt, hs, hx]
  by_cases h2 : ((c.val * 1024 + x.val : ℕ) : ℤ) < n.toInt
  · have : (x.val : ℤ) < n.toInt - ((c.val * 1024 : ℕ) : ℤ) := by omega
    rw [decide_eq_true this, if_pos h2]; rfl
  · have : ¬ (x.val : ℤ) < n.toInt - ((c.val * 1024 : ℕ) : ℤ) := by omega
    rw [decide_eq_false this, if_neg h2]; rfl

end Cert.Spec
-- ==== Proof.KI.QuantSpec.lean ====
module

public import proofs.«01_k».proof.Proof.KI.HeadsFirst
public import proofs.«01_k».proof.Proof.KI.Spec
public import Idealize.ShloMosaic.Lib.Pointwise
public import Idealize.ShloMosaic.Lib.ValueIdx

/-! The kernel's quantiser of the new keys and values, element by element: the exponent is found by a binary search over
the eight bits of an exponent field, the scale and its inverse are powers of two built from the exponent, the code is the
scaled value clipped to the format's range. -/

@[expose] public section

set_option maxRecDepth 16384

noncomputable section

namespace Cert.Spec

open Idealize.ShloMosaic Cert.Softmax
open scoped BigOperators

/-- One step of the search: keep the field, or add the bit where the number reaches the power of two of the larger field. -/
def qStep (y : EReal) (f b : BitVec 32) : BitVec 32 :=
  Scalar.select (FloatOps.cmpf (F := Ideal) (φ := .f32) .olt y
    (FloatOps.ofBits (F := Ideal) .f32 (IntOp.shli .vector (IntOp.addi f b) 23#32))) f (IntOp.addi f b)

/-- The exponent field of `y`. -/
def qField (y : EReal) : BitVec 32 :=
  qStep y (qStep y (qStep y (qStep y (qStep y (qStep y (qStep y (qStep y 0#32 128#32) 64#32) 32#32) 16#32) 8#32) 4#32) 2#32) 1#32

/-- The exponent of the scale. -/
def qExp (y : EReal) : BitVec 32 :=
  Scalar.select (IntOp.cmpi .eq (qField y) 0#32) 0#32 (IntOp.subi (qField y) 126#32)

/-- The scale and its inverse. -/
def qScale (y : EReal) : EReal := FloatOps.ofBits (F := Ideal) .f32 (IntOp.shli .vector (IntOp.addi (qExp y) 127#32) 23#32)
def qInv (y : EReal) : EReal := FloatOps.ofBits (F := Ideal) .f32 (IntOp.shli .vector (IntOp.subi 127#32 (qExp y)) 23#32)

/-- The largest magnitude of a group, over the format's largest number. -/
def qTop (w : Fin 32 → EReal) : EReal := (Finset.univ.sup fun x => max (w x) (-(w x))) * Ideal.ofBits .f32 991054117#32

/-- Clipping to the format's range. -/
def qClip (a : EReal) : EReal := min (Ideal.ofBits .f32 1138753536#32) (max (Ideal.ofBits .f32 3286237184#32) a)

/-- One group of 32 of a new key or value. -/
def qGroup (X : Fin 4 → Fin 16 → Fin 64 → EReal) (j : Fin 4) (h : Fin 16) (g : Fin 2) : Fin 32 → EReal :=
  fun x => X j h ⟨32 * g.val + x.val, by omega⟩

/-- The scales, the codes, and the codes times the scales. -/
def newScale (X : Fin 4 → Fin 16 → Fin 64 → EReal) (j : Fin 4) (h : Fin 16) (g : Fin 2) : EReal := qScale (qTop (qGroup X j h g))
def newCode (X : Fin 4 → Fin 16 → Fin 64 → EReal) (j : Fin 4) (h : Fin 16) (d : Fin 64) : EReal :=
  qClip (X j h d * qInv (qTop (qGroup X j h ⟨d.val / 32, by omega⟩)))
def newWide (X : Fin 4 → Fin 16 → Fin 64 → EReal) (j : Fin 4) (h : Fin 16) (d : Fin 64) : EReal :=
  newCode X j h d * newScale X j h ⟨d.val / 32, by omega⟩

end Cert.Spec

namespace Cert.KernelIdeal.Hand

open Cert.KernelIdeal.Gen
open Idealize.ShloMosaic Cert.Softmax Cert.Spec
open scoped BigOperators

theorem qGroup_zero (X : Fin 4 → Fin 16 → Fin 64 → EReal) (j : Fin 4) (h : Fin 16) :
    qGroup X j h 0 = fun x => X j h ⟨x.val, by omega⟩ := by
  funext x
  exact congrArg (X j h) (Fin.ext (Nat.zero_add _))
theorem qGroup_one (X : Fin 4 → Fin 16 → Fin 64 → EReal) (j : Fin 4) (h : Fin 16) :
    qGroup X j h 1 = fun x => X j h ⟨32 + x.val, by omega⟩ := rfl

theorem ninf : Ideal.ofBits .f32 4286578688#32 = ⊥ := by simp [Ideal.ofBits, Ideal.ieee]

section

variable (t : S1x4x16x64.Idx → EReal)

/-! ## The searches at one row -/

theorem keyExp0_apply (i : S64x1.Idx) : keyExp0 (F := Ideal) t i = qExp (k0_pay16 (F := Ideal) t i) := rfl
theorem keyExp1_apply (i : S64x1.Idx) : keyExp1 (F := Ideal) t i = qExp (k0_pay26 (F := Ideal) (k0_pay14 t) i) := rfl
theorem valExp0_apply (i : S64x1.Idx) : valExp0 (F := Ideal) t i = qExp (k0_pay38 (F := Ideal) t i) := rfl
theorem valExp1_apply (i : S64x1.Idx) : valExp1 (F := Ideal) t i = qExp (k0_pay47 (F := Ideal) (k0_pay36 t) i) := rfl
theorem keyScale0_apply (i : S64x1.Idx) : keyScale0 (F := Ideal) t i = qScale (k0_pay16 (F := Ideal) t i) := rfl
theorem keyScale1_apply (i : S64x1.Idx) : keyScale1 (F := Ideal) t i = qScale (k0_pay26 (F := Ideal) (k0_pay14 t) i) := rfl
theorem valScale0_apply (i : S64x1.Idx) : valScale0 (F := Ideal) t i = qScale (k0_pay38 (F := Ideal) t i) := rfl
theorem valScale1_apply (i : S64x1.Idx) :
    k0_pay53 (F := Ideal) (valBias1 (F := Ideal) t) 23#32 i = qScale (k0_pay47 (F := Ideal) (k0_pay36 t) i) := rfl

/-! ## The largest magnitudes -/

/-- The tile by position, head and component. -/
abbrev tileOf : Fin 4 → Fin 16 → Fin 64 → EReal := fun j h d => t (ix4 0 j h d)

theorem top_key0 (r : Fin 64) : k0_pay16 (F := Ideal) t (ix2 r 0) = qTop (qGroup (tileOf t) ⟨r.val / 16, by omega⟩ ⟨r.val % 16, by omega⟩ 0) := by
  rw [qGroup_zero]
  unfold qTop
  rw [← fold_max_eq_sup, ← ninf]
  pointwise [k0_pay16, k0_pay15, k0_pay14]
  rfl
theorem top_key1 (r : Fin 64) : k0_pay26 (F := Ideal) (k0_pay14 t) (ix2 r 0) = qTop (qGroup (tileOf t) ⟨r.val / 16, by omega⟩ ⟨r.val % 16, by omega⟩ 1) := by
  rw [qGroup_one]
  unfold qTop
  rw [← fold_max_eq_sup, ← ninf]
  pointwise [k0_pay26, k0_pay25, k0_pay14]
  rfl
theorem top_val0 (r : Fin 64) : k0_pay38 (F := Ideal) t (ix2 r 0) = qTop (qGroup (tileOf t) ⟨r.val / 16, by omega⟩ ⟨r.val % 16, by omega⟩ 0) := by
  rw [qGroup_zero]
  unfold qTop
  rw [← fold_max_eq_sup, ← ninf]
  pointwise [k0_pay38, k0_pay37, k0_pay36]
  rfl
theorem top_val1 (r : Fin 64) : k0_pay47 (F := Ideal) (k0_pay36 t) (ix2 r 0) = qTop (qGroup (tileOf t) ⟨r.val / 16, by omega⟩ ⟨r.val % 16, by omega⟩ 1) := by
  rw [qGroup_one]
  unfold qTop
  rw [← fold_max_eq_sup, ← ninf]
  pointwise [k0_pay47, k0_pay46, k0_pay36]
  rfl

/-! ## The codes and the widened codes by row -/

theorem keyLow_apply (r : Fin 64) (d : Fin 32) :
    keyLow (F := Ideal) t (ix2 r d)
    = qClip (k0_pay15 (F := Ideal) t (ix2 r d) * qInv (k0_pay16 (F := Ideal) t (ix2 r 0))) := by
  have h : ∀ i, Ideal.ofBits .f32 (IntOp.shli .vector (IntOp.subi 127#32 (k0_pay20 (F := Ideal) (k0_pay16 t) (k0_pay17 (F := Ideal) t) (k0_pay18 (F := Ideal) t) (k0_pay19 (F := Ideal) t) i)) 23#32)
      = qInv (k0_pay16 (F := Ideal) t i) := fun i => by
    have hE := keyExp0_apply t i
    unfold keyExp0 at hE
    rw [hE]; unfold qInv; rw [Ideal.ofBits_def]
  unfold qClip
  rw [← h]
  pointwise [keyLow, k0_pay24, k0_pay23, k0_pay22]

theorem valLow_apply (r : Fin 64) (d : Fin 32) :
    valLow (F := Ideal) t (ix2 r d)
    = qClip (k0_pay37 (F := Ideal) t (ix2 r d) * qInv (k0_pay38 (F := Ideal) t (ix2 r 0))) := by
  have h : ∀ i, Ideal.ofBits .f32 (IntOp.shli .vector (IntOp.subi 127#32 (k0_pay43 (k0_pay41 (F := Ideal) (k0_pay38 (F := Ideal) t) (k0_pay39 (F := Ideal) t)) (k0_pay42 (F := Ideal) (k0_pay38 (F := Ideal) t) (k0_pay39 (F := Ideal) t)) i)) 23#32)
      = qInv (k0_pay38 (F := Ideal) t i) := fun i => by
    have hE := valExp0_apply t i
    unfold valExp0 at hE
    rw [hE]; unfold qInv; rw [Ideal.ofBits_def]
  unfold qClip
  rw [← h]
  pointwise [valLow, k0_pay45]

theorem keyCodes_apply (r d : Fin 64) : keyCodes (F := Ideal) t (ix2 r d)
    = if h : d.val < 32 then keyLow (F := Ideal) t (ix2 r ⟨d.val, h⟩)
      else qClip (k0_pay25 (F := Ideal) (k0_pay14 t) (ix2 r ⟨d.val - 32, by omega⟩) * qInv (k0_pay26 (F := Ideal) (k0_pay14 t) (ix2 r 0))) := by
  have h : ∀ i, Ideal.ofBits .f32 (IntOp.shli .vector (IntOp.subi 127#32 (k0_pay29 (F := Ideal) (k0_pay26 (k0_pay14 t)) (k0_pay27 (F := Ideal) (k0_pay14 t)) (k0_pay28 (F := Ideal) (k0_pay14 t)) 23#32 i)) 23#32)
      = qInv (k0_pay26 (F := Ideal) (k0_pay14 t) i) := fun i => by
    have hE := keyExp1_apply t i
    unfold keyExp1 at hE
    rw [hE]; unfold qInv; rw [Ideal.ofBits_def]
  unfold qClip
  rw [← h]
  pointwise [keyCodes, k0_pay31]

theorem valCodes_apply (r d : Fin 64) : k0_pay54 (F := Ideal) (valLow t) (k0_pay46 (k0_pay36 t)) (valExp1 (F := Ideal) t) (ix2 r d)
    = if h : d.val < 32 then valLow (F := Ideal) t (ix2 r ⟨d.val, h⟩)
      else qClip (k0_pay46 (F := Ideal) (k0_pay36 t) (ix2 r ⟨d.val - 32, by omega⟩) * qInv (k0_pay47 (F := Ideal) (k0_pay36 t) (ix2 r 0))) := by
  have h : ∀ i, Ideal.ofBits .f32 (IntOp.shli .vector (IntOp.subi 127#32 (valExp1 (F := Ideal) t i)) 23#32)
      = qInv (k0_pay47 (F := Ideal) (k0_pay36 t) i) := fun i =>
    congrArg (fun e => FloatOps.ofBits (F := Ideal) .f32 (IntOp.shli .vector (IntOp.subi 127#32 e) 23#32)) (valExp1_apply t i)
  unfold qClip
  rw [← h]
  pointwise [k0_pay54]

/-! ## The same by position, head and component -/

theorem row_pos (j : Fin 4) (h : Fin 16) : (⟨(j.val * 16 + h.val) / 16, by omega⟩ : Fin 4) = j := Fin.ext (by simp only; omega)
theorem row_head (j : Fin 4) (h : Fin 16) : (⟨(j.val * 16 + h.val) % 16, by omega⟩ : Fin 16) = h := Fin.ext (by simp only; omega)

theorem top_key0' (j : Fin 4) (h : Fin 16) : k0_pay16 (F := Ideal) t (ix2 ⟨j.val * 16 + h.val, by omega⟩ 0) = qTop (qGroup (tileOf t) j h 0) := by
  rw [top_key0]; simp only [row_pos, row_head]
theorem top_key1' (j : Fin 4) (h : Fin 16) : k0_pay26 (F := Ideal) (k0_pay14 t) (ix2 ⟨j.val * 16 + h.val, by omega⟩ 0) = qTop (qGroup (tileOf t) j h 1) := by
  rw [top_key1]; simp only [row_pos, row_head]
theorem top_val0' (j : Fin 4) (h : Fin 16) : k0_pay38 (F := Ideal) t (ix2 ⟨j.val * 16 + h.val, by omega⟩ 0) = qTop (qGroup (tileOf t) j h 0) := by
  rw [top_val0]; simp only [row_pos, row_head]
theorem top_val1' (j : Fin 4) (h : Fin 16) : k0_pay47 (F := Ideal) (k0_pay36 t) (ix2 ⟨j.val * 16 + h.val, by omega⟩ 0) = qTop (qGroup (tileOf t) j h 1) := by
  rw [top_val1]; simp only [row_pos, row_head]

theorem src_key0 (j : Fin 4) (h : Fin 16) (d : Fin 32) : k0_pay15 (F := Ideal) t (ix2 ⟨j.val * 16 + h.val, by omega⟩ d) = t (ix4 0 j h ⟨d.val, by omega⟩) := by
  pointwise [k0_pay15, k0_pay14]
theorem src_key1 (j : Fin 4) (h : Fin 16) (d : Fin 32) : k0_pay25 (F := Ideal) (k0_pay14 t) (ix2 ⟨j.val * 16 + h.val, by omega⟩ d) = t (ix4 0 j h ⟨32 + d.val, by omega⟩) := by
  pointwise [k0_pay25, k0_pay14]
theorem src_val0 (j : Fin 4) (h : Fin 16) (d : Fin 32) : k0_pay37 (F := Ideal) t (ix2 ⟨j.val * 16 + h.val, by omega⟩ d) = t (ix4 0 j h ⟨d.val, by omega⟩) := src_key0 t j h d
theorem src_val1 (j : Fin 4) (h : Fin 16) (d : Fin 32) : k0_pay46 (F := Ideal) (k0_pay36 t) (ix2 ⟨j.val * 16 + h.val, by omega⟩ d) = t (ix4 0 j h ⟨32 + d.val, by omega⟩) := src_key1 t j h d

theorem grp_low (d : Fin 64) (h : d.val < 32) : (⟨d.val / 32, by omega⟩ : Fin 2) = 0 := Fin.ext (by show d.val / 32 = 0; omega)
theorem grp_high (d : Fin 64) (h : ¬ d.val < 32) : (⟨d.val / 32, by omega⟩ : Fin 2) = 1 := Fin.ext (by show d.val / 32 = 1; omega)
theorem comp_high (d : Fin 64) (h : ¬ d.val < 32) : (⟨32 + (d.val - 32), by omega⟩ : Fin 64) = d := Fin.ext (by simp only; omega)

theorem keyCodes_newCode (j : Fin 4) (h : Fin 16) (d : Fin 64) :
    keyCodes (F := Ideal) t (ix2 ⟨j.val * 16 + h.val, by omega⟩ d) = newCode (tileOf t) j h d := by
  rw [keyCodes_apply]
  unfold newCode
  split
  · rename_i hd
    rw [keyLow_apply, src_key0, top_key0', grp_low d hd]
  · rename_i hd
    rw [src_key1, top_key1', grp_high d hd, comp_high d hd]

theorem valCodes_newCode (j : Fin 4) (h : Fin 16) (d : Fin 64) :
    k0_pay54 (F := Ideal) (valLow t) (k0_pay46 (k0_pay36 t)) (valExp1 (F := Ideal) t) (ix2 ⟨j.val * 16 + h.val, by omega⟩ d) = newCode (tileOf t) j h d := by
  rw [valCodes_apply]
  unfold newCode
  split
  · rename_i hd
    rw [valLow_apply, src_val0, top_val0', grp_low d hd]
  · rename_i hd
    rw [src_val1, top_val1', grp_high d hd, comp_high d hd]

/-- What the four quantised windows receive. -/
theorem kCodes_store (j : Fin 4) (h : Fin 16) (d : Fin 64) :
    k0_pay33 (F := Ideal) (keyCodes3 t) (ix4 0 j h d) = newCode (tileOf t) j h d := by
  rw [← keyCodes_newCode]
  show k0_pay33 (F := Ideal) (shapeCast S4x16x64 (keyCodes (F := Ideal) t) shapeCasts_S64x64_S4x16x64) (ix4 0 j h d) = _
  pointwise [k0_pay33]
theorem vCodes_store (j : Fin 4) (h : Fin 16) (d : Fin 64) :
    k0_pay55 (F := Ideal) (valLow t) (k0_pay46 (k0_pay36 t)) (valExp1 (F := Ideal) t) (ix4 0 j h d) = newCode (tileOf t) j h d := by
  rw [← valCodes_newCode]
  pointwise [k0_pay55]
theorem kScale_store (j : Fin 4) (h : Fin 16) (g : Fin 2) :
    k0_pay34 (F := Ideal) (keyScale0 t) (keyScale1 t) (ix4 0 j h g) = newScale (tileOf t) j h g := by
  have e : k0_pay34 (F := Ideal) (keyScale0 t) (keyScale1 t) (ix4 0 j h g)
      = if hg : g.val < 1 then keyScale0 (F := Ideal) t (ix2 ⟨j.val * 16 + h.val, by omega⟩ ⟨g.val, hg⟩)
        else keyScale1 (F := Ideal) t (ix2 ⟨j.val * 16 + h.val, by omega⟩ ⟨g.val - 1, by omega⟩) := by
    pointwise [k0_pay34]
  rw [e]
  unfold newScale
  fin_cases g
  · show keyScale0 (F := Ideal) t (ix2 _ 0) = _
    rw [keyScale0_apply, top_key0']; rfl
  · show keyScale1 (F := Ideal) t (ix2 _ 0) = _
    rw [keyScale1_apply, top_key1']; rfl
theorem vScale_store (j : Fin 4) (h : Fin 16) (g : Fin 2) :
    k0_pay56 (F := Ideal) (valScale0 t) (valBias1 (F := Ideal) t) 23#32 (ix4 0 j h g) = newScale (tileOf t) j h g := by
  have e : k0_pay56 (F := Ideal) (valScale0 t) (valBias1 (F := Ideal) t) 23#32 (ix4 0 j h g)
      = if hg : g.val < 1 then valScale0 (F := Ideal) t (ix2 ⟨j.val * 16 + h.val, by omega⟩ ⟨g.val, hg⟩)
        else k0_pay53 (F := Ideal) (valBias1 (F := Ideal) t) 23#32 (ix2 ⟨j.val * 16 + h.val, by omega⟩ ⟨g.val - 1, by omega⟩) := by
    pointwise [k0_pay56]
  rw [e]
  unfold newScale
  fin_cases g
  · show valScale0 (F := Ideal) t (ix2 _ 0) = _
    rw [valScale0_apply, top_val0']; rfl
  · show k0_pay53 (F := Ideal) (valBias1 (F := Ideal) t) 23#32 (ix2 _ 0) = _
    rw [valScale1_apply, top_val1']; rfl

/-- The widened keys and values. -/
theorem keyWide_apply (j : Fin 4) (h : Fin 16) (d : Fin 64) : keyWide (F := Ideal) t (ix3 j h d) = newWide (tileOf t) j h d := by
  have e : keyWide (F := Ideal) t (ix3 j h d) = keyCodes (F := Ideal) t (ix2 ⟨j.val * 16 + h.val, by omega⟩ d)
      * (if d.val < 32 then keyScale0 (F := Ideal) t (ix2 ⟨j.val * 16 + h.val, by omega⟩ 0)
        else keyScale1 (F := Ideal) t (ix2 ⟨j.val * 16 + h.val, by omega⟩ 0)) := by
    pointwise [keyWide, k0_pay35]
    rfl
  rw [e, keyCodes_newCode, keyScale0_apply, keyScale1_apply, top_key0', top_key1']
  unfold newWide newScale
  split
  · rename_i hd; rw [grp_low d hd]
  · rename_i hd; rw [grp_high d hd]
theorem valWide_apply (j : Fin 4) (h : Fin 16) (d : Fin 64) : valWide (F := Ideal) t (ix3 j h d) = newWide (tileOf t) j h d := by
  have e : valWide (F := Ideal) t (ix3 j h d)
      = k0_pay54 (F := Ideal) (valLow t) (k0_pay46 (k0_pay36 t)) (valExp1 (F := Ideal) t) (ix2 ⟨j.val * 16 + h.val, by omega⟩ d)
      * (if d.val < 32 then valScale0 (F := Ideal) t (ix2 ⟨j.val * 16 + h.val, by omega⟩ 0)
        else k0_pay53 (F := Ideal) (valBias1 (F := Ideal) t) 23#32 (ix2 ⟨j.val * 16 + h.val, by omega⟩ 0)) := by
    pointwise [valWide, k0_pay57]
    rfl
  rw [e, valCodes_newCode, valScale0_apply, valScale1_apply, top_val0', top_val1']
  unfold newWide newScale
  split
  · rename_i hd; rw [grp_low d hd]
  · rename_i hd; rw [grp_high d hd]

end

end Cert.KernelIdeal.Hand
-- ==== Proof.KI.ValChunk.lean ====
module

public import proofs.«01_k».proof.Proof.KI.HeadsChunk
public import proofs.«01_k».proof.Proof.KI.Spec
public import Idealize.ShloMosaic.Lib.Pointwise
public import Idealize.ShloMosaic.Lib.ValueIdx
public import Idealize.ShloMosaic.Lib.WholeRead
public import Idealize.ShloMosaic.Lib.Pipeline.ValueKit

/-! The chunk block's stores at the extended reals: one step of the online softmax, for every head and query row. -/

@[expose] public section

set_option maxRecDepth 16384

noncomputable section

namespace Cert.KernelIdeal.Hand

open Cert.KernelIdeal.Gen
open Idealize.ShloMosaic Cert.Softmax Cert.Spec
open scoped BigOperators

/-- The named constant of the scores. -/
theorem named_lam8 : Named.named (F := Ideal) κ "log2e_8" (φ := .f32) 1043900987#32 = lam8 :=
  IdealRules.named_const.ideal_named_scalar _ _ _ _ rfl

/-- The mask's constant is minus infinity. -/
theorem neg_inf : Ideal.ofBits .f32 4286578688#32 = ⊥ := by simp [Ideal.ofBits, Ideal.ieee]

theorem pay182_apply (a v1 : BitVec 32) (k0 : S1x1x32x1024.Idx → EReal) (s0 : S1x1x1x1024.Idx → EReal)
    (k1 : S1x1x32x1024.Idx → EReal) (s1 : S1x1x1x1024.Idx → EReal) (q : S1x32x64.Idx → EReal) (r : Fin 32) (t : Fin 1024) :
    k0_pay182 (F := Ideal) a v1 k0 s0 k1 s1 q (ix2 r t)
      = Scalar.select (IntOp.cmpi .slt (BitVec.ofNat 32 t.val) (Scalar.subi v1 (Scalar.muli a 1024#32)))
          (((∑ x : Fin 32, q (ix3 0 r ⟨x.val, by omega⟩) * (k0 (ix4 0 0 x t) * s0 (ix4 0 0 0 t)))
            + ∑ x : Fin 32, q (ix3 0 r ⟨32 + x.val, by omega⟩) * (k1 (ix4 0 0 x t) * s1 (ix4 0 0 0 t))) * lam8) (⊥ : EReal) := by
  rw [← named_lam8, ← neg_inf]
  pointwise [k0_pay182, k0_pay181]

theorem pay183_apply (m : S1x32x128.Idx → EReal) (r : Fin 32) :
    k0_pay183 (F := Ideal) m (ix2 r 0) = m (ix3 0 r 0) := by
  pointwise [k0_pay183]

theorem pay184_apply (s : S32x1024.Idx → EReal) (m : S32x1.Idx → EReal) (r : Fin 32) :
    k0_pay184 (F := Ideal) s m (ix2 r 0) = max (m (ix2 r 0)) (Finset.univ.sup fun x => s (ix2 r x)) := by
  rw [← fold_max_eq_sup, ← neg_inf]
  pointwise [k0_pay184]

theorem pay185_apply (s : S32x1024.Idx → EReal) (m : S32x1.Idx → EReal) (r : Fin 32) :
    k0_pay185 (F := Ideal) s m (ix2 r 0) = Ideal.exp2 (m (ix2 r 0) - k0_pay184 (F := Ideal) s m (ix2 r 0)) := by
  pointwise [k0_pay185]
  rfl

theorem pay186_apply (s : S32x1024.Idx → EReal) (m : S32x1.Idx → EReal) (r : Fin 32) (x : Fin 1024) :
    k0_pay186 (F := Ideal) s m (ix2 r x) = Ideal.exp2 (s (ix2 r x) - k0_pay184 (F := Ideal) s m (ix2 r 0)) := by
  pointwise [k0_pay186]
  rfl

theorem pay187_apply (s : S32x1024.Idx → EReal) (m : S32x1.Idx → EReal) (l : S1x32x128.Idx → EReal) (r : Fin 32) :
    k0_pay187 (F := Ideal) s m l (ix2 r 0)
      = l (ix3 0 r 0) * k0_pay185 (F := Ideal) s m (ix2 r 0) + ∑ x, k0_pay186 (F := Ideal) s m (ix2 r x) := by
  pointwise [k0_pay187]

theorem pay188_apply (s : S32x1024.Idx → EReal) (m : S32x1.Idx → EReal) (k0 : S1x1x32x1024.Idx → EReal)
    (s0 : S1x1x1x1024.Idx → EReal) (k1 : S1x1x32x1024.Idx → EReal) (s1 : S1x1x1x1024.Idx → EReal) (r : Fin 32) (d : Fin 64) :
    k0_pay188 (F := Ideal) s m k0 s0 k1 s1 (ix2 r d)
      = ∑ x, k0_pay186 (F := Ideal) s m (ix2 r x)
          * (if h : d.val < 32 then k0 (ix4 0 0 ⟨d.val, h⟩ x) * s0 (ix4 0 0 0 x)
              else k1 (ix4 0 0 ⟨d.val - 32, by omega⟩ x) * s1 (ix4 0 0 0 x)) := by
  pointwise [k0_pay188]

theorem pay189_apply (al : S32x1.Idx → EReal) (pv : S32x64.Idx → EReal) (acc : S1x32x64.Idx → EReal) (r : Fin 32) (d : Fin 64) :
    k0_pay189 (F := Ideal) al pv acc (ix3 0 r d) = acc (ix3 0 r d) * al (ix2 r 0) + pv (ix2 r d) := by
  pointwise [k0_pay189]

theorem pay190_apply (al : S32x1.Idx → EReal) (r : Fin 32) (d : Fin 128) :
    k0_pay190 (F := Ideal) al (ix3 0 r d) = al (ix2 r 0) := by
  pointwise [k0_pay190]

theorem pay191_apply (al : S32x1.Idx → EReal) (r : Fin 32) (d : Fin 128) :
    k0_pay191 (F := Ideal) al (ix3 0 r d) = al (ix2 r 0) := by
  pointwise [k0_pay191]

/-! ## Where a head's rectangles lie -/

theorem rAcc_idx (h : Fin 16) (r : Fin 32) (d : Fin 64) : (rAcc h).toLoadRect.idx (ix3 0 r d) = ix3 h r d := by
  funext a; fin_cases a <;> apply Fin.ext <;> simp [LoadRect.idx]
theorem rRow_idx (h : Fin 16) (r : Fin 32) (d : Fin 128) : (rRow h).toLoadRect.idx (ix3 0 r d) = ix3 h r d := by
  funext a; fin_cases a <;> apply Fin.ext <;> simp [LoadRect.idx]
theorem rCode0_idx (h : Fin 16) (d : Fin 32) (t : Fin 1024) :
    (rCode0 h).toLoadRect.idx (ix4 0 0 d t) = ix4 0 h ⟨d.val, by omega⟩ t := by
  funext a; fin_cases a <;> apply Fin.ext <;> simp [LoadRect.idx]
theorem rCode1_idx (h : Fin 16) (d : Fin 32) (t : Fin 1024) :
    (rCode1 h).toLoadRect.idx (ix4 0 0 d t) = ix4 0 h ⟨32 + d.val, by omega⟩ t := by
  funext a; fin_cases a <;> apply Fin.ext <;> simp [LoadRect.idx]
theorem rScale0_idx (h : Fin 16) (t : Fin 1024) : (rScale0 h).toLoadRect.idx (ix4 0 0 0 t) = ix4 0 h 0 t := by
  funext a; fin_cases a <;> apply Fin.ext <;> simp [LoadRect.idx]
theorem rScale1_idx (h : Fin 16) (t : Fin 1024) : (rScale1 h).toLoadRect.idx (ix4 0 0 0 t) = ix4 0 h 1 t := by
  funext a; fin_cases a <;> apply Fin.ext <;> simp [LoadRect.idx]

theorem eq_ix3_64 (x : S1x32x64.Idx) : x = ix3 0 (x 1) (x 2) := by
  funext a; fin_cases a
  · exact Subsingleton.elim (α := Fin 1) _ _
  · rfl
  · rfl
theorem eq_ix3_128 (x : S1x32x128.Idx) : x = ix3 0 (x 1) (x 2) := by
  funext a; fin_cases a
  · exact Subsingleton.elim (α := Fin 1) _ _
  · rfl
  · rfl

/-! ## The carried buffers: the query, the accumulator, the running maximum and denominator over a set of keys -/

abbrev qT (q : Fin 16 → Fin 32 → Fin 64 → EReal) : S16x32x64.Idx → EReal := fun j => q (j 0) (j 1) (j 2)
abbrev accT (s : Fin 16 → Fin 32 → Key → EReal) (v : Fin 16 → Fin 64 → Key → EReal) (S : Finset Key) : S16x32x64.Idx → EReal :=
  fun j => A (s (j 0) (j 1)) (v (j 0) (j 2)) S
abbrev maxT (s : Fin 16 → Fin 32 → Key → EReal) (S : Finset Key) : S16x32x128.Idx → EReal := fun j => M (s (j 0) (j 1)) S
abbrev denT (s : Fin 16 → Fin 32 → Key → EReal) (S : Finset Key) : S16x32x128.Idx → EReal := fun j => L (s (j 0) (j 1)) S

/-- A list of one store per head covers the buffer, and reads back as one function where each head's payload is that
function's slab. -/
theorem canon_heads_acc (f : (h : Fin 16) → S1x32x64.Idx → EReal) (G : S16x32x64.Idx → EReal)
    (hf : ∀ h r d, f h (ix3 0 r d) = G (ix3 h r d)) :
    (∀ y, ∃ p ∈ (heads fun h => (⟨rAcc h, f h⟩ : View.Piece (Elt Ideal) S16x32x64 .f32)), y ∈ p.1.set)
    ∧ View.canon (heads fun h => (⟨rAcc h, f h⟩ : View.Piece (Elt Ideal) S16x32x64 .f32)) = G := by
  have hc : ∀ y, ∃ p ∈ (heads fun h => (⟨rAcc h, f h⟩ : View.Piece (Elt Ideal) S16x32x64 .f32)), y ∈ p.1.set := fun y => by
    refine ⟨_, (mem_heads _ _).2 ⟨y 0, rfl⟩, ?_⟩
    show y ∈ (rAcc (y 0)).set
    rw [Rect.mem_set_unit]
    intro a
    have h1 := (y 1).isLt
    have h2 := (y 2).isLt
    fin_cases a
    · exact ⟨Nat.le_refl _, Nat.lt_succ_self _⟩
    · exact ⟨Nat.zero_le _, by show (y 1).val < 0 + _; rw [Nat.zero_add]; exact h1⟩
    · exact ⟨Nat.zero_le _, by show (y 2).val < 0 + _; rw [Nat.zero_add]; exact h2⟩
  refine ⟨hc, funext fun y => View.canon_apply_of_pieces G _ (fun p hp x => ?_) y (hc y)⟩
  obtain ⟨h, rfl⟩ := (mem_heads _ _).1 hp
  exact (congrArg (f h) (eq_ix3_64 x)).trans ((hf h _ _).trans
    (congrArg G ((rAcc_idx h _ _).symm.trans (congrArg (rAcc h).toLoadRect.idx (eq_ix3_64 x).symm))))

theorem canon_heads_row (f : (h : Fin 16) → S1x32x128.Idx → EReal) (G : S16x32x128.Idx → EReal)
    (hf : ∀ h r d, f h (ix3 0 r d) = G (ix3 h r d)) :
    (∀ y, ∃ p ∈ (heads fun h => (⟨rRow h, f h⟩ : View.Piece (Elt Ideal) S16x32x128 .f32)), y ∈ p.1.set)
    ∧ View.canon (heads fun h => (⟨rRow h, f h⟩ : View.Piece (Elt Ideal) S16x32x128 .f32)) = G := by
  have hc : ∀ y, ∃ p ∈ (heads fun h => (⟨rRow h, f h⟩ : View.Piece (Elt Ideal) S16x32x128 .f32)), y ∈ p.1.set := fun y => by
    refine ⟨_, (mem_heads _ _).2 ⟨y 0, rfl⟩, ?_⟩
    show y ∈ (rRow (y 0)).set
    rw [Rect.mem_set_unit]
    intro a
    have h1 := (y 1).isLt
    have h2 := (y 2).isLt
    fin_cases a
    · exact ⟨Nat.le_refl _, Nat.lt_succ_self _⟩
    · exact ⟨Nat.zero_le _, by show (y 1).val < 0 + _; rw [Nat.zero_add]; exact h1⟩
    · exact ⟨Nat.zero_le _, by show (y 2).val < 0 + _; rw [Nat.zero_add]; exact h2⟩
  refine ⟨hc, funext fun y => View.canon_apply_of_pieces G _ (fun p hp x => ?_) y (hc y)⟩
  obtain ⟨h, rfl⟩ := (mem_heads _ _).1 hp
  exact (congrArg (f h) (eq_ix3_128 x)).trans ((hf h _ _).trans
    (congrArg G ((rRow_idx h _ _).symm.trans (congrArg (rRow h).toLoadRect.idx (eq_ix3_128 x).symm))))

variable (c : Dev nD) (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)

/-- The scale group of a component. -/
abbrev grp (d : Fin 64) : Fin 2 := ⟨d.val / 32, by omega⟩

/-- The cache position of place `t` of chunk `kc`. -/
abbrev cached (kc : Fin 16) (t : Fin 1024) : Fin 16384 := ⟨kc.val * 1024 + t.val, by omega⟩

section Step

variable {q : Fin 16 → Fin 32 → Fin 64 → EReal} {kn vn : Fin 4 → Fin 16 → Fin 64 → EReal} {k v : Fin 16 → Fin 64 → Fin 16384 → EReal}
  {n : BitVec 32} {x3 : S1x16x64x1024.Idx → EReal} {x4 : S1x16x2x1024.Idx → EReal} {x5 : S1x16x64x1024.Idx → EReal}
  {x6 : S1x16x2x1024.Idx → EReal} (kc : Fin 16) (hi : (i 1).val = kc.val)
  (hn : ((kc.val * 1024 : ℕ) : ℤ) < n.toInt)
  (hk : ∀ h (d : Fin 64) t, x3 (ix4 0 h d t) * x4 (ix4 0 h (grp d) t) = k h d (cached kc t))
  (hv : ∀ h (d : Fin 64) t, x5 (ix4 0 h d t) * x6 (ix4 0 h (grp d) t) = v h d (cached kc t))

include hi hn hk in
/-- The block's scores are the specification's at the chunk's keys. -/
theorem hScore_apply (h : Fin 16) (r : Fin 32) (t : Fin 1024) :
    hScore (F := Ideal) i arg6 harg6 arg7 harg7 arg15 harg15 x3 x4 (qT q) n h (ix2 r t)
      = score q kn k n h r (chunkKey kc t) := by
  unfold hScore
  rw [hi, pay182_apply, key_masked kc t n hn]
  simp only [Memref.IsWhole.readAt_unread, rAcc_idx, rCode0_idx, rCode1_idx, rScale0_idx, rScale1_idx]
  have h0 : ∀ x : Fin 32, x3 (ix4 0 h ⟨x.val, by omega⟩ t) * x4 (ix4 0 h 0 t) = k h ⟨x.val, by omega⟩ ⟨kc.val * 1024 + t.val, by omega⟩ := fun x => by
    rw [← hk]
    congr 3; apply Fin.ext; simp only; show 0 = _; omega
  have h1 : ∀ x : Fin 32, x3 (ix4 0 h ⟨32 + x.val, by omega⟩ t) * x4 (ix4 0 h 1 t) = k h ⟨32 + x.val, by omega⟩ ⟨kc.val * 1024 + t.val, by omega⟩ := fun x => by
    rw [← hk]
    congr 3; apply Fin.ext; simp only; show 1 = _; omega
  simp only [h0, h1, qT]
  show _ = if ((kc.val * 1024 + t.val : ℕ) : ℤ) < n.toInt then (∑ d, q h r d * k h d ⟨kc.val * 1024 + t.val, _⟩) * lam8 else ⊥
  rw [sum_halves]
  rfl

theorem hMax_apply (s : Fin 16 → Fin 32 → Key → EReal) (S : Finset Key) (h : Fin 16) (r : Fin 32) :
    hMax (F := Ideal) arg17 harg17 (maxT s S) h (ix2 r 0) = M (s h r) S := by
  unfold hMax
  rw [pay183_apply, Memref.IsWhole.readAt_unread, rRow_idx]; rfl

include hi hn hk in
/-- The maximum the chunk leaves. -/
theorem hNew_apply (h : Fin 16) (r : Fin 32) :
    k0_pay184 (F := Ideal) (hScore (F := Ideal) i arg6 harg6 arg7 harg7 arg15 harg15 x3 x4 (qT q) n h)
        (hMax (F := Ideal) arg17 harg17 (maxT (score q kn k n) (upto (kc.val * 1024))) h) (ix2 r 0)
      = M (score q kn k n h r) (upto ((kc.val + 1) * 1024)) := by
  rw [pay184_apply, hMax_apply, upto_succ, M_union]
  simp only [hScore_apply i arg6 harg6 arg7 harg7 arg15 harg15 (kn := kn) kc hi hn hk]
  rw [show Softmax.M (score q kn k n h r) (chunk kc) = _ from sup_chunk kc _]

include hi hn hk hv in
/-- The accumulator the chunk leaves: its stores cover the buffer and read back as one more chunk taken in. -/
theorem chunk_acc : let Ls := (runChunk (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 (qT q)
      (accT (score q kn k n) (value vn v) (upto (kc.val * 1024))) (maxT (score q kn k n) (upto (kc.val * 1024)))
      (denT (score q kn k n) (upto (kc.val * 1024))) n).1
    (∀ y, ∃ p ∈ Ls, y ∈ p.1.set) ∧ View.canon Ls = accT (score q kn k n) (value vn v) (upto ((kc.val + 1) * 1024)) := by
  intro Ls
  rw [show Ls = _ from runChunk_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _]
  refine canon_heads_acc _ _ fun h r d => ?_
  rw [pay189_apply, pay188_apply, pay185_apply]
  simp only [pay186_apply, hNew_apply i arg6 harg6 arg7 harg7 arg15 harg15 arg17 harg17 kc hi hn hk,
    hScore_apply i arg6 harg6 arg7 harg7 arg15 harg15 (kn := kn) kc hi hn hk, hMax_apply,
    Memref.IsWhole.readAt_unread, rAcc_idx, rCode0_idx, rCode1_idx, rScale0_idx, rScale1_idx]
  show _ = A (score q kn k n h r) (value vn v h d) _
  rw [upto_succ, A_union _ _ (upto_disjoint kc), sum_chunk]
  congr 1
  refine Finset.sum_congr rfl fun t _ => ?_
  congr 1
  show _ = v h d ⟨kc.val * 1024 + t.val, _⟩
  rw [← hv]
  split
  · have e2 : grp d = 0 := Fin.ext (by show d.val / 32 = 0; omega)
    rw [e2]
  · have e1 : (⟨32 + (d.val - 32), by omega⟩ : Fin 64) = d := Fin.ext (by simp only; omega)
    have e2 : grp d = 1 := Fin.ext (by show d.val / 32 = 1; omega)
    rw [e1, e2]

include hi hn hk in
/-- The running maximum the chunk leaves. -/
theorem chunk_max (xs1 : S16x32x64.Idx → EReal) (xs3 : S16x32x128.Idx → EReal) : let Ls := (runChunk (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 (qT q)
      xs1 (maxT (score q kn k n) (upto (kc.val * 1024))) xs3 n).2.1
    (∀ y, ∃ p ∈ Ls, y ∈ p.1.set) ∧ View.canon Ls = maxT (score q kn k n) (upto ((kc.val + 1) * 1024)) := by
  intro Ls
  rw [show Ls = _ from runChunk_max c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _]
  refine canon_heads_row _ _ fun h r d => ?_
  rw [pay190_apply, hNew_apply i arg6 harg6 arg7 harg7 arg15 harg15 arg17 harg17 kc hi hn hk]; rfl

include hi hn hk in
/-- The running denominator the chunk leaves. -/
theorem chunk_den (xs1 : S16x32x64.Idx → EReal) : let Ls := (runChunk (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 (qT q)
      xs1 (maxT (score q kn k n) (upto (kc.val * 1024))) (denT (score q kn k n) (upto (kc.val * 1024))) n).2.2.1
    (∀ y, ∃ p ∈ Ls, y ∈ p.1.set) ∧ View.canon Ls = denT (score q kn k n) (upto ((kc.val + 1) * 1024)) := by
  intro Ls
  rw [show Ls = _ from runChunk_den c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _]
  refine canon_heads_row _ _ fun h r d => ?_
  rw [pay191_apply, pay187_apply, pay185_apply]
  simp only [pay186_apply, hNew_apply i arg6 harg6 arg7 harg7 arg15 harg15 arg17 harg17 kc hi hn hk,
    hScore_apply i arg6 harg6 arg7 harg7 arg15 harg15 (kn := kn) kc hi hn hk, hMax_apply,
    Memref.IsWhole.readAt_unread, rRow_idx]
  show _ = L (score q kn k n h r) _
  rw [upto_succ, L_union _ (upto_disjoint kc), sum_chunk]; rfl

end Step

end Cert.KernelIdeal.Hand
-- ==== Proof.KI.ValFirst.lean ====
module

public import proofs.«01_k».proof.Proof.KI.QuantSpec
public import proofs.«01_k».proof.Proof.KI.ValChunk

/-! The first and the last block's stores at the extended reals: the quantised keys and values, the query, the state of the
softmax over the new keys, and the final division. -/

@[expose] public section

set_option maxRecDepth 16384

noncomputable section

namespace Cert.Spec

/-- The query of head `h`, row `r`: position `r / 8`, query head `8 h + r % 8`. -/
def queryOf (x : Fin 4 → Fin 64 → Fin 128 → EReal) (h : Fin 16) (r : Fin 32) (d : Fin 64) : EReal :=
  x ⟨r.val / 8, by omega⟩ d ⟨8 * h.val + r.val % 8, by omega⟩

end Cert.Spec

namespace Cert.KernelIdeal.Hand

open Cert.KernelIdeal.Gen
open Idealize.ShloMosaic Cert.Softmax Cert.Spec
open scoped BigOperators

/-! ## Whole stores -/

abbrev wCode : Rect S1x4x16x64 := Rect.unit (s := S1x4x16x64) ![0, 0, 0, 0] S1x4x16x64.size inb_S1x4x16x64_S1x4x16x64_0_0_0_0
abbrev wScale : Rect S1x4x16x2 := Rect.unit (s := S1x4x16x2) ![0, 0, 0, 0] S1x4x16x2.size inb_S1x4x16x2_S1x4x16x2_0_0_0_0

theorem wCode_idx (x : S1x4x16x64.Idx) : wCode.toLoadRect.idx x = x := by
  funext a; fin_cases a <;> apply Fin.ext <;> simp [LoadRect.idx]
theorem wScale_idx (x : S1x4x16x2.Idx) : wScale.toLoadRect.idx x = x := by
  funext a; fin_cases a <;> apply Fin.ext <;> simp [LoadRect.idx]

theorem eq_ix4_code (x : S1x4x16x64.Idx) : x = ix4 0 (x 1) (x 2) (x 3) := by
  funext a; fin_cases a
  · exact Subsingleton.elim (α := Fin 1) _ _
  · rfl
  · rfl
  · rfl
theorem eq_ix4_scale (x : S1x4x16x2.Idx) : x = ix4 0 (x 1) (x 2) (x 3) := by
  funext a; fin_cases a
  · exact Subsingleton.elim (α := Fin 1) _ _
  · rfl
  · rfl
  · rfl

theorem canon_wCode (f : S1x4x16x64.Idx → EReal) (G : S1x4x16x64.Idx → EReal) (hf : ∀ j h d, f (ix4 0 j h d) = G (ix4 0 j h d)) :
    (∀ y, ∃ p ∈ [(⟨wCode, f⟩ : View.Piece (Elt Ideal) S1x4x16x64 .fp8e4m3)], y ∈ p.1.set)
    ∧ View.canon [(⟨wCode, f⟩ : View.Piece (Elt Ideal) S1x4x16x64 .fp8e4m3)] = G := by
  have hc : ∀ y, ∃ p ∈ [(⟨wCode, f⟩ : View.Piece (Elt Ideal) S1x4x16x64 .fp8e4m3)], y ∈ p.1.set := fun y => by
    refine ⟨_, List.mem_singleton.2 rfl, ?_⟩
    show y ∈ wCode.set
    rw [Rect.mem_set_unit]
    intro a
    have h := (y a).isLt
    fin_cases a <;> exact ⟨Nat.zero_le _, by simpa using h⟩
  refine ⟨hc, funext fun y => View.canon_apply_of_pieces G _ (fun p hp x => ?_) y (hc y)⟩
  rw [List.mem_singleton] at hp
  subst hp
  exact (congrArg f (eq_ix4_code x)).trans ((hf _ _ _).trans
    (congrArg G ((eq_ix4_code x).symm.trans (wCode_idx x).symm)))

theorem canon_wScale (f : S1x4x16x2.Idx → EReal) (G : S1x4x16x2.Idx → EReal) (hf : ∀ j h d, f (ix4 0 j h d) = G (ix4 0 j h d)) :
    (∀ y, ∃ p ∈ [(⟨wScale, f⟩ : View.Piece (Elt Ideal) S1x4x16x2 .f32)], y ∈ p.1.set)
    ∧ View.canon [(⟨wScale, f⟩ : View.Piece (Elt Ideal) S1x4x16x2 .f32)] = G := by
  have hc : ∀ y, ∃ p ∈ [(⟨wScale, f⟩ : View.Piece (Elt Ideal) S1x4x16x2 .f32)], y ∈ p.1.set := fun y => by
    refine ⟨_, List.mem_singleton.2 rfl, ?_⟩
    show y ∈ wScale.set
    rw [Rect.mem_set_unit]
    intro a
    have h := (y a).isLt
    fin_cases a <;> exact ⟨Nat.zero_le _, by simpa using h⟩
  refine ⟨hc, funext fun y => View.canon_apply_of_pieces G _ (fun p hp x => ?_) y (hc y)⟩
  rw [List.mem_singleton] at hp
  subst hp
  exact (congrArg f (eq_ix4_scale x)).trans ((hf _ _ _).trans
    (congrArg G ((eq_ix4_scale x).symm.trans (wScale_idx x).symm)))

/-! ## One position's stores of the query and of the result -/

theorem rQ_idx (s : Fin 4) (h : Fin 16) (g : Fin 8) (d : Fin 64) :
    (rQ s).toLoadRect.idx (ix3 h g d) = ix3 h ⟨8 * s.val + g.val, by omega⟩ d := by
  funext a; fin_cases a <;> apply Fin.ext <;> simp [LoadRect.idx]
theorem rRow1_idx (s : Fin 4) (h : Fin 16) (g : Fin 8) :
    (rRow1 s).toLoadRect.idx (ix3 h g 0) = ix3 h ⟨8 * s.val + g.val, by omega⟩ 0 := by
  funext a; fin_cases a <;> apply Fin.ext <;> simp [LoadRect.idx]
theorem rX_idx (s : Fin 4) (d : Fin 64) (y : Fin 128) : (rX s).toLoadRect.idx (ix4 0 0 d y) = ix4 0 s d y := by
  funext a; fin_cases a <;> apply Fin.ext <;> simp [LoadRect.idx]

theorem eq_ix3_q (x : S16x8x64.Idx) : x = ix3 (x 0) (x 1) (x 2) := by
  funext a; fin_cases a <;> rfl
theorem eq_ix4_x (x : S1x1x64x128.Idx) : x = ix4 0 0 (x 2) (x 3) := by
  funext a; fin_cases a
  · exact Subsingleton.elim (α := Fin 1) _ _
  · exact Subsingleton.elim (α := Fin 1) _ _
  · rfl
  · rfl

theorem pay10_apply (x : S1x1x64x128.Idx → EReal) (h : Fin 16) (g : Fin 8) (d : Fin 64) :
    k0_pay10 (F := Ideal) x (ix3 h g d) = x (ix4 0 0 d ⟨8 * h.val + g.val, by omega⟩) := by
  have e : k0_pay10 (F := Ideal) x (ix3 h g d) = x (ix4 0 0 d ⟨h.val * 8 + g.val, by omega⟩) := by
    pointwise [k0_pay10]
  rw [e]
  exact congrArg (fun y => x (ix4 0 0 d y)) (Fin.ext (by simp only; omega))

theorem oTile_apply (acc : S16x8x64.Idx → EReal) (den : S16x8x1.Idx → EReal) (d : Fin 64) (y : Fin 128) :
    oTile (F := Ideal) acc den (ix4 0 0 d y)
      = Ideal.div (acc (ix3 ⟨y.val / 8, by omega⟩ ⟨y.val % 8, by omega⟩ d)) (den (ix3 ⟨y.val / 8, by omega⟩ ⟨y.val % 8, by omega⟩ 0)) := by
  pointwise [oTile, k0_pay365]

theorem canon_q (f : (s : Fin 4) → S16x8x64.Idx → EReal) (G : S16x32x64.Idx → EReal)
    (hf : ∀ s h g d, f s (ix3 h g d) = G (ix3 h ⟨8 * s.val + g.val, by omega⟩ d)) :
    (∀ y, ∃ p ∈ (positions fun s => (⟨rQ s, f s⟩ : View.Piece (Elt Ideal) S16x32x64 .bf16)), y ∈ p.1.set)
    ∧ View.canon (positions fun s => (⟨rQ s, f s⟩ : View.Piece (Elt Ideal) S16x32x64 .bf16)) = G := by
  have hc : ∀ y, ∃ p ∈ (positions fun s => (⟨rQ s, f s⟩ : View.Piece (Elt Ideal) S16x32x64 .bf16)), y ∈ p.1.set := fun y => by
    have h0 : (y 0).val < 16 := (y 0).isLt
    have h1 : (y 1).val < 32 := (y 1).isLt
    have h2 : (y 2).val < 64 := (y 2).isLt
    refine ⟨_, (mem_positions _ _).2 ⟨⟨(y 1).val / 8, by omega⟩, rfl⟩, ?_⟩
    show y ∈ (rQ ⟨(y 1).val / 8, _⟩).set
    rw [Rect.mem_set_unit]
    intro a
    fin_cases a
    · exact ⟨Nat.zero_le _, by show (y 0).val < 0 + 16; omega⟩
    · exact ⟨by show 8 * ((y 1).val / 8) ≤ (y 1).val; omega, by show (y 1).val < 8 * ((y 1).val / 8) + 8; omega⟩
    · exact ⟨Nat.zero_le _, by show (y 2).val < 0 + 64; omega⟩
  refine ⟨hc, funext fun y => View.canon_apply_of_pieces G _ (fun p hp x => ?_) y (hc y)⟩
  obtain ⟨s, rfl⟩ := (mem_positions _ _).1 hp
  exact (congrArg (f s) (eq_ix3_q x)).trans ((hf s _ _ _).trans
    (congrArg G ((rQ_idx s _ _ _).symm.trans (congrArg (rQ s).toLoadRect.idx (eq_ix3_q x).symm))))

theorem canon_x (f : (s : Fin 4) → S1x1x64x128.Idx → EReal) (G : S1x4x64x128.Idx → EReal)
    (hf : ∀ s d y, f s (ix4 0 0 d y) = G (ix4 0 s d y)) :
    (∀ y, ∃ p ∈ (positions fun s => (⟨rX s, f s⟩ : View.Piece (Elt Ideal) S1x4x64x128 .bf16)), y ∈ p.1.set)
    ∧ View.canon (positions fun s => (⟨rX s, f s⟩ : View.Piece (Elt Ideal) S1x4x64x128 .bf16)) = G := by
  have hc : ∀ y, ∃ p ∈ (positions fun s => (⟨rX s, f s⟩ : View.Piece (Elt Ideal) S1x4x64x128 .bf16)), y ∈ p.1.set := fun y => by
    have h0 : (y 0).val < 1 := (y 0).isLt
    have h1 : (y 1).val < 4 := (y 1).isLt
    have h2 : (y 2).val < 64 := (y 2).isLt
    have h3 : (y 3).val < 128 := (y 3).isLt
    refine ⟨_, (mem_positions _ _).2 ⟨⟨(y 1).val, h1⟩, rfl⟩, ?_⟩
    show y ∈ (rX ⟨(y 1).val, _⟩).set
    rw [Rect.mem_set_unit]
    intro a
    fin_cases a
    · exact ⟨Nat.zero_le _, by show (y 0).val < 0 + 1; omega⟩
    · exact ⟨by show (y 1).val ≤ (y 1).val; omega, by show (y 1).val < (y 1).val + 1; omega⟩
    · exact ⟨Nat.zero_le _, by show (y 2).val < 0 + 64; omega⟩
    · exact ⟨Nat.zero_le _, by show (y 3).val < 0 + 128; omega⟩
  refine ⟨hc, funext fun y => View.canon_apply_of_pieces G _ (fun p hp x => ?_) y (hc y)⟩
  obtain ⟨s, rfl⟩ := (mem_positions _ _).1 hp
  exact (congrArg (f s) (eq_ix4_x x)).trans ((hf s _ _).trans
    (congrArg G ((rX_idx s _ _).symm.trans (congrArg (rX s).toLoadRect.idx (eq_ix4_x x).symm))))

/-! ## One head against the new keys -/

theorem nTile_apply (w : S4x16x64.Idx → EReal) (h : Fin 16) (j : Fin 4) (d : Fin 64) :
    nTile (F := Ideal) w h (ix2 j d) = w (ix3 j h d) := by
  pointwise [nTile]

theorem positions_apply (r : Fin 32) (j : Fin 4) :
    IntOp.cmpi .sle (keyPos (ix2 r j)) (rowPos (ix2 r j)) = if j.val ≤ r.val / 8 then 1#1 else 0#1 := by
  revert r j; decide

theorem nScore_apply (w : S4x16x64.Idx → EReal) (q : S1x32x64.Idx → EReal) (h : Fin 16) (r : Fin 32) (j : Fin 4) :
    nScore (F := Ideal) w q h (ix2 r j)
      = if j.val ≤ r.val / 8 then (∑ d, q (ix3 0 r d) * w (ix3 j h d)) * lam8 else ⊥ := by
  have e : nScore (F := Ideal) w q h (ix2 r j) = Scalar.select (IntOp.cmpi .sle (keyPos (ix2 r j)) (rowPos (ix2 r j)))
      ((∑ d, q (ix3 0 r d) * nTile (F := Ideal) w h (ix2 j d)) * lam8) (⊥ : EReal) := by
    rw [← named_lam8, ← neg_inf]
    pointwise [nScore]
  rw [e, positions_apply]
  simp only [nTile_apply]
  split <;> rfl

theorem nMax_apply (s : S32x4.Idx → EReal) (r : Fin 32) : nMax (F := Ideal) s (ix2 r 0) = Finset.univ.sup fun j => s (ix2 r j) := by
  rw [← fold_max_eq_sup, ← neg_inf]
  pointwise [nMax]

theorem nWeight_apply (s : S32x4.Idx → EReal) (r : Fin 32) (j : Fin 4) :
    nWeight (F := Ideal) s (ix2 r j) = Ideal.exp2 (s (ix2 r j) - nMax (F := Ideal) s (ix2 r 0)) := by
  pointwise [nWeight]
  rfl

theorem nStoreMax_apply (s : S32x4.Idx → EReal) (r : Fin 32) (d : Fin 128) :
    nStoreMax (F := Ideal) s (ix3 0 r d) = nMax (F := Ideal) s (ix2 r 0) := by
  pointwise [nStoreMax]

theorem nStoreDen_apply (s : S32x4.Idx → EReal) (r : Fin 32) (d : Fin 128) :
    nStoreDen (F := Ideal) s (ix3 0 r d) = ∑ j, nWeight (F := Ideal) s (ix2 r j) := by
  pointwise [nStoreDen]

theorem nStoreAcc_apply (s : S32x4.Idx → EReal) (v : S4x64.Idx → EReal) (r : Fin 32) (d : Fin 64) :
    nStoreAcc (F := Ideal) s v (ix3 0 r d) = ∑ j, nWeight (F := Ideal) s (ix2 r j) * v (ix2 j d) := by
  pointwise [nStoreAcc]

variable (c : Dev nD) (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)

section First

variable (x0 : S1x4x64x128.Idx → EReal) (x1 x2 : S1x4x16x64.Idx → EReal)

theorem tileOf_newTile (arg : Memref sig .tc .vmem S1x4x16x64 .bf16) (harg : arg.IsWhole) (x : S1x4x16x64.Idx → EReal) :
    tileOf (newTile (F := Ideal) arg harg x) = tileOf x := by
  funext j h d
  show newTile (F := Ideal) arg harg x (ix4 0 j h d) = _
  unfold newTile
  rw [Memref.IsWhole.readAt_unread]
  exact congrArg x (wCode_idx _)

/-- The four quantised windows. -/
abbrev codeT (X : Fin 4 → Fin 16 → Fin 64 → EReal) : S1x4x16x64.Idx → EReal := fun y => newCode X (y 1) (y 2) (y 3)
abbrev scaleT (X : Fin 4 → Fin 16 → Fin 64 → EReal) : S1x4x16x2.Idx → EReal := fun y => newScale X (y 1) (y 2) (y 3)

theorem first_kCodes : let Ls := (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).1
    (∀ y, ∃ p ∈ Ls, y ∈ p.1.set) ∧ View.canon Ls = codeT (tileOf x1) := by
  intro Ls
  rw [show Ls = _ from runFirst_kCodes (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2]
  exact canon_wCode _ _ fun j h d => by rw [kCodes_store, tileOf_newTile]; rfl

theorem first_kScale : let Ls := (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.1
    (∀ y, ∃ p ∈ Ls, y ∈ p.1.set) ∧ View.canon Ls = scaleT (tileOf x1) := by
  intro Ls
  rw [show Ls = _ from runFirst_kScale (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2]
  exact canon_wScale _ _ fun j h d => by rw [kScale_store, tileOf_newTile]; rfl

theorem first_vCodes : let Ls := (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.1
    (∀ y, ∃ p ∈ Ls, y ∈ p.1.set) ∧ View.canon Ls = codeT (tileOf x2) := by
  intro Ls
  rw [show Ls = _ from runFirst_vCodes (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2]
  exact canon_wCode _ _ fun j h d => by rw [vCodes_store, tileOf_newTile]; rfl

theorem first_vScale : let Ls := (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.1
    (∀ y, ∃ p ∈ Ls, y ∈ p.1.set) ∧ View.canon Ls = scaleT (tileOf x2) := by
  intro Ls
  rw [show Ls = _ from runFirst_vScale (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2]
  exact canon_wScale _ _ fun j h d => by rw [vScale_store, tileOf_newTile]; rfl

/-- The query of the row. -/
abbrev queryT : Fin 16 → Fin 32 → Fin 64 → EReal := queryOf fun s d y => x0 (ix4 0 s d y)

theorem qPieces_spec : (∀ y, ∃ p ∈ qPieces (F := Ideal) arg3 harg3 x0, y ∈ p.1.set)
    ∧ View.canon (qPieces (F := Ideal) arg3 harg3 x0) = qT (queryT x0) := by
  refine canon_q _ _ fun s h g d => ?_
  rw [pay10_apply, Memref.IsWhole.readAt_unread, rX_idx]
  have e1 : (⟨(8 * s.val + g.val) / 8, by omega⟩ : Fin 4) = s := Fin.ext (by simp only; omega)
  have e2 : (⟨8 * h.val + (8 * s.val + g.val) % 8, by omega⟩ : Fin 128) = ⟨8 * h.val + g.val, by omega⟩ := Fin.ext (by simp only; omega)
  show _ = x0 (ix4 0 ⟨(8 * s.val + g.val) / 8, _⟩ d ⟨8 * h.val + (8 * s.val + g.val) % 8, _⟩)
  rw [e1, e2]

theorem first_q : let Ls := (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.1
    (∀ y, ∃ p ∈ Ls, y ∈ p.1.set) ∧ View.canon Ls = qT (queryT x0) := qPieces_spec arg3 harg3 x0

theorem qTile_apply (h : Fin 16) (r : Fin 32) (d : Fin 64) :
    qTile (F := Ideal) arg3 harg3 arg15 x0 h (ix3 0 r d) = queryT x0 h r d := by
  unfold qTile
  rw [View.readCov_eq_canon arg15.view _ _ (fun y => (qPieces_spec arg3 harg3 x0).1 _), (qPieces_spec arg3 harg3 x0).2]
  exact congrArg (qT (queryT x0)) (rAcc_idx h r d)

/-- The row's scores against all keys, whatever the cache holds. -/
abbrev scoreF (k : Fin 16 → Fin 64 → Fin 16384 → EReal) (n : BitVec 32) := score (queryT x0) (newWide (tileOf x1)) k n
abbrev valueF (v : Fin 16 → Fin 64 → Fin 16384 → EReal) := value (newWide (tileOf x2)) v

variable (k v : Fin 16 → Fin 64 → Fin 16384 → EReal) (n : BitVec 32)

theorem fScore_apply (h : Fin 16) (r : Fin 32) (j : Fin 4) :
    fScore (F := Ideal) arg3 harg3 arg4 harg4 arg15 x0 x1 h (ix2 r j) = scoreF x0 x1 k n h r (.inl j) := by
  unfold fScore
  rw [nScore_apply]
  simp only [qTile_apply, keyWide_apply, tileOf_newTile]
  rfl

theorem fMax_apply (h : Fin 16) (r : Fin 32) :
    nMax (F := Ideal) (fScore (F := Ideal) arg3 harg3 arg4 harg4 arg15 x0 x1 h) (ix2 r 0) = M (scoreF x0 x1 k n h r) (upto 0) := by
  rw [nMax_apply]
  simp only [fScore_apply arg3 harg3 arg4 harg4 arg15 x0 x1 k n]
  exact (sup_new _).symm

theorem fWeight_apply (h : Fin 16) (r : Fin 32) (j : Fin 4) :
    nWeight (F := Ideal) (fScore (F := Ideal) arg3 harg3 arg4 harg4 arg15 x0 x1 h) (ix2 r j)
      = Ideal.exp2 (scoreF x0 x1 k n h r (.inl j) - M (scoreF x0 x1 k n h r) (upto 0)) := by
  rw [nWeight_apply, fMax_apply arg3 harg3 arg4 harg4 arg15 x0 x1 k n, fScore_apply arg3 harg3 arg4 harg4 arg15 x0 x1 k n]

theorem first_acc : let Ls := (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.2.1
    (∀ y, ∃ p ∈ Ls, y ∈ p.1.set) ∧ View.canon Ls = accT (scoreF x0 x1 k n) (valueF x2 v) (upto 0) := by
  intro Ls
  rw [show Ls = _ from runFirst_acc (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2]
  refine canon_heads_acc _ _ fun h r d => ?_
  rw [nStoreAcc_apply]
  simp only [fWeight_apply arg3 harg3 arg4 harg4 arg15 x0 x1 k n, nTile_apply, valWide_apply, tileOf_newTile]
  exact (sum_new fun y => Ideal.exp2 (scoreF x0 x1 k n h r y - M (scoreF x0 x1 k n h r) (upto 0)) * valueF x2 v h d y).symm

theorem first_max : let Ls := (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.2.2.1
    (∀ y, ∃ p ∈ Ls, y ∈ p.1.set) ∧ View.canon Ls = maxT (scoreF x0 x1 k n) (upto 0) := by
  intro Ls
  rw [show Ls = _ from runFirst_max (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2]
  refine canon_heads_row _ _ fun h r d => ?_
  rw [nStoreMax_apply, fMax_apply arg3 harg3 arg4 harg4 arg15 x0 x1 k n]; rfl

theorem first_den : let Ls := (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.2.2.2.1
    (∀ y, ∃ p ∈ Ls, y ∈ p.1.set) ∧ View.canon Ls = denT (scoreF x0 x1 k n) (upto 0) := by
  intro Ls
  rw [show Ls = _ from runFirst_den (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2]
  refine canon_heads_row _ _ fun h r d => ?_
  rw [nStoreDen_apply]
  simp only [fWeight_apply arg3 harg3 arg4 harg4 arg15 x0 x1 k n]
  exact (sum_new fun y => Ideal.exp2 (scoreF x0 x1 k n h r y - M (scoreF x0 x1 k n h r) (upto 0))).symm

end First

/-- The result window: accumulator over denominator. -/
abbrev outT (s : Fin 16 → Fin 32 → Key → EReal) (v : Fin 16 → Fin 64 → Key → EReal) (S : Finset Key) : S1x4x64x128.Idx → EReal :=
  fun y => Ideal.div
    (A (s ⟨(y 3).val / 8, by have h : (y 3).val < 128 := (y 3).isLt; omega⟩ ⟨8 * (y 1).val + (y 3).val % 8, by have h : (y 1).val < 4 := (y 1).isLt; omega⟩)
      (v ⟨(y 3).val / 8, by have h : (y 3).val < 128 := (y 3).isLt; omega⟩ (y 2)) S)
    (L (s ⟨(y 3).val / 8, by have h : (y 3).val < 128 := (y 3).isLt; omega⟩ ⟨8 * (y 1).val + (y 3).val % 8, by have h : (y 1).val < 4 := (y 1).isLt; omega⟩) S)

theorem last_out (s : Fin 16 → Fin 32 → Key → EReal) (v : Fin 16 → Fin 64 → Key → EReal) (S : Finset Key) :
    let Ls := (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (accT s v S) (denT s S)).1
    (∀ y, ∃ p ∈ Ls, y ∈ p.1.set) ∧ View.canon Ls = outT s v S := by
  intro Ls
  rw [show Ls = _ from runLast_out (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _]
  refine canon_x _ _ fun p d y => ?_
  rw [oTile_apply, Memref.IsWhole.readAt_unread, Memref.IsWhole.readAt_unread, rQ_idx, rRow1_idx]
  rfl

end Cert.KernelIdeal.Hand
-- ==== Proof.KI.Rows.lean ====
module

public import proofs.«01_k».proof.Proof.KI.Runs
public import proofs.«01_k».proof.Proof.KI.ValFirst
public import proofs.«01_k».proof.Proof.BlockIx
public import Idealize.ShloMosaic.Lib.Pipeline.ValueKit

/-! The rows of the batch: what the windows' blocks hold at the points of a row, read off the arrays as the kernel finds
them. -/

@[expose] public section

set_option maxRecDepth 16384

noncomputable section

namespace Cert.KernelIdeal.Hand

open Cert.KernelIdeal.Gen Cert.Softmax Cert.Spec Cert.BlockIx
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ) (hO : Ok m) (c : Dev nD)

/-- The row and the chunk of a point. -/
def rowOf (n : ℕ) : Fin 17 := ⟨n / 16 % 17, Nat.mod_lt _ (by decide)⟩
def chunkOf (n : ℕ) : Fin 16 := ⟨n % 16, Nat.mod_lt _ (by decide)⟩

theorem coord_row (t : Fin grid0.N) : (grid0.coords t 0).val = (rowOf t.val).val := Pipeline.Grid.coords_val t 0 (by decide) rfl
theorem coord_chunk (t : Fin grid0.N) : (grid0.coords t 1).val = (chunkOf t.val).val :=
  (show (grid0.coords t 1).val = t.val / 1 % 16 from Pipeline.Grid.coords_val t 1 (by decide) rfl).trans (by rw [Nat.div_one]; rfl)

/-- Row `b`'s query block, new keys and new values. -/
def rowX (b : Fin 17) : S1x4x64x128.Idx → EReal := fun y => V m c main_v0 (ix4 b (y 1) (y 2) (y 3))
def rowK (b : Fin 17) : S1x4x16x64.Idx → EReal := fun y => V m c main_arg1 (ix4 b (y 1) (y 2) (y 3))
def rowV (b : Fin 17) : S1x4x16x64.Idx → EReal := fun y => V m c main_arg2 (ix4 b (y 1) (y 2) (y 3))

/-- The cache's codes and scales, transposed. -/
def codesK : S17x16x64x16384.Idx → EReal := V m c main_v1
def codesV : S17x16x64x16384.Idx → EReal := V m c main_v2
def scalesK : S17x16x2x16384.Idx → EReal := V m c main_v3
def scalesV : S17x16x2x16384.Idx → EReal := V m c main_v4

/-- Row `b`'s cached keys and values, and its number of cached positions. -/
def cacheK (b : Fin 17) (h : Fin 16) (d : Fin 64) (t : Fin 16384) : EReal :=
  codesK m c (ix4 b h d t) * scalesK m c (ix4 b h (grp d) t)
def cacheV (b : Fin 17) (h : Fin 16) (d : Fin 64) (t : Fin 16384) : EReal :=
  codesV m c (ix4 b h d t) * scalesV m c (ix4 b h (grp d) t)
def len (b : Fin 17) : BitVec 32 := tbl m 0 (ix1 b)

/-- Row `b`'s queries, scores and values. -/
def rowQ (b : Fin 17) : Fin 16 → Fin 32 → Fin 64 → EReal := queryT (rowX m c b)
def rowScore (b : Fin 17) : Fin 16 → Fin 32 → Key → EReal := scoreF (rowX m c b) (rowK m c b) (cacheK m c b) (len m b)
def rowValue (b : Fin 17) : Fin 16 → Fin 64 → Key → EReal := valueF (rowV m c b) (cacheV m c b)

theorem zero_block {a k y : ℕ} (h : a = 0) : a * k + y = y := by rw [h]; omega

theorem word_toNat {n b : ℕ} (h : n = b) (hb : b < 17) : (BitVec.ofNat 32 n).toNat = b := by
  rw [BitVec.toNat_ofNat]; omega

theorem idx_0 (t : Fin grid0.N) : ((pcfg0 (F := Ideal)).win (adm m hO) 0).index t = ![(rowOf t.val).val, 0, 0, 0] := by
  show ![(BitVec.ofNat 32 (grid0.coords t 0).val).toNat, 0, 0, 0] = _
  rw [word_toNat (coord_row t) (rowOf t.val).isLt]

theorem idx_1 (t : Fin grid0.N) : ((pcfg0 (F := Ideal)).win (adm m hO) 1).index t = ![(rowOf t.val).val, 0, 0, 0] := by
  show ![(BitVec.ofNat 32 (grid0.coords t 0).val).toNat, 0, 0, 0] = _
  rw [word_toNat (coord_row t) (rowOf t.val).isLt]

theorem idx_2 (t : Fin grid0.N) : ((pcfg0 (F := Ideal)).win (adm m hO) 2).index t = ![(rowOf t.val).val, 0, 0, 0] := by
  show ![(BitVec.ofNat 32 (grid0.coords t 0).val).toNat, 0, 0, 0] = _
  rw [word_toNat (coord_row t) (rowOf t.val).isLt]

theorem idx_7 (t : Fin grid0.N) : ((pcfg0 (F := Ideal)).win (adm m hO) 7).index t = ![(rowOf t.val).val, 0, 0, 0] := by
  show ![(BitVec.ofNat 32 (grid0.coords t 0).val).toNat, 0, 0, 0] = _
  rw [word_toNat (coord_row t) (rowOf t.val).isLt]

theorem idx_8 (t : Fin grid0.N) : ((pcfg0 (F := Ideal)).win (adm m hO) 8).index t = ![(rowOf t.val).val, 0, 0, 0] := by
  show ![(BitVec.ofNat 32 (grid0.coords t 0).val).toNat, 0, 0, 0] = _
  rw [word_toNat (coord_row t) (rowOf t.val).isLt]

theorem idx_9 (t : Fin grid0.N) : ((pcfg0 (F := Ideal)).win (adm m hO) 9).index t = ![(rowOf t.val).val, 0, 0, 0] := by
  show ![(BitVec.ofNat 32 (grid0.coords t 0).val).toNat, 0, 0, 0] = _
  rw [word_toNat (coord_row t) (rowOf t.val).isLt]

theorem idx_10 (t : Fin grid0.N) : ((pcfg0 (F := Ideal)).win (adm m hO) 10).index t = ![(rowOf t.val).val, 0, 0, 0] := by
  show ![(BitVec.ofNat 32 (grid0.coords t 0).val).toNat, 0, 0, 0] = _
  rw [word_toNat (coord_row t) (rowOf t.val).isLt]

theorem idx_11 (t : Fin grid0.N) : ((pcfg0 (F := Ideal)).win (adm m hO) 11).index t = ![(rowOf t.val).val, 0, 0, 0] := by
  show ![(BitVec.ofNat 32 (grid0.coords t 0).val).toNat, 0, 0, 0] = _
  rw [word_toNat (coord_row t) (rowOf t.val).isLt]

theorem iblk_x (t : Fin (cfgM m hO).N) : iblk m hO c 0 t = rowX m c (rowOf t.val) := by
  funext y
  unfold rowX
  blk_ext [iblk]
  · exact congrFun (idx_0 m hO t) 0
  · exact zero_block (congrFun (idx_0 m hO t) 1)
  · exact zero_block (congrFun (idx_0 m hO t) 2)
  · exact zero_block (congrFun (idx_0 m hO t) 3)

theorem iblk_k (t : Fin (cfgM m hO).N) : iblk m hO c 1 t = rowK m c (rowOf t.val) := by
  funext y
  unfold rowK
  blk_ext [iblk]
  · exact congrFun (idx_1 m hO t) 0
  · exact zero_block (congrFun (idx_1 m hO t) 1)
  · exact zero_block (congrFun (idx_1 m hO t) 2)
  · exact zero_block (congrFun (idx_1 m hO t) 3)

theorem iblk_v (t : Fin (cfgM m hO).N) : iblk m hO c 2 t = rowV m c (rowOf t.val) := by
  funext y
  unfold rowV
  blk_ext [iblk]
  · exact congrFun (idx_2 m hO t) 0
  · exact zero_block (congrFun (idx_2 m hO t) 1)
  · exact zero_block (congrFun (idx_2 m hO t) 2)
  · exact zero_block (congrFun (idx_2 m hO t) 3)

theorem off_toNat (i : grid0.Coords) : (Scalar.indexCast (BitVec.ofNat 32 (i 0).val)).toNat = (i 0).val := by
  have : (i 0).val < 17 := (i 0).isLt
  show (BitVec.ofNat 32 (i 0).val).toNat = _
  rw [BitVec.toNat_ofNat]; omega

/-- The word the body loads at a point is the row's number of cached positions. -/
theorem word_eq (t : Fin grid0.N) :
    (tbl m).at 0 (Rect.unit (s := S17) (k0_off1 (grid0.coords t)) S1.size (k0_off1_inb (grid0.coords t))) numel1_S1
      = len m (rowOf t.val) := by
  unfold len
  refine congrArg (tbl m 0) (funext fun a => Fin.ext ?_)
  fin_cases a
  show (Scalar.indexCast (BitVec.ofNat 32 (grid0.coords t 0).val)).toNat + _ = (rowOf t.val).val
  rw [off_toNat, coord_row]
  rfl

theorem idx_3 (t : Fin grid0.N) (hn : (((chunkOf t.val).val * 1024 : ℕ) : ℤ) < (len m (rowOf t.val)).toInt) :
    ((pcfg0 (F := Ideal)).win (adm m hO) 3).index t = ![(rowOf t.val).val, 0, 0, (chunkOf t.val).val] := by
  show ![(BitVec.ofNat 32 (grid0.coords t 0).val).toNat, 0, 0,
    (Scalar.minsi (BitVec.ofNat 32 (grid0.coords t 1).val) (lastBlk ((tbl m).at 0 (Rect.unit (s := S17) (k0_off1 (grid0.coords t)) S1.size (k0_off1_inb (grid0.coords t))) numel1_S1))).toNat] = _
  rw [word_toNat (coord_row t) (rowOf t.val).isLt, word_eq, coord_chunk, minsi_lastBlk_eq _ (chunkOf t.val).isLt _ (by exact_mod_cast hn)]

theorem idx_4 (t : Fin grid0.N) (hn : (((chunkOf t.val).val * 1024 : ℕ) : ℤ) < (len m (rowOf t.val)).toInt) :
    ((pcfg0 (F := Ideal)).win (adm m hO) 4).index t = ![(rowOf t.val).val, 0, 0, (chunkOf t.val).val] := by
  show ![(BitVec.ofNat 32 (grid0.coords t 0).val).toNat, 0, 0,
    (Scalar.minsi (BitVec.ofNat 32 (grid0.coords t 1).val) (lastBlk ((tbl m).at 0 (Rect.unit (s := S17) (k0_off1 (grid0.coords t)) S1.size (k0_off1_inb (grid0.coords t))) numel1_S1))).toNat] = _
  rw [word_toNat (coord_row t) (rowOf t.val).isLt, word_eq, coord_chunk, minsi_lastBlk_eq _ (chunkOf t.val).isLt _ (by exact_mod_cast hn)]

theorem idx_5 (t : Fin grid0.N) (hn : (((chunkOf t.val).val * 1024 : ℕ) : ℤ) < (len m (rowOf t.val)).toInt) :
    ((pcfg0 (F := Ideal)).win (adm m hO) 5).index t = ![(rowOf t.val).val, 0, 0, (chunkOf t.val).val] := by
  show ![(BitVec.ofNat 32 (grid0.coords t 0).val).toNat, 0, 0,
    (Scalar.minsi (BitVec.ofNat 32 (grid0.coords t 1).val) (lastBlk ((tbl m).at 0 (Rect.unit (s := S17) (k0_off1 (grid0.coords t)) S1.size (k0_off1_inb (grid0.coords t))) numel1_S1))).toNat] = _
  rw [word_toNat (coord_row t) (rowOf t.val).isLt, word_eq, coord_chunk, minsi_lastBlk_eq _ (chunkOf t.val).isLt _ (by exact_mod_cast hn)]

theorem idx_6 (t : Fin grid0.N) (hn : (((chunkOf t.val).val * 1024 : ℕ) : ℤ) < (len m (rowOf t.val)).toInt) :
    ((pcfg0 (F := Ideal)).win (adm m hO) 6).index t = ![(rowOf t.val).val, 0, 0, (chunkOf t.val).val] := by
  show ![(BitVec.ofNat 32 (grid0.coords t 0).val).toNat, 0, 0,
    (Scalar.minsi (BitVec.ofNat 32 (grid0.coords t 1).val) (lastBlk ((tbl m).at 0 (Rect.unit (s := S17) (k0_off1 (grid0.coords t)) S1.size (k0_off1_inb (grid0.coords t))) numel1_S1))).toNat] = _
  rw [word_toNat (coord_row t) (rowOf t.val).isLt, word_eq, coord_chunk, minsi_lastBlk_eq _ (chunkOf t.val).isLt _ (by exact_mod_cast hn)]

theorem iblk_kc (t : Fin (cfgM m hO).N) (hn : (((chunkOf t.val).val * 1024 : ℕ) : ℤ) < (len m (rowOf t.val)).toInt)
    (h : Fin 16) (d : Fin 64) (x : Fin 1024) :
    iblk m hO c 3 t (ix4 0 h d x) = codesK m c (ix4 (rowOf t.val) h d (cached (chunkOf t.val) x)) := by
  unfold codesK
  blk_ext [iblk]
  · exact congrFun (idx_3 m hO t hn) 0
  · exact zero_block (congrFun (idx_3 m hO t hn) 1)
  · exact zero_block (congrFun (idx_3 m hO t hn) 2)
  · exact congrArg (fun z => z * 1024 + x.val) (congrFun (idx_3 m hO t hn) 3)

theorem iblk_vc (t : Fin (cfgM m hO).N) (hn : (((chunkOf t.val).val * 1024 : ℕ) : ℤ) < (len m (rowOf t.val)).toInt)
    (h : Fin 16) (d : Fin 64) (x : Fin 1024) :
    iblk m hO c 5 t (ix4 0 h d x) = codesV m c (ix4 (rowOf t.val) h d (cached (chunkOf t.val) x)) := by
  unfold codesV
  blk_ext [iblk]
  · exact congrFun (idx_5 m hO t hn) 0
  · exact zero_block (congrFun (idx_5 m hO t hn) 1)
  · exact zero_block (congrFun (idx_5 m hO t hn) 2)
  · exact congrArg (fun z => z * 1024 + x.val) (congrFun (idx_5 m hO t hn) 3)

theorem iblk_ks (t : Fin (cfgM m hO).N) (hn : (((chunkOf t.val).val * 1024 : ℕ) : ℤ) < (len m (rowOf t.val)).toInt)
    (h : Fin 16) (g : Fin 2) (x : Fin 1024) :
    iblk m hO c 4 t (ix4 0 h g x) = scalesK m c (ix4 (rowOf t.val) h g (cached (chunkOf t.val) x)) := by
  unfold scalesK
  blk_ext [iblk]
  · exact congrFun (idx_4 m hO t hn) 0
  · exact zero_block (congrFun (idx_4 m hO t hn) 1)
  · exact zero_block (congrFun (idx_4 m hO t hn) 2)
  · exact congrArg (fun z => z * 1024 + x.val) (congrFun (idx_4 m hO t hn) 3)

theorem iblk_vs (t : Fin (cfgM m hO).N) (hn : (((chunkOf t.val).val * 1024 : ℕ) : ℤ) < (len m (rowOf t.val)).toInt)
    (h : Fin 16) (g : Fin 2) (x : Fin 1024) :
    iblk m hO c 6 t (ix4 0 h g x) = scalesV m c (ix4 (rowOf t.val) h g (cached (chunkOf t.val) x)) := by
  unfold scalesV
  blk_ext [iblk]
  · exact congrFun (idx_6 m hO t hn) 0
  · exact zero_block (congrFun (idx_6 m hO t hn) 1)
  · exact zero_block (congrFun (idx_6 m hO t hn) 2)
  · exact congrArg (fun z => z * 1024 + x.val) (congrFun (idx_6 m hO t hn) 3)

end Cert.KernelIdeal.Hand

end
-- ==== Proof.KI.Steps.lean ====
module

public import proofs.«01_k».proof.Proof.KI.RunFirst
public import proofs.«01_k».proof.Proof.KI.RunChunk
public import proofs.«01_k».proof.Proof.KI.RunLast
public import proofs.«01_k».proof.Proof.KI.ValFirst

/-! The three blocks of the body as steps between states of the online softmax, at the extended reals: what each one
finds in the buffers and what it leaves. -/

@[expose] public section

set_option maxRecDepth 16384

noncomputable section

namespace Cert.KernelIdeal.Hand

open Cert.KernelIdeal.Gen Cert.Softmax Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A buffer written by pieces that cover it and read back as `T` holds `T`. -/
theorem owns_of_writes {s : Shape} {e : EltTy} (c : Dev nD) (M : Memref sig .tc .vmem s e)
    (L : List (View.Piece (Elt Ideal) s e)) (T : s.Idx → Elt Ideal e)
    (h : (∀ y, ∃ p ∈ L, y ∈ p.1.set) ∧ View.canon L = T) :
    iprop(∃ f, M.view.loc (c : Thread nD τ) ↦[M.view.set]{fullShare} M.view.writes (Elt Ideal) f L)
      ⊢ (owns (c : Thread nD τ) M fullShare T : sProp 𝕄) := by
  iintro ⟨%f, H⟩
  unfold owns
  iexists _
  isplitr
  swap
  · iexact H
  ipureintro
  rw [View.read_writes_eq_canon _ _ _ h.1, h.2]

/-- The state does not move over keys whose score is minus infinity. -/
theorem state_masked (s : Fin 16 → Fin 32 → Key → EReal) (v : Fin 16 → Fin 64 → Key → EReal) (kc : Fin 16)
    (h : ∀ a r, ∀ x ∈ chunk kc, s a r x = ⊥) :
    accT s v (upto ((kc.val + 1) * 1024)) = accT s v (upto (kc.val * 1024))
      ∧ maxT s (upto ((kc.val + 1) * 1024)) = maxT s (upto (kc.val * 1024))
      ∧ denT s (upto ((kc.val + 1) * 1024)) = denT s (upto (kc.val * 1024)) := by
  have hm := fun a r w => masked (s a r) w (upto_disjoint kc) (h a r)
  rw [upto_succ]
  exact ⟨funext fun y => (hm _ _ _).2.2, funext fun y => (hm _ _ fun _ => 0).1, funext fun y => (hm _ _ fun _ => 0).2.1⟩

/-- A chunk past the cached positions has no key that counts. -/
theorem score_bot (q : Fin 16 → Fin 32 → Fin 64 → EReal) (kn : Fin 4 → Fin 16 → Fin 64 → EReal)
    (k : Fin 16 → Fin 64 → Fin 16384 → EReal) (n : BitVec 32) (kc : Fin 16) (hn : ¬ ((kc.val * 1024 : ℕ) : ℤ) < n.toInt)
    (a : Fin 16) (r : Fin 32) (x : Key) (hx : x ∈ chunk kc) : score q kn k n a r x = ⊥ := by
  rcases x with j | t
  · exact absurd hx (by simp [chunk, chunkKey])
  · have := (mem_chunk_inr kc t).1 hx
    exact if_neg (by push_cast at hn ⊢; omega)

variable (c : Dev nD) (i : grid0.Coords) (arg2 : Memref sig .tc .smem S17 .i32) (harg2 : arg2.IsWhole)
    (arg3 : Memref sig .tc .vmem S1x4x64x128 .bf16) (harg3 : arg3.IsWhole)
    (arg4 : Memref sig .tc .vmem S1x4x16x64 .bf16) (harg4 : arg4.IsWhole)
    (arg5 : Memref sig .tc .vmem S1x4x16x64 .bf16) (harg5 : arg5.IsWhole)
    (arg6 : Memref sig .tc .vmem S1x16x64x1024 .fp8e4m3) (harg6 : arg6.IsWhole)
    (arg7 : Memref sig .tc .vmem S1x16x2x1024 .f32) (harg7 : arg7.IsWhole)
    (arg8 : Memref sig .tc .vmem S1x16x64x1024 .fp8e4m3) (harg8 : arg8.IsWhole)
    (arg9 : Memref sig .tc .vmem S1x16x2x1024 .f32) (harg9 : arg9.IsWhole)
    (arg10 : Memref sig .tc .vmem S1x4x64x128 .bf16) (harg10 : arg10.IsWhole)
    (arg11 : Memref sig .tc .vmem S1x4x16x64 .fp8e4m3) (harg11 : arg11.IsWhole)
    (arg12 : Memref sig .tc .vmem S1x4x16x2 .f32) (harg12 : arg12.IsWhole)
    (arg13 : Memref sig .tc .vmem S1x4x16x64 .fp8e4m3) (harg13 : arg13.IsWhole)
    (arg14 : Memref sig .tc .vmem S1x4x16x2 .f32) (harg14 : arg14.IsWhole)
    (arg15 : Memref sig .tc .vmem S16x32x64 .bf16) (harg15 : arg15.IsWhole)
    (arg16 : Memref sig .tc .vmem S16x32x64 .f32) (harg16 : arg16.IsWhole)
    (arg17 : Memref sig .tc .vmem S16x32x128 .f32) (harg17 : arg17.IsWhole)
    (arg18 : Memref sig .tc .vmem S16x32x128 .f32) (harg18 : arg18.IsWhole)

/-- The carried buffers at a state of the softmax. -/
abbrev carried (q : Fin 16 → Fin 32 → Fin 64 → EReal) (s : Fin 16 → Fin 32 → Key → EReal) (v : Fin 16 → Fin 64 → Key → EReal)
    (S : Finset Key) : sProp 𝕄 :=
  iprop(owns (c : Thread nD τ) arg15 fullShare (qT q) ∗ owns (c : Thread nD τ) arg16 fullShare (accT s v S)
    ∗ owns (c : Thread nD τ) arg17 fullShare (maxT s S) ∗ owns (c : Thread nD τ) arg18 fullShare (denT s S))

section Chunk

variable (q : Fin 16 → Fin 32 → Fin 64 → EReal) (kn vn : Fin 4 → Fin 16 → Fin 64 → EReal) (k v : Fin 16 → Fin 64 → Fin 16384 → EReal)
  (n : BitVec 32) (x3 : S1x16x64x1024.Idx → EReal) (x4 : S1x16x2x1024.Idx → EReal) (x5 : S1x16x64x1024.Idx → EReal)
  (x6 : S1x16x2x1024.Idx → EReal) (kc : Fin 16) (hi : (i 1).val = kc.val)
  (hk : ((kc.val * 1024 : ℕ) : ℤ) < n.toInt → ∀ h (d : Fin 64) t, x3 (ix4 0 h d t) * x4 (ix4 0 h (grp d) t) = k h d (cached kc t))
  (hv : ((kc.val * 1024 : ℕ) : ℤ) < n.toInt → ∀ h (d : Fin 64) t, x5 (ix4 0 h d t) * x6 (ix4 0 h (grp d) t) = v h d (cached kc t))

include hi hk hv in
/-- The chunk of the point: whether it holds cached positions or not, the state takes its keys in. -/
theorem afterFirst_step (E : Set ℕ) (K : PUnit → sProp 𝕄) :
    iprop(owns (c : Thread nD τ) arg6 fullShare x3 ∗ owns (c : Thread nD τ) arg7 fullShare x4
      ∗ owns (c : Thread nD τ) arg8 fullShare x5 ∗ owns (c : Thread nD τ) arg9 fullShare x6
      ∗ carried c arg15 arg16 arg17 arg18 q (score q kn k n) (value vn v) (upto (kc.val * 1024))
      ∗ (iprop(owns (c : Thread nD τ) arg6 fullShare x3 ∗ owns (c : Thread nD τ) arg7 fullShare x4
          ∗ owns (c : Thread nD τ) arg8 fullShare x5 ∗ owns (c : Thread nD τ) arg9 fullShare x6
          ∗ carried c arg15 arg16 arg17 arg18 q (score q kn k n) (value vn v) (upto ((kc.val + 1) * 1024)))
        -∗ wp frame (wpE (defs₀ (F := Ideal)) Variants.none c none) E (afterChunk (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K))
      ⊢ wp frame (wpE (defs₀ (F := Ideal)) Variants.none c none) E (afterFirst (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n) K := by
  have hc : cond0_1 i n ↔ ((kc.val * 1024 : ℕ) : ℤ) < n.toInt := by
    show Scalar.cmpi .ne (Scalar.extui (Scalar.cmpi .slt (Scalar.muli (BitVec.ofNat 32 (i 1).val) 1024#32) n)) 0#32 = 1#1 ↔ _
    rw [hi]
    exact chunk_active kc n
  unfold carried afterFirst
  by_cases hn : ((kc.val * 1024 : ℕ) : ℤ) < n.toInt
  · rw [if_pos (hc.2 hn)]
    iintro ⟨H6, H7, H8, H9, ⟨H15, H16, H17, H18⟩, Hk⟩
    iapply (runChunk (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 (qT q) (accT (score q kn k n) (value vn v) (upto (kc.val * 1024)))
      (maxT (score q kn k n) (upto (kc.val * 1024))) (denT (score q kn k n) (upto (kc.val * 1024))) n).2.2.2 E _ K
    isplitl [H6]; · iexact H6
    isplitl [H7]; · iexact H7
    isplitl [H8]; · iexact H8
    isplitl [H9]; · iexact H9
    isplitl [H15]; · iexact H15
    isplitl [H16]; · iexact H16
    isplitl [H17]; · iexact H17
    isplitl [H18]; · iexact H18
    iintro ⟨H6, H7, H8, H9, H15, H16, H17, H18⟩
    iapply Hk
    isplitl [H6]; · iexact H6
    isplitl [H7]; · iexact H7
    isplitl [H8]; · iexact H8
    isplitl [H9]; · iexact H9
    isplitl [H15]; · iexact H15
    isplitl [H16]; · iapply (owns_of_writes c arg16 _ _ (chunk_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kc hi hn (hk hn) (hv hn))); iexact H16
    isplitl [H17]; · iapply (owns_of_writes c arg17 _ _ (chunk_max c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kc hi hn (hk hn) (accT (score q kn k n) (value vn v) (upto (kc.val * 1024))) (denT (score q kn k n) (upto (kc.val * 1024))))); iexact H17
    iapply (owns_of_writes c arg18 _ _ (chunk_den c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 kc hi hn (hk hn) (accT (score q kn k n) (value vn v) (upto (kc.val * 1024))))); iexact H18
  · rw [if_neg fun h => hn (hc.1 h)]
    obtain ⟨ha, hm, hd⟩ := state_masked (score q kn k n) (value vn v) kc (score_bot q kn k n kc hn)
    rw [ha, hm, hd]
    iintro ⟨H6, H7, H8, H9, HC, Hk⟩
    iapply Hk
    isplitl [H6]; · iexact H6
    isplitl [H7]; · iexact H7
    isplitl [H8]; · iexact H8
    isplitl [H9]; · iexact H9
    iexact HC

end Chunk

section First

variable (x0 : S1x4x64x128.Idx → EReal) (x1 x2 : S1x4x16x64.Idx → EReal) (k v : Fin 16 → Fin 64 → Fin 16384 → EReal) (n : BitVec 32)

/-- The first block of a row: the quantised keys and values, and the state over the new keys alone. -/
theorem first_step (h1 : k0_cond1 i = 1#1) (E : Set ℕ) (K : PUnit → sProp 𝕄) :
    iprop(owns (c : Thread nD τ) arg3 fullShare x0 ∗ owns (c : Thread nD τ) arg4 fullShare x1 ∗ owns (c : Thread nD τ) arg5 fullShare x2
      ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d)
      ∗ (∃ d, owns (c : Thread nD τ) arg15 fullShare d) ∗ (∃ d, owns (c : Thread nD τ) arg16 fullShare d)
      ∗ (∃ d, owns (c : Thread nD τ) arg17 fullShare d) ∗ (∃ d, owns (c : Thread nD τ) arg18 fullShare d)
      ∗ (iprop(owns (c : Thread nD τ) arg3 fullShare x0 ∗ owns (c : Thread nD τ) arg4 fullShare x1 ∗ owns (c : Thread nD τ) arg5 fullShare x2
          ∗ owns (c : Thread nD τ) arg11 fullShare (codeT (tileOf x1)) ∗ owns (c : Thread nD τ) arg12 fullShare (scaleT (tileOf x1))
          ∗ owns (c : Thread nD τ) arg13 fullShare (codeT (tileOf x2)) ∗ owns (c : Thread nD τ) arg14 fullShare (scaleT (tileOf x2))
          ∗ carried c arg15 arg16 arg17 arg18 (queryT x0) (scoreF x0 x1 k n) (valueF x2 v) (upto 0))
        -∗ wp frame (wpE (defs₀ (F := Ideal)) Variants.none c none) E (afterFirst (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n) K))
      ⊢ wp frame (wpE (defs₀ (F := Ideal)) Variants.none c none) E (afterLoad (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n) K := by
  unfold carried afterLoad
  rw [if_pos h1]
  iintro ⟨H3, H4, H5, H11, H12, H13, H14, H15, H16, H17, H18, Hk⟩
  iapply (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2).2.2.2.2.2.2.2.2 E _ K
  isplitl [H3]; · iexact H3
  isplitl [H4]; · iexact H4
  isplitl [H5]; · iexact H5
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iintro ⟨H3, H4, H5, H11, H12, H13, H14, H15, H16, H17, H18⟩
  iapply Hk
  isplitl [H3]; · iexact H3
  isplitl [H4]; · iexact H4
  isplitl [H5]; · iexact H5
  isplitl [H11]; · iapply (owns_of_writes c arg11 _ _ (first_kCodes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2)); iexact H11
  isplitl [H12]; · iapply (owns_of_writes c arg12 _ _ (first_kScale c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2)); iexact H12
  isplitl [H13]; · iapply (owns_of_writes c arg13 _ _ (first_vCodes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2)); iexact H13
  isplitl [H14]; · iapply (owns_of_writes c arg14 _ _ (first_vScale c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2)); iexact H14
  isplitl [H15]; · iapply (owns_of_writes c arg15 _ _ (first_q c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2)); iexact H15
  isplitl [H16]; · iapply (owns_of_writes c arg16 _ _ (first_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 k v n)); iexact H16
  isplitl [H17]; · iapply (owns_of_writes c arg17 _ _ (first_max c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 k n)); iexact H17
  iapply (owns_of_writes c arg18 _ _ (first_den c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 k n)); iexact H18

/-- At the other points the body starts with the chunk. -/
theorem not_first (h1 : ¬ k0_cond1 i = 1#1) : afterLoad (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n = afterFirst (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 n := if_neg h1

end First

section Last

/-- The last point of a row divides. -/
theorem last_step (h3 : k0_cond3 i = 1#1) (q : Fin 16 → Fin 32 → Fin 64 → EReal) (s : Fin 16 → Fin 32 → Key → EReal)
    (v : Fin 16 → Fin 64 → Key → EReal) (S : Finset Key) (E : Set ℕ) (K : PUnit → sProp 𝕄) :
    iprop((∃ d, owns (c : Thread nD τ) arg10 fullShare d) ∗ carried c arg15 arg16 arg17 arg18 q s v S
      ∗ (iprop(owns (c : Thread nD τ) arg10 fullShare (outT s v S) ∗ carried c arg15 arg16 arg17 arg18 q s v S) -∗ K ⟨⟩))
      ⊢ wp frame (wpE (defs₀ (F := Ideal)) Variants.none c none) E (afterChunk (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold carried afterChunk
  rw [if_pos h3]
  iintro ⟨H10, ⟨H15, H16, H17, H18⟩, Hk⟩
  iapply (runLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (accT s v S) (denT s S)).2 E _ K
  isplitl [H10]; · iexact H10
  isplitl [H16]; · iexact H16
  isplitl [H18]; · iexact H18
  iintro ⟨H10, H16, H18⟩
  rw [wp_pure]
  imodintro
  iapply Hk
  isplitl [H10]; · iapply (owns_of_writes c arg10 _ _ (last_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 s v S)); iexact H10
  isplitl [H15]; · iexact H15
  isplitl [H16]; · iexact H16
  isplitl [H17]; · iexact H17
  iexact H18

/-- At the other points nothing follows the chunk. -/
theorem not_last (h3 : ¬ k0_cond3 i = 1#1) (E : Set ℕ) (K : PUnit → sProp 𝕄) :
    K ⟨⟩ ⊢ wp frame (wpE (defs₀ (F := Ideal)) Variants.none c none) E (afterChunk (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold afterChunk
  rw [if_neg h3, wp_pure]
  iintro H
  imodintro
  iexact H

end Last

/-- The table's word at the point's row, as the body loads it. -/
abbrev loaded (f : Buf (Elt Ideal) (arg2.view.loc (c : Thread nD τ))) : BitVec 32 :=
  (arg2.access (Rect.unit (s := S17) (k0_off1 i) S1.size (k0_off1_inb i))).read (Elt Ideal) f (Shape.Idx.first (numel1_S1.symm ▸ Nat.one_pos))

/-- The body loads the word and goes on with it. -/
theorem load_step (f : Buf (Elt Ideal) (arg2.view.loc (c : Thread nD τ))) (E : Set ℕ) (K : PUnit → sProp 𝕄) :
    iprop((arg2.view.loc (c : Thread nD τ) ↦{fullShare.right} f)
      ∗ ((arg2.view.loc (c : Thread nD τ) ↦{fullShare.right} f)
        -∗ wp frame (wpE (defs₀ (F := Ideal)) Variants.none c none) E (afterLoad (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (loaded c i arg2 f)) K))
      ⊢ wp frame (wpE (defs₀ (F := Ideal)) Variants.none c none) E (cc0_decode_attn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_blocks, wp_bind]
  iintro ⟨H, Hk⟩
  unfold smemLoad
  iapply (wp_smemLoadElt_named Variants.none (c : Thread nD τ) none E (m := arg2)
    (r := Rect.unit (s := S17) (k0_off1 i) S1.size (k0_off1_inb i)) (x := Shape.Idx.first (numel1_S1.symm ▸ Nat.one_pos))) $$ H
  iintro H %w %hw
  subst hw
  rw [wp_ret]
  imodintro
  iapply Hk
  iexact H

end Cert.KernelIdeal.Hand

end
-- ==== Proof.KI.Frame.lean ====
module

public import proofs.«01_k».proof.Proof.KI.Rows
public import proofs.«01_k».proof.Proof.KI.Steps
public import Idealize.ShloMosaic.Lib.Pipeline.TableIdle
public import Idealize.ShloMosaic.Lib.Claim

/-! The run of the kernel at the extended reals. The invariant between points states the carried buffers as the state of
the row's online softmax after the keys taken in so far; the run's arrays are read off it. -/

@[expose] public section

set_option maxRecDepth 16384

noncomputable section

namespace Cert.KernelIdeal.Hand

open Cert.KernelIdeal.Gen Cert.Softmax Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (hO : Ok m) (c : Dev nD)

/-- The carried buffers after point `n`: the row's state after the point's chunk. -/
abbrev stateAfter (n : ℕ) : sProp 𝕄 :=
  carried c scM0_0 scM0_1 scM0_2 scM0_3 (rowQ m c (rowOf n)) (rowScore m c (rowOf n)) (rowValue m c (rowOf n))
    (upto (((chunkOf n).val + 1) * 1024))

/-- The region's invariant: before the first point the carried buffers hold anything, after point `n` its state. -/
def PhiS : (n : ℕ) → n ≤ (cfgM m hO).N → sProp 𝕄
  | 0, _ => iprop(Pipeline.ΦA spec0 c ∗ Pipeline.ΦT pre0 (tbl m) c)
  | n + 1, _ => iprop((stateAfter m c n ∗ (∃ r, prngReg c r)) ∗ Pipeline.ΦT pre0 (tbl m) c)

theorem PhiS_zero (n : ℕ) (h : n ≤ (cfgM m hO).N) (hz : n = 0) :
    PhiS m hO c n h = iprop(Pipeline.ΦA spec0 c ∗ Pipeline.ΦT pre0 (tbl m) c) := by
  subst hz; rfl

theorem PhiS_succ (n : ℕ) (hn : n < (cfgM m hO).N) :
    PhiS m hO c (n + 1) hn = iprop((stateAfter m c n ∗ (∃ r, prngReg c r)) ∗ Pipeline.ΦT pre0 (tbl m) c) := rfl

theorem PhiS_pos (n : ℕ) (h : n ≤ (cfgM m hO).N) (hz : n ≠ 0) :
    PhiS m hO c n h = iprop((stateAfter m c (n - 1) ∗ (∃ r, prngReg c r)) ∗ Pipeline.ΦT pre0 (tbl m) c) := by
  cases n with
  | zero => exact absurd rfl hz
  | succ n => rfl

/-- Forgetting the carried buffers' contents. -/
theorem PhiS_any (n : ℕ) (h : n ≤ (cfgM m hO).N) :
    PhiS m hO c n h ⊢ iprop(Pipeline.ΦA spec0 c ∗ Pipeline.ΦT pre0 (tbl m) c) := by
  cases n with
  | zero => exact Entails.refl _
  | succ n =>
    rw [PhiS_succ, PhiA0_eq]
    unfold stateAfter carried
    iintro ⟨⟨⟨HS0, HS1, HS2, HS3⟩, Hg⟩, HT⟩
    isplitr [HT]
    · isplitr [Hg]
      · isplitl [HS0]; · iexists _; iexact HS0
        isplitl [HS1]; · iexists _; iexact HS1
        isplitl [HS2]; · iexists _; iexact HS2
        iexists _; iexact HS3
      iexact Hg
    iexact HT

/-- The pipeline's proof data: each input's buffer holds its block, each output's what the row's points leave in it. -/
def dats (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outT (rowScore m c (rowOf t.val)) (rowValue m c (rowOf t.val)) (upto (((chunkOf t.val).val + 1) * 1024))
    | ⟨8, _⟩ => codeT (tileOf (rowK m c (rowOf t.val)))
    | ⟨9, _⟩ => scaleT (tileOf (rowK m c (rowOf t.val)))
    | ⟨10, _⟩ => codeT (tileOf (rowV m c (rowOf t.val)))
    | ⟨11, _⟩ => scaleT (tileOf (rowV m c (rowOf t.val)))
  Φ t := PhiS m hO c t.val (Nat.le_of_lt_succ t.isLt)
  q _ := fullShare
  owed _ := 0

theorem A_eq (w : Fin (cfgM m hO).W) : (dats m hO 0 c).A w = V m c (Pipeline.arrRef spec0 w) := by
  dsimp only [dats]

theorem PhiS_castSucc (t : Fin (cfgM m hO).N) :
    (dats m hO 0 c).Φ t.castSucc = PhiS m hO c t.val (Nat.le_of_lt t.isLt) := by
  dsimp only [dats]; exact Pipeline.Dat.Φ_castSucc (PhiS m hO c) t

theorem after0_0 (t : Fin (cfgM m hO).N) : (dats m hO 0 c).after 0 t = iblk m hO c 0 t := by dsimp only [dats]; try rfl
theorem after0_1 (t : Fin (cfgM m hO).N) : (dats m hO 0 c).after 1 t = iblk m hO c 1 t := by dsimp only [dats]; try rfl
theorem after0_2 (t : Fin (cfgM m hO).N) : (dats m hO 0 c).after 2 t = iblk m hO c 2 t := by dsimp only [dats]; try rfl
theorem after0_3 (t : Fin (cfgM m hO).N) : (dats m hO 0 c).after 3 t = iblk m hO c 3 t := by dsimp only [dats]; try rfl
theorem after0_4 (t : Fin (cfgM m hO).N) : (dats m hO 0 c).after 4 t = iblk m hO c 4 t := by dsimp only [dats]; try rfl
theorem after0_5 (t : Fin (cfgM m hO).N) : (dats m hO 0 c).after 5 t = iblk m hO c 5 t := by dsimp only [dats]; try rfl
theorem after0_6 (t : Fin (cfgM m hO).N) : (dats m hO 0 c).after 6 t = iblk m hO c 6 t := by dsimp only [dats]; try rfl
theorem after0_7 (t : Fin (cfgM m hO).N) : (dats m hO 0 c).after 7 t = outT (rowScore m c (rowOf t.val)) (rowValue m c (rowOf t.val)) (upto (((chunkOf t.val).val + 1) * 1024)) := by dsimp only [dats]; try rfl
theorem after0_8 (t : Fin (cfgM m hO).N) : (dats m hO 0 c).after 8 t = codeT (tileOf (rowK m c (rowOf t.val))) := by dsimp only [dats]; try rfl
theorem after0_9 (t : Fin (cfgM m hO).N) : (dats m hO 0 c).after 9 t = scaleT (tileOf (rowK m c (rowOf t.val))) := by dsimp only [dats]; try rfl
theorem after0_10 (t : Fin (cfgM m hO).N) : (dats m hO 0 c).after 10 t = codeT (tileOf (rowV m c (rowOf t.val))) := by dsimp only [dats]; try rfl
theorem after0_11 (t : Fin (cfgM m hO).N) : (dats m hO 0 c).after 11 t = scaleT (tileOf (rowV m c (rowOf t.val))) := by dsimp only [dats]; try rfl

theorem before0_0 (t : Fin (cfgM m hO).N) (d) : (dats m hO 0 c).before 0 t d = iblk m hO c 0 t :=
  before0_0_of m hO (dats m hO 0 c) (A_eq m hO c 0) (after0_0 m hO c) t d
theorem before0_1 (t : Fin (cfgM m hO).N) (d) : (dats m hO 0 c).before 1 t d = iblk m hO c 1 t :=
  before0_1_of m hO (dats m hO 0 c) (A_eq m hO c 1) (after0_1 m hO c) t d
theorem before0_2 (t : Fin (cfgM m hO).N) (d) : (dats m hO 0 c).before 2 t d = iblk m hO c 2 t :=
  before0_2_of m hO (dats m hO 0 c) (A_eq m hO c 2) (after0_2 m hO c) t d
theorem before0_3 (t : Fin (cfgM m hO).N) (d) : (dats m hO 0 c).before 3 t d = iblk m hO c 3 t :=
  before0_3_of m hO (dats m hO 0 c) (A_eq m hO c 3) (after0_3 m hO c) t d
theorem before0_4 (t : Fin (cfgM m hO).N) (d) : (dats m hO 0 c).before 4 t d = iblk m hO c 4 t :=
  before0_4_of m hO (dats m hO 0 c) (A_eq m hO c 4) (after0_4 m hO c) t d
theorem before0_5 (t : Fin (cfgM m hO).N) (d) : (dats m hO 0 c).before 5 t d = iblk m hO c 5 t :=
  before0_5_of m hO (dats m hO 0 c) (A_eq m hO c 5) (after0_5 m hO c) t d
theorem before0_6 (t : Fin (cfgM m hO).N) (d) : (dats m hO 0 c).before 6 t d = iblk m hO c 6 t :=
  before0_6_of m hO (dats m hO 0 c) (A_eq m hO c 6) (after0_6 m hO c) t d

theorem rowOf_pred (n : ℕ) (h : ¬ n % 16 = 0) : rowOf (n - 1) = rowOf n := Fin.ext (by simp only [rowOf]; omega)
theorem chunkOf_pred (n : ℕ) (h : ¬ n % 16 = 0) : (chunkOf (n - 1)).val + 1 = (chunkOf n).val := by simp only [chunkOf]; omega

/-- A buffer written at the first point of each row only, and written back at the last: past the first point it is not
    fresh. -/
theorem fresh_false (w : Fin (cfgM m hO).W) (hf : ∀ t, ((cfgM m hO).win w).flush t = true ↔ t.val % 16 = 15)
    (hi : ∀ t : Fin (cfgM m hO).N, t.val % 16 = 0 → (cfgM m hO).idle w ((cfgM m hO).grid.coords t) = false) :
    ∀ n, n < (cfgM m hO).N → ¬ n % 16 = 0 → (cfgM m hO).fresh w n = false
  | 0, _, h => absurd (Nat.zero_mod _) h
  | n + 1, hn, h => by
    have hn' : n < (cfgM m hO).N := by omega
    rw [Pipeline.Cfg.fresh_succ (cfgM m hO) w n hn']
    have h1 : ((cfgM m hO).win w).flush ⟨n, hn'⟩ = false := by
      rw [Bool.eq_false_iff]; intro hc
      have := (hf ⟨n, hn'⟩).1 hc
      simp only at this
      omega
    rw [h1, Bool.false_or]
    by_cases h0 : n % 16 = 0
    · rw [hi ⟨n, hn'⟩ h0, Bool.false_and]
    · rw [fresh_false w hf hi n hn' h0, Bool.and_false]

/-- So at a later point of the row it still holds what the first point stored. -/
theorem before_of_row (w : Fin (cfgM m hO).W) (hw : ((cfgM m hO).win w).isOut = true)
    (hclip : ∀ (i : (cfgM m hO).grid.Coords) a, ((cfgM m hO).win w).clip i a = none)
    (hf : ∀ t, ((cfgM m hO).win w).flush t = true ↔ t.val % 16 = 15)
    (hi : ∀ t : Fin (cfgM m hO).N, t.val % 16 = 0 → (cfgM m hO).idle w ((cfgM m hO).grid.coords t) = false)
    (ha : ∀ t : Fin (cfgM m hO).N, ¬ t.val % 16 = 0 → (dats m hO 0 c).after w t = (dats m hO 0 c).after w ⟨t.val - 1, by omega⟩)
    (hl : ∀ t : Fin (cfgM m hO).N, (cfgM m hO).idle w ((cfgM m hO).grid.coords t) = true → ¬ t.val % 16 = 0)
    (t : Fin (cfgM m hO).N) (h0 : ¬ t.val % 16 = 0) (d) : (dats m hO 0 c).before w t d = (dats m hO 0 c).after w t := by
  rw [Pipeline.Dat.before_out_traj (dats m hO 0 c) w hw hclip (fun t _ h _ => ha t (hl t h)) t.val t rfl d,
    fresh_false m hO w hf hi t.val t.isLt h0, if_neg Bool.false_ne_true, ha t h0]

/-- A buffer that holds `after w t`, and is found holding it, is left as the pipeline asks. -/
theorem leaves_of (w : Fin (cfgM m hO).W) (t : Fin (cfgM m hO).N)
    (h : ∀ d, (dats m hO 0 c).before w t d = (dats m hO 0 c).after w t) (d₀ : ((cfgM m hO).win w).block.Idx → Elt Ideal ((cfgM m hO).win w).elt) :
    (owns c (((cfgM m hO).win w).stage ((cfgM m hO).slots t w)) fullShare ((dats m hO 0 c).after w t) : sProp 𝕄)
      ⊢ (dats m hO 0 c).leavesExact w t := by
  unfold Dat.leavesExact
  split
  · split
    · iintro H
      iexists d₀
      rw [h d₀]
      iexact H
    · exact Entails.refl _
  · exact Entails.refl _

theorem before0_8 (t : Fin (cfgM m hO).N) (h0 : ¬ t.val % 16 = 0) (d) : (dats m hO 0 c).before 8 t d = (dats m hO 0 c).after 8 t :=
  before_of_row m hO c 8 rfl (fun _ _ => rfl) (flush0_8 (adm m hO))
    (fun t h => liveAt0_8_A m hO t ((hcond0_0 t).2 h) (fun h' => by have := (hcond0_2 t).1 h'; omega))
    (fun t h => by rw [after0_8, after0_8]; exact congrArg (fun b => codeT (tileOf (rowK m c b))) (rowOf_pred t.val h).symm)
    (fun t h h0 => by
      rw [liveAt0_8_A m hO t ((hcond0_0 t).2 h0) (fun h' => by have := (hcond0_2 t).1 h'; omega)] at h
      exact Bool.false_ne_true h) t h0 d

theorem before0_9 (t : Fin (cfgM m hO).N) (h0 : ¬ t.val % 16 = 0) (d) : (dats m hO 0 c).before 9 t d = (dats m hO 0 c).after 9 t :=
  before_of_row m hO c 9 rfl (fun _ _ => rfl) (flush0_9 (adm m hO))
    (fun t h => liveAt0_9_A m hO t ((hcond0_0 t).2 h) (fun h' => by have := (hcond0_2 t).1 h'; omega))
    (fun t h => by rw [after0_9, after0_9]; exact congrArg (fun b => scaleT (tileOf (rowK m c b))) (rowOf_pred t.val h).symm)
    (fun t h h0 => by
      rw [liveAt0_9_A m hO t ((hcond0_0 t).2 h0) (fun h' => by have := (hcond0_2 t).1 h'; omega)] at h
      exact Bool.false_ne_true h) t h0 d

theorem before0_10 (t : Fin (cfgM m hO).N) (h0 : ¬ t.val % 16 = 0) (d) : (dats m hO 0 c).before 10 t d = (dats m hO 0 c).after 10 t :=
  before_of_row m hO c 10 rfl (fun _ _ => rfl) (flush0_10 (adm m hO))
    (fun t h => liveAt0_10_A m hO t ((hcond0_0 t).2 h) (fun h' => by have := (hcond0_2 t).1 h'; omega))
    (fun t h => by rw [after0_10, after0_10]; exact congrArg (fun b => codeT (tileOf (rowV m c b))) (rowOf_pred t.val h).symm)
    (fun t h h0 => by
      rw [liveAt0_10_A m hO t ((hcond0_0 t).2 h0) (fun h' => by have := (hcond0_2 t).1 h'; omega)] at h
      exact Bool.false_ne_true h) t h0 d

theorem before0_11 (t : Fin (cfgM m hO).N) (h0 : ¬ t.val % 16 = 0) (d) : (dats m hO 0 c).before 11 t d = (dats m hO 0 c).after 11 t :=
  before_of_row m hO c 11 rfl (fun _ _ => rfl) (flush0_11 (adm m hO))
    (fun t h => liveAt0_11_A m hO t ((hcond0_0 t).2 h) (fun h' => by have := (hcond0_2 t).1 h'; omega))
    (fun t h => by rw [after0_11, after0_11]; exact congrArg (fun b => scaleT (tileOf (rowV m c b))) (rowOf_pred t.val h).symm)
    (fun t h h0 => by
      rw [liveAt0_11_A m hO t ((hcond0_0 t).2 h0) (fun h' => by have := (hcond0_2 t).1 h'; omega)] at h
      exact Bool.false_ne_true h) t h0 d

theorem loaded_eq (t : Fin grid0.N) : loaded c (grid0.coords t) tbM0_0 (tbl m 0) = len m (rowOf t.val) := word_eq m t

/-- The cache blocks of a point. -/
abbrev blkKc (t : Fin (cfgM m hO).N) : S1x16x64x1024.Idx → EReal := iblk m hO c 3 t
abbrev blkKs (t : Fin (cfgM m hO).N) : S1x16x2x1024.Idx → EReal := iblk m hO c 4 t
abbrev blkVc (t : Fin (cfgM m hO).N) : S1x16x64x1024.Idx → EReal := iblk m hO c 5 t
abbrev blkVs (t : Fin (cfgM m hO).N) : S1x16x2x1024.Idx → EReal := iblk m hO c 6 t

/-- A cache block at a chunk with cached positions: code times scale is the cache's key, or value. -/
theorem keys_block (t : Fin (cfgM m hO).N) (hn : (((chunkOf t.val).val * 1024 : ℕ) : ℤ) < (len m (rowOf t.val)).toInt) (h : Fin 16) (d : Fin 64) (x : Fin 1024) :
    blkKc m hO c t (ix4 0 h d x) * blkKs m hO c t (ix4 0 h (grp d) x)
      = cacheK m c (rowOf t.val) h d (cached (chunkOf t.val) x) :=
  congrArg₂ (fun a b : EReal => a * b) (iblk_kc m hO c t hn h d x) (iblk_ks m hO c t hn h (grp d) x)

theorem vals_block (t : Fin (cfgM m hO).N) (hn : (((chunkOf t.val).val * 1024 : ℕ) : ℤ) < (len m (rowOf t.val)).toInt) (h : Fin 16) (d : Fin 64) (x : Fin 1024) :
    blkVc m hO c t (ix4 0 h d x) * blkVs m hO c t (ix4 0 h (grp d) x)
      = cacheV m c (rowOf t.val) h d (cached (chunkOf t.val) x) :=
  congrArg₂ (fun a b : EReal => a * b) (iblk_vc m hO c t hn h d x) (iblk_vs m hO c t hn h (grp d) x)

set_option maxHeartbeats 2000000 in
/-- What a point does after its first block: the chunk, and at the row's last point the division. -/
theorem tail_step (t : Fin (cfgM m hO).N) (K : PUnit → sProp 𝕄) :
    iprop(owns (c : Thread nD τ) (ms0_3 m hO t) fullShare (iblk m hO c 3 t) ∗ owns (c : Thread nD τ) (ms0_4 m hO t) fullShare (iblk m hO c 4 t)
      ∗ owns (c : Thread nD τ) (ms0_5 m hO t) fullShare (iblk m hO c 5 t) ∗ owns (c : Thread nD τ) (ms0_6 m hO t) fullShare (iblk m hO c 6 t)
      ∗ carried c scM0_0 scM0_1 scM0_2 scM0_3 (rowQ m c (rowOf t.val)) (rowScore m c (rowOf t.val)) (rowValue m c (rowOf t.val)) (upto ((chunkOf t.val).val * 1024))
      ∗ (∃ d, owns (c : Thread nD τ) (ms0_7 m hO t) fullShare ((dats m hO 0 c).before 7 t d))
      ∗ (iprop(owns (c : Thread nD τ) (ms0_3 m hO t) fullShare (iblk m hO c 3 t) ∗ owns (c : Thread nD τ) (ms0_4 m hO t) fullShare (iblk m hO c 4 t)
          ∗ owns (c : Thread nD τ) (ms0_5 m hO t) fullShare (iblk m hO c 5 t) ∗ owns (c : Thread nD τ) (ms0_6 m hO t) fullShare (iblk m hO c 6 t)
          ∗ stateAfter m c t.val ∗ (dats m hO 0 c).leavesExact 7 t) -∗ K ⟨⟩))
      ⊢ wp frame (wpE (defs₀ (F := Ideal)) Variants.none c none) Set.univ (afterFirst (F := Ideal) (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) (len m (rowOf t.val))) K := by
  iintro ⟨H3, H4, H5, H6, HC, H7, Hk⟩
  iapply (afterFirst_step c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) (rowQ m c (rowOf t.val)) (newWide (tileOf (rowK m c (rowOf t.val)))) (newWide (tileOf (rowV m c (rowOf t.val))))
    (cacheK m c (rowOf t.val)) (cacheV m c (rowOf t.val)) (len m (rowOf t.val)) (blkKc m hO c t) (blkKs m hO c t) (blkVc m hO c t) (blkVs m hO c t) (chunkOf t.val) (coord_chunk t)
    (keys_block m hO c t)
    (vals_block m hO c t) Set.univ K)
  isplitl [H3]; · iexact H3
  isplitl [H4]; · iexact H4
  isplitl [H5]; · iexact H5
  isplitl [H6]; · iexact H6
  isplitl [HC]; · iexact HC
  iintro ⟨H3, H4, H5, H6, HC⟩
  by_cases h2 : t.val % 16 = 15
  · have e : (dats m hO 0 c).leavesExact 7 t = owns (c : Thread nD τ) (ms0_7 m hO t) fullShare (outT (rowScore m c (rowOf t.val)) (rowValue m c (rowOf t.val)) (upto (((chunkOf t.val).val + 1) * 1024))) := by
      rw [← after0_7 m hO c t]
      unfold Dat.leavesExact
      rw [liveAt0_7_E m hO t (fun h => by have := (hcond0_0 t).1 h; omega) ((hcond0_2 t).2 h2)]
      try rfl
    rw [e]
    iapply (last_step c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) ((hcond0_2 t).2 h2) (rowQ m c (rowOf t.val)) (rowScore m c (rowOf t.val)) (rowValue m c (rowOf t.val)) (upto (((chunkOf t.val).val + 1) * 1024)) Set.univ K)
    isplitl [H7]
    · icases H7 with ⟨%d, H7⟩
      iexists _; iexact H7
    isplitl [HC]; · iexact HC
    iintro ⟨H7, HC⟩
    iapply Hk
    isplitl [H3]; · iexact H3
    isplitl [H4]; · iexact H4
    isplitl [H5]; · iexact H5
    isplitl [H6]; · iexact H6
    isplitl [HC]; · iexact HC
    iexact H7
  · have hc : ¬ cond0_2 (grid0.coords t) := fun h => h2 ((hcond0_2 t).1 h)
    have e : (dats m hO 0 c).leavesExact 7 t = iprop(∃ d, owns (c : Thread nD τ) (ms0_7 m hO t) fullShare ((dats m hO 0 c).before 7 t d)) := by
      by_cases h0 : cond0_0 (grid0.coords t)
      · exact Dat.leavesExact_idle (dats m hO 0 c) 7 t (idleAt0_7_A m hO t h0 hc) (noFlush0_7_A m hO t h0 hc)
      · exact Dat.leavesExact_idle (dats m hO 0 c) 7 t (idleAt0_7_C m hO t h0 hc) (noFlush0_7_C m hO t h0 hc)
    rw [e]
    iapply (not_last c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) hc Set.univ K)
    iapply Hk
    isplitl [H3]; · iexact H3
    isplitl [H4]; · iexact H4
    isplitl [H5]; · iexact H5
    isplitl [H6]; · iexact H6
    isplitl [HC]; · iexact HC
    iexact H7

/-- What the body is called with at point `t`, -/
def bodyPre (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t)

/-- What an input's buffer is left at. -/
theorem leaves_in (t : Fin (cfgM m hO).N) : (dats m hO 0 c).leavesExact 0 t = owns (c : Thread nD τ) (ms0_0 m hO t) fullShare (iblk m hO c 0 t) ∧ (dats m hO 0 c).leavesExact 1 t = owns (c : Thread nD τ) (ms0_1 m hO t) fullShare (iblk m hO c 1 t) ∧ (dats m hO 0 c).leavesExact 2 t = owns (c : Thread nD τ) (ms0_2 m hO t) fullShare (iblk m hO c 2 t) ∧ (dats m hO 0 c).leavesExact 3 t = owns (c : Thread nD τ) (ms0_3 m hO t) fullShare (iblk m hO c 3 t) ∧ (dats m hO 0 c).leavesExact 4 t = owns (c : Thread nD τ) (ms0_4 m hO t) fullShare (iblk m hO c 4 t) ∧ (dats m hO 0 c).leavesExact 5 t = owns (c : Thread nD τ) (ms0_5 m hO t) fullShare (iblk m hO c 5 t) ∧ (dats m hO 0 c).leavesExact 6 t = owns (c : Thread nD τ) (ms0_6 m hO t) fullShare (iblk m hO c 6 t) := by
  refine ⟨?_, ?_, ?_, ?_, ?_, ?_, ?_⟩
  · unfold Dat.leavesExact; rw [← after0_0, liveAt0_0 m hO t]; try rfl
  · unfold Dat.leavesExact; rw [← after0_1, liveAt0_1 m hO t]; try rfl
  · unfold Dat.leavesExact; rw [← after0_2, liveAt0_2 m hO t]; try rfl
  · unfold Dat.leavesExact; rw [← after0_3, liveAt0_3 m hO t]; try rfl
  · unfold Dat.leavesExact; rw [← after0_4, liveAt0_4 m hO t]; try rfl
  · unfold Dat.leavesExact; rw [← after0_5, liveAt0_5 m hO t]; try rfl
  · unfold Dat.leavesExact; rw [← after0_6, liveAt0_6 m hO t]; try rfl

theorem live_8 (t : Fin (cfgM m hO).N) (h0 : cond0_0 (grid0.coords t)) (h2 : ¬ cond0_2 (grid0.coords t)) :
    (dats m hO 0 c).leavesExact 8 t = owns (c : Thread nD τ) (ms0_8 m hO t) fullShare (codeT (tileOf (iblk m hO c 1 t))) := by
  rw [iblk_k, ← after0_8 m hO c t]
  unfold Dat.leavesExact
  rw [liveAt0_8_A m hO t h0 h2]
  try rfl

theorem live_9 (t : Fin (cfgM m hO).N) (h0 : cond0_0 (grid0.coords t)) (h2 : ¬ cond0_2 (grid0.coords t)) :
    (dats m hO 0 c).leavesExact 9 t = owns (c : Thread nD τ) (ms0_9 m hO t) fullShare (scaleT (tileOf (iblk m hO c 1 t))) := by
  rw [iblk_k, ← after0_9 m hO c t]
  unfold Dat.leavesExact
  rw [liveAt0_9_A m hO t h0 h2]
  try rfl

theorem live_10 (t : Fin (cfgM m hO).N) (h0 : cond0_0 (grid0.coords t)) (h2 : ¬ cond0_2 (grid0.coords t)) :
    (dats m hO 0 c).leavesExact 10 t = owns (c : Thread nD τ) (ms0_10 m hO t) fullShare (codeT (tileOf (iblk m hO c 2 t))) := by
  rw [iblk_v, ← after0_10 m hO c t]
  unfold Dat.leavesExact
  rw [liveAt0_10_A m hO t h0 h2]
  try rfl

theorem live_11 (t : Fin (cfgM m hO).N) (h0 : cond0_0 (grid0.coords t)) (h2 : ¬ cond0_2 (grid0.coords t)) :
    (dats m hO 0 c).leavesExact 11 t = owns (c : Thread nD τ) (ms0_11 m hO t) fullShare (scaleT (tileOf (iblk m hO c 2 t))) := by
  rw [iblk_v, ← after0_11 m hO c t]
  unfold Dat.leavesExact
  rw [liveAt0_11_A m hO t h0 h2]
  try rfl

set_option maxHeartbeats 2000000 in
/-- The body at the first point of a row. -/
theorem sound_first (t : Fin (cfgM m hO).N) (h0 : t.val % 16 = 0) :
    bodyPre m hO c t ⊢ wp frame (wpE (defs₀ (F := Ideal)) Variants.none c none) Set.univ (bodyAt0 (adm m hO) t) (fun _ => bodyPost m hO c t) := by
  unfold bodyPre bodyPost
  simp only [before0_0, before0_1, before0_2, before0_3, before0_4, before0_5, before0_6]
  obtain ⟨e0, e1, e2, e3, e4, e5, e6⟩ := leaves_in m hO c t
  rw [e0, e1, e2, e3, e4, e5, e6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  show _ ⊢ wp frame (wpE (defs₀ (F := Ideal)) Variants.none c none) Set.univ (cc0_decode_attn (F := Ideal) (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _)) _
  rw [PhiS_castSucc m hO c t]
  refine (sep_mono_left (PhiS_any m hO c _ _)).trans ?_
  rw [PhiT0_eq, PhiA0_eq]
  iintro ⟨⟨⟨⟨HS0, HS1, HS2, HS3⟩, Hg⟩, HT⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, ⟨%d10, H10⟩, ⟨%d11, H11⟩⟩
  iapply (load_step c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) (tbl m 0) Set.univ _)
  isplitl [HT]; · iexact HT
  iintro HT
  rw [loaded_eq]
  iapply (first_step c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (cacheK m c (rowOf t.val)) (cacheV m c (rowOf t.val)) (len m (rowOf t.val))
    ((hcond0_0 t).2 h0) Set.univ _)
  isplitl [H0]; · iexact H0
  isplitl [H1]; · iexact H1
  isplitl [H2]; · iexact H2
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  have hc0 : (chunkOf t.val).val = 0 := h0
  iintro ⟨H0, H1, H2, H8, H9, H10, H11, HC⟩
  iapply (tail_step m hO c t _)
  isplitl [H3]; · iexact H3
  isplitl [H4]; · iexact H4
  isplitl [H5]; · iexact H5
  isplitl [H6]; · iexact H6
  isplitl [HC]
  · rw [hc0, Nat.zero_mul]
    unfold rowQ rowScore rowValue
    rw [← iblk_x m hO c t, ← iblk_k m hO c t, ← iblk_v m hO c t]
    iexact HC
  isplitl [H7]; · iexact H7
  iintro ⟨H3, H4, H5, H6, HC, H7⟩
  isplitl [HC Hg HT]
  · isplitl [HC Hg]
    · isplitl [HC]; · iexact HC
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have n2 : ¬ cond0_2 (grid0.coords t) := fun h => by have := (hcond0_2 t).1 h; omega
  have e8 := live_8 m hO c t ((hcond0_0 t).2 h0) n2
  have e9 := live_9 m hO c t ((hcond0_0 t).2 h0) n2
  have e10 := live_10 m hO c t ((hcond0_0 t).2 h0) n2
  have e11 := live_11 m hO c t ((hcond0_0 t).2 h0) n2
  rw [e8, e9, e10, e11]
  isplitl [H8]; · iexact H8
  isplitl [H9]; · iexact H9
  isplitl [H10]; · iexact H10
  iexact H11

set_option maxHeartbeats 2000000 in
/-- The body at the other points of a row. -/
theorem sound_next (t : Fin (cfgM m hO).N) (h0 : ¬ t.val % 16 = 0) :
    bodyPre m hO c t ⊢ wp frame (wpE (defs₀ (F := Ideal)) Variants.none c none) Set.univ (bodyAt0 (adm m hO) t) (fun _ => bodyPost m hO c t) := by
  unfold bodyPre bodyPost
  simp only [before0_0, before0_1, before0_2, before0_3, before0_4, before0_5, before0_6]
  obtain ⟨e0, e1, e2, e3, e4, e5, e6⟩ := leaves_in m hO c t
  rw [e0, e1, e2, e3, e4, e5, e6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  show _ ⊢ wp frame (wpE (defs₀ (F := Ideal)) Variants.none c none) Set.univ (cc0_decode_attn (F := Ideal) (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _)) _
  simp only [before0_8 m hO c t h0, before0_9 m hO c t h0, before0_10 m hO c t h0, before0_11 m hO c t h0]
  rw [PhiS_castSucc m hO c t, PhiS_pos m hO c _ _ (fun h => h0 (by rw [h])), PhiT0_eq]
  iintro ⟨⟨⟨HC, Hg⟩, HT⟩, Ho, ⟨%d0, H0⟩, ⟨%d1, H1⟩, ⟨%d2, H2⟩, ⟨%d3, H3⟩, ⟨%d4, H4⟩, ⟨%d5, H5⟩, ⟨%d6, H6⟩, H7, ⟨%d8, H8⟩, ⟨%d9, H9⟩, ⟨%d10, H10⟩, ⟨%d11, H11⟩⟩
  iapply (load_step c (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) (tbl m 0) Set.univ _)
  isplitl [HT]; · iexact HT
  iintro HT
  rw [loaded_eq, not_first (h1 := fun h => h0 ((hcond0_0 t).1 h))]
  iapply (tail_step m hO c t _)
  isplitl [H3]; · iexact H3
  isplitl [H4]; · iexact H4
  isplitl [H5]; · iexact H5
  isplitl [H6]; · iexact H6
  isplitl [HC]
  · rw [← chunkOf_pred t.val h0, ← rowOf_pred t.val h0]
    iexact HC
  isplitl [H7]; · iexact H7
  iintro ⟨H3, H4, H5, H6, HC, H7⟩
  isplitl [HC Hg HT]
  · isplitl [HC Hg]
    · isplitl [HC]; · iexact HC
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_of m hO c 8 t (before0_8 m hO c t h0) d8); iexact H8
  isplitl [H9]; · iapply (leaves_of m hO c 9 t (before0_9 m hO c t h0) d9); iexact H9
  isplitl [H10]; · iapply (leaves_of m hO c 10 t (before0_10 m hO c t h0) d10); iexact H10
  iapply (leaves_of m hO c 11 t (before0_11 m hO c t h0) d11); iexact H11

theorem defs₀_row (t : Fin (cfgM m hO).N) :
    defs₀ (F := Ideal) .tc (cfgM m hO).body ((cfgM m hO).bodyArgs t ((cfgM m hO).slots t)) = bodyAt0 (adm m hO) t := by
  unfold defs₀; rw [Defs.onTc_tc]

theorem body_obligation : BodyObligation (dats m hO 0 c) (defs₀ (F := Ideal)) Variants.none () Set.univ := fun t => by
  rw [bigSep_W0, bigSep_W0, defs₀_row m hO]
  by_cases h0 : t.val % 16 = 0
  · exact triple_restated (sound_first m hO c t h0) rfl .rfl fun _ => .rfl
  · exact triple_restated (sound_next m hO c t h0) rfl .rfl fun _ => .rfl

theorem hin : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem hout : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl]
  refine (PhiS_any m hO c _ _).trans ?_
  iintro ⟨H, -⟩
  iexact H

set_option backward.isDefEq.respectTransparency.types false in
/-- The run: it terminates, the arrays end as the proof data say, every counter is zero. -/
theorem run_main_quiescent : θ_run defs (onTc (τ := τ) (main (F := Ideal))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main : θ_run defs (onTc (τ := τ) (main (F := Ideal))) (s₀ m ρ)
    (Pipeline.FramePost (Pipeline.pin pcfgs fun _ => adm m hO) (dats m hO) 0 (V m)) :=
  (θ_run defs _ _).mono (fun _ h => h.1) (run_main_quiescent m ρ hO)

include hO in
/-- The argument arrays end unchanged and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ hO (dats m hO) (A_eq m hO) (run_main m ρ hO)) ((θ_run defs _ _).mono (fun _ h => h.2) (run_main_quiescent m ρ hO))

end Cert.KernelIdeal.Hand

end
-- ==== Proof.RI.Base.lean ====
module

public import proofs.«01_k».proof.Proof.Gen.ReferenceIdeal.Frame
public import proofs.«01_k».proof.Proof.KI.Spec
public import Idealize.ShloMosaic.Lib.Claim
public import Idealize.ShloMosaic.Lib.Pointwise

/-! Notation for reading the reference's host operations. -/

@[expose] public section

set_option maxRecDepth 16384

noncomputable section

namespace Cert.ReferenceIdeal.Hand

open Cert.ReferenceIdeal.Gen
open Idealize.ShloMosaic Idealize.ShloMosaic.TcCoe
open scoped BigOperators

variable (σ : Valuation τ sig (Elt Ideal))

/-- What a buffer holds. -/
abbrev at_ (r : Ref sig .tc) : Buf (Elt Ideal) (((0 : Dev nD) : Thread nD τ).loc r) := σ (Proc.devRef .tc r)

/-- The group of a component. -/
abbrev grp (d : Fin 64) : Fin 2 := ⟨d.val / 32, by omega⟩
theorem grp_split (x : Fin 64) (h : x.val / 32 * 32 + x.val % 32 < 64) : (⟨x.val / 32 * 32 + x.val % 32, h⟩ : Fin 64) = x :=
  Fin.ext (Nat.div_add_mod' _ _)

/-- Query head `g` of the group of head `k`. -/
abbrev hd (k : Fin 16) (g : Fin 8) : Fin 128 := ⟨k.val * 8 + g.val, by omega⟩

theorem sum_eq {n : ℕ} {f g : Fin n → EReal} (h : ∀ x, f x = g x) : ∑ x, f x = ∑ x, g x := Finset.sum_congr rfl fun x _ => h x

end Cert.ReferenceIdeal.Hand

end
-- ==== Proof.RI.Steps.lean ====
module

public import proofs.«01_k».proof.Proof.RI.Base

/-! The reference's softmax, its operations in seven steps. -/

@[expose] public section

set_option maxRecDepth 16384

noncomputable section

namespace Cert.ReferenceIdeal.Hand

open Cert.ReferenceIdeal Cert.ReferenceIdeal.Gen
open Idealize.ShloMosaic Idealize.ShloMosaic.TcCoe
open Idealize.ShloMosaic.StableHlo
open scoped BigOperators

variable {F : FTy → Type} [FloatOps F]

/-- The largest score. -/
abbrev maxOps : List (HloOp τ sig (Elt F)) :=
  [ StableHlo.nullary main_cst_23 (constant S_ .f32 0xFF800000#32),
    StableHlo.binary main_v87 main_cst_23 main_v91 ((fun x v => Host.reduce FloatOps.maximumf x v reducesTo_S17x4x16x8x16384_S17x4x16x8_d4 h_S_) : (⟨S17x4x16x8x16384, .f32⟩ : BufTy).Contents (Elt F) → (⟨S_, .f32⟩ : BufTy).Contents (Elt F) → (⟨S17x4x16x8, .f32⟩ : BufTy).Contents (Elt F)),
    StableHlo.unary main_v91 main_v92 (broadcastInDim S17x4x16x8x1 ![0, 1, 2, 3] bcast_S17x4x16x8_S17x4x16x8x1_0_1_2_3 : (⟨S17x4x16x8, .f32⟩ : BufTy).Contents (Elt F) → (⟨S17x4x16x8x1, .f32⟩ : BufTy).Contents (Elt F)),
    StableHlo.nullary main_cst_24 (constant S_ .f32 0xFF800000#32),
    StableHlo.binary main_v90 main_cst_24 main_v93 ((fun x v => Host.reduce FloatOps.maximumf x v reducesTo_S17x4x16x8x4_S17x4x16x8_d4 h_S_) : (⟨S17x4x16x8x4, .f32⟩ : BufTy).Contents (Elt F) → (⟨S_, .f32⟩ : BufTy).Contents (Elt F) → (⟨S17x4x16x8, .f32⟩ : BufTy).Contents (Elt F)),
    StableHlo.unary main_v93 main_v94 (broadcastInDim S17x4x16x8x1 ![0, 1, 2, 3] bcast_S17x4x16x8_S17x4x16x8x1_0_1_2_3 : (⟨S17x4x16x8, .f32⟩ : BufTy).Contents (Elt F) → (⟨S17x4x16x8x1, .f32⟩ : BufTy).Contents (Elt F)),
    StableHlo.binary main_v92 main_v94 main_v95 (maximumf : (⟨S17x4x16x8x1, .f32⟩ : BufTy).Contents (Elt F) → (⟨S17x4x16x8x1, .f32⟩ : BufTy).Contents (Elt F) → (⟨S17x4x16x8x1, .f32⟩ : BufTy).Contents (Elt F)) ]

/-- The exponentials. -/
abbrev expOps : List (HloOp τ sig (Elt F)) :=
  [ StableHlo.unary main_v95 main_v96 (broadcastInDim S17x4x16x8x16384 ![0, 1, 2, 3, 4] bcast_S17x4x16x8x1_S17x4x16x8x16384_0_1_2_3_4 : (⟨S17x4x16x8x1, .f32⟩ : BufTy).Contents (Elt F) → (⟨S17x4x16x8x16384, .f32⟩ : BufTy).Contents (Elt F)),
    StableHlo.binary main_v87 main_v96 main_v97 (subf : (⟨S17x4x16x8x16384, .f32⟩ : BufTy).Contents (Elt F) → (⟨S17x4x16x8x16384, .f32⟩ : BufTy).Contents (Elt F) → (⟨S17x4x16x8x16384, .f32⟩ : BufTy).Contents (Elt F)),
    StableHlo.unary main_v97 main_v98 (Host.exp : (⟨S17x4x16x8x16384, .f32⟩ : BufTy).Contents (Elt F) → (⟨S17x4x16x8x16384, .f32⟩ : BufTy).Contents (Elt F)),
    StableHlo.unary main_v95 main_v99 (broadcastInDim S17x4x16x8x4 ![0, 1, 2, 3, 4] bcast_S17x4x16x8x1_S17x4x16x8x4_0_1_2_3_4 : (⟨S17x4x16x8x1, .f32⟩ : BufTy).Contents (Elt F) → (⟨S17x4x16x8x4, .f32⟩ : BufTy).Contents (Elt F)),
    StableHlo.binary main_v90 main_v99 main_v100 (subf : (⟨S17x4x16x8x4, .f32⟩ : BufTy).Contents (Elt F) → (⟨S17x4x16x8x4, .f32⟩ : BufTy).Contents (Elt F) → (⟨S17x4x16x8x4, .f32⟩ : BufTy).Contents (Elt F)),
    StableHlo.unary main_v100 main_v101 (Host.exp : (⟨S17x4x16x8x4, .f32⟩ : BufTy).Contents (Elt F) → (⟨S17x4x16x8x4, .f32⟩ : BufTy).Contents (Elt F)) ]

/-- Their sum. -/
abbrev sumOps : List (HloOp τ sig (Elt F)) :=
  [ StableHlo.nullary main_cst_25 (constant S_ .f32 0x00000000#32),
    StableHlo.binary main_v98 main_cst_25 main_v102 ((fun x v => Host.reduceAdd x v reducesTo_S17x4x16x8x16384_S17x4x16x8_d4 h_S_) : (⟨S17x4x16x8x16384, .f32⟩ : BufTy).Contents (Elt F) → (⟨S_, .f32⟩ : BufTy).Contents (Elt F) → (⟨S17x4x16x8, .f32⟩ : BufTy).Contents (Elt F)),
    StableHlo.unary main_v102 main_v103 (broadcastInDim S17x4x16x8x1 ![0, 1, 2, 3] bcast_S17x4x16x8_S17x4x16x8x1_0_1_2_3 : (⟨S17x4x16x8, .f32⟩ : BufTy).Contents (Elt F) → (⟨S17x4x16x8x1, .f32⟩ : BufTy).Contents (Elt F)),
    StableHlo.nullary main_cst_26 (constant S_ .f32 0x00000000#32),
    StableHlo.binary main_v101 main_cst_26 main_v104 ((fun x v => Host.reduceAdd x v reducesTo_S17x4x16x8x4_S17x4x16x8_d4 h_S_) : (⟨S17x4x16x8x4, .f32⟩ : BufTy).Contents (Elt F) → (⟨S_, .f32⟩ : BufTy).Contents (Elt F) → (⟨S17x4x16x8, .f32⟩ : BufTy).Contents (Elt F)),
    StableHlo.unary main_v104 main_v105 (broadcastInDim S17x4x16x8x1 ![0, 1, 2, 3] bcast_S17x4x16x8_S17x4x16x8x1_0_1_2_3 : (⟨S17x4x16x8, .f32⟩ : BufTy).Contents (Elt F) → (⟨S17x4x16x8x1, .f32⟩ : BufTy).Contents (Elt F)),
    StableHlo.binary main_v103 main_v105 main_v106 (addf : (⟨S17x4x16x8x1, .f32⟩ : BufTy).Contents (Elt F) → (⟨S17x4x16x8x1, .f32⟩ : BufTy).Contents (Elt F) → (⟨S17x4x16x8x1, .f32⟩ : BufTy).Contents (Elt F)) ]

/-- The weights. -/
abbrev weightOps : List (HloOp τ sig (Elt F)) :=
  [ StableHlo.nullary main_cst_27 (constant S_ .f32 0x3F800000#32),
    StableHlo.unary main_cst_27 main_v107 (broadcastInDim S17x4x16x8x1 ![] bcast_S_S17x4x16x8x1 : (⟨S_, .f32⟩ : BufTy).Contents (Elt F) → (⟨S17x4x16x8x1, .f32⟩ : BufTy).Contents (Elt F)),
    StableHlo.binary main_v107 main_v106 main_v108 (Host.divf : (⟨S17x4x16x8x1, .f32⟩ : BufTy).Contents (Elt F) → (⟨S17x4x16x8x1, .f32⟩ : BufTy).Contents (Elt F) → (⟨S17x4x16x8x1, .f32⟩ : BufTy).Contents (Elt F)),
    StableHlo.unary main_v108 main_v109 (broadcastInDim S17x4x16x8x16384 ![0, 1, 2, 3, 4] bcast_S17x4x16x8x1_S17x4x16x8x16384_0_1_2_3_4 : (⟨S17x4x16x8x1, .f32⟩ : BufTy).Contents (Elt F) → (⟨S17x4x16x8x16384, .f32⟩ : BufTy).Contents (Elt F)),
    StableHlo.binary main_v98 main_v109 main_v110 (mulf : (⟨S17x4x16x8x16384, .f32⟩ : BufTy).Contents (Elt F) → (⟨S17x4x16x8x16384, .f32⟩ : BufTy).Contents (Elt F) → (⟨S17x4x16x8x16384, .f32⟩ : BufTy).Contents (Elt F)),
    StableHlo.unary main_v110 main_v111 ((truncf .bf16 · bitsLt_bf16_f32) : (⟨S17x4x16x8x16384, .f32⟩ : BufTy).Contents (Elt F) → (⟨S17x4x16x8x16384, .bf16⟩ : BufTy).Contents (Elt F)),
    StableHlo.unary main_v108 main_v112 (broadcastInDim S17x4x16x8x4 ![0, 1, 2, 3, 4] bcast_S17x4x16x8x1_S17x4x16x8x4_0_1_2_3_4 : (⟨S17x4x16x8x1, .f32⟩ : BufTy).Contents (Elt F) → (⟨S17x4x16x8x4, .f32⟩ : BufTy).Contents (Elt F)),
    StableHlo.binary main_v101 main_v112 main_v113 (mulf : (⟨S17x4x16x8x4, .f32⟩ : BufTy).Contents (Elt F) → (⟨S17x4x16x8x4, .f32⟩ : BufTy).Contents (Elt F) → (⟨S17x4x16x8x4, .f32⟩ : BufTy).Contents (Elt F)),
    StableHlo.unary main_v113 main_v114 ((truncf .bf16 · bitsLt_bf16_f32) : (⟨S17x4x16x8x4, .f32⟩ : BufTy).Contents (Elt F) → (⟨S17x4x16x8x4, .bf16⟩ : BufTy).Contents (Elt F)) ]

/-- The values. -/
abbrev valueOps : List (HloOp τ sig (Elt F)) :=
  [ StableHlo.reshape main_v52_5 main_v115 (rfl : (.bf16 : EltTy) = .bf16) shapeCasts_S17x16384x16x64_S17x16384x16x2x32,
    StableHlo.unary main_arg6 main_v116 ((truncf .bf16 · bitsLt_bf16_f32) : (⟨S17x16384x16x2, .f32⟩ : BufTy).Contents (Elt F) → (⟨S17x16384x16x2, .bf16⟩ : BufTy).Contents (Elt F)),
    StableHlo.unary main_v116 main_v117 (broadcastInDim S17x16384x16x2x1 ![0, 1, 2, 3] bcast_S17x16384x16x2_S17x16384x16x2x1_0_1_2_3 : (⟨S17x16384x16x2, .bf16⟩ : BufTy).Contents (Elt F) → (⟨S17x16384x16x2x1, .bf16⟩ : BufTy).Contents (Elt F)),
    StableHlo.unary main_v117 main_v118 (broadcastInDim S17x16384x16x2x32 ![0, 1, 2, 3, 4] bcast_S17x16384x16x2x1_S17x16384x16x2x32_0_1_2_3_4 : (⟨S17x16384x16x2x1, .bf16⟩ : BufTy).Contents (Elt F) → (⟨S17x16384x16x2x32, .bf16⟩ : BufTy).Contents (Elt F)),
    StableHlo.binary main_v115 main_v118 main_v119 (mulf : (⟨S17x16384x16x2x32, .bf16⟩ : BufTy).Contents (Elt F) → (⟨S17x16384x16x2x32, .bf16⟩ : BufTy).Contents (Elt F) → (⟨S17x16384x16x2x32, .bf16⟩ : BufTy).Contents (Elt F)),
    StableHlo.reshape main_v119 main_v120 (rfl : (.bf16 : EltTy) = .bf16) shapeCasts_S17x16384x16x2x32_S17x16384x16x64,
    StableHlo.reshape main_v52_3 main_v121 (rfl : (.bf16 : EltTy) = .bf16) shapeCasts_S17x4x16x64_S17x4x16x2x32,
    StableHlo.unary main_v43 main_v122 ((truncf .bf16 · bitsLt_bf16_f32) : (⟨S17x4x16x2, .f32⟩ : BufTy).Contents (Elt F) → (⟨S17x4x16x2, .bf16⟩ : BufTy).Contents (Elt F)),
    StableHlo.unary main_v122 main_v123 (broadcastInDim S17x4x16x2x1 ![0, 1, 2, 3] bcast_S17x4x16x2_S17x4x16x2x1_0_1_2_3 : (⟨S17x4x16x2, .bf16⟩ : BufTy).Contents (Elt F) → (⟨S17x4x16x2x1, .bf16⟩ : BufTy).Contents (Elt F)),
    StableHlo.unary main_v123 main_v124 (broadcastInDim S17x4x16x2x32 ![0, 1, 2, 3, 4] bcast_S17x4x16x2x1_S17x4x16x2x32_0_1_2_3_4 : (⟨S17x4x16x2x1, .bf16⟩ : BufTy).Contents (Elt F) → (⟨S17x4x16x2x32, .bf16⟩ : BufTy).Contents (Elt F)),
    StableHlo.binary main_v121 main_v124 main_v125 (mulf : (⟨S17x4x16x2x32, .bf16⟩ : BufTy).Contents (Elt F) → (⟨S17x4x16x2x32, .bf16⟩ : BufTy).Contents (Elt F) → (⟨S17x4x16x2x32, .bf16⟩ : BufTy).Contents (Elt F)),
    StableHlo.reshape main_v125 main_v126 (rfl : (.bf16 : EltTy) = .bf16) shapeCasts_S17x4x16x2x32_S17x4x16x64 ]

/-- The weighted sums. -/
abbrev dotOps : List (HloOp τ sig (Elt F)) :=
  [ StableHlo.binary main_v120 main_v111 main_v127 ((fun l r => Host.dotGeneral dot_S17x16384x16x64_S17x4x16x8x16384_S17x16x64x4x8_1_4_3_13_02_02 none l r) : (⟨S17x16384x16x64, .bf16⟩ : BufTy).Contents (Elt F) → (⟨S17x4x16x8x16384, .bf16⟩ : BufTy).Contents (Elt F) → (⟨S17x16x64x4x8, .f32⟩ : BufTy).Contents (Elt F)),
    StableHlo.unary main_v127 main_v128 ((transpose S17x4x16x8x64 [0, 3, 1, 4, 2] · transposes_S17x16x64x4x8_S17x4x16x8x64_0_3_1_4_2) : (⟨S17x16x64x4x8, .f32⟩ : BufTy).Contents (Elt F) → (⟨S17x4x16x8x64, .f32⟩ : BufTy).Contents (Elt F)),
    StableHlo.binary main_v126 main_v114 main_v129 ((fun l r => Host.dotGeneral dot_S17x4x16x64_S17x4x16x8x4_S17x16x64x4x8_1_4_3_13_02_02 none l r) : (⟨S17x4x16x64, .bf16⟩ : BufTy).Contents (Elt F) → (⟨S17x4x16x8x4, .bf16⟩ : BufTy).Contents (Elt F) → (⟨S17x16x64x4x8, .f32⟩ : BufTy).Contents (Elt F)),
    StableHlo.unary main_v129 main_v130 ((transpose S17x4x16x8x64 [0, 3, 1, 4, 2] · transposes_S17x16x64x4x8_S17x4x16x8x64_0_3_1_4_2) : (⟨S17x16x64x4x8, .f32⟩ : BufTy).Contents (Elt F) → (⟨S17x4x16x8x64, .f32⟩ : BufTy).Contents (Elt F)),
    StableHlo.binary main_v128 main_v130 main_v131 (addf : (⟨S17x4x16x8x64, .f32⟩ : BufTy).Contents (Elt F) → (⟨S17x4x16x8x64, .f32⟩ : BufTy).Contents (Elt F) → (⟨S17x4x16x8x64, .f32⟩ : BufTy).Contents (Elt F)) ]

/-- Whether the sum is zero. -/
abbrev testOps : List (HloOp τ sig (Elt F)) :=
  [ StableHlo.nullary main_cst_28 (constant S_ .f32 0x00000000#32),
    StableHlo.unary main_cst_28 main_v132 (broadcastInDim S17x4x16x8x1 ![] bcast_S_S17x4x16x8x1 : (⟨S_, .f32⟩ : BufTy).Contents (Elt F) → (⟨S17x4x16x8x1, .f32⟩ : BufTy).Contents (Elt F)),
    StableHlo.binary main_v106 main_v132 main_v133 (cmpf .oeq : (⟨S17x4x16x8x1, .f32⟩ : BufTy).Contents (Elt F) → (⟨S17x4x16x8x1, .f32⟩ : BufTy).Contents (Elt F) → (⟨S17x4x16x8x1, .i1⟩ : BufTy).Contents (Elt F)),
    StableHlo.nullary main_cst_29 (constant S_ .f32 0x7FC00000#32) ]

theorem soft_split : (hostOps1_4 : List (HloOp τ sig (Elt F))) = maxOps ++ (expOps ++ (sumOps ++ (weightOps ++ (valueOps ++ (dotOps ++ testOps))))) := rfl

variable (σ : Valuation τ sig (Elt Ideal))

/-! What the buffers hold, as functions of their positions. -/

def f87 : S17x4x16x8x16384.Idx → EReal := at_ σ main_v87
def f90 : S17x4x16x8x4.Idx → EReal := at_ σ main_v90
def f95 : S17x4x16x8x1.Idx → EReal := at_ σ main_v95
def f98 : S17x4x16x8x16384.Idx → EReal := at_ σ main_v98
def f101 : S17x4x16x8x4.Idx → EReal := at_ σ main_v101
def f106 : S17x4x16x8x1.Idx → EReal := at_ σ main_v106
def f111 : S17x4x16x8x16384.Idx → EReal := at_ σ main_v111
def f114 : S17x4x16x8x4.Idx → EReal := at_ σ main_v114
def f120 : S17x16384x16x64.Idx → EReal := at_ σ main_v120
def f126 : S17x4x16x64.Idx → EReal := at_ σ main_v126
def f131 : S17x4x16x8x64.Idx → EReal := at_ σ main_v131
def fVc : S17x16384x16x64.Idx → EReal := at_ σ main_v52_5
def fVs : S17x16384x16x2.Idx → EReal := at_ σ main_arg6
def fVn : S17x4x16x64.Idx → EReal := at_ σ main_v52_3
def fVns : S17x4x16x2.Idx → EReal := at_ σ main_v43

end Cert.ReferenceIdeal.Hand

end
-- ==== Proof.RI.Soft.lean ====
module

public import proofs.«01_k».proof.Proof.RI.Steps

/-! The reference's softmax and weighted sums, step by step. -/

@[expose] public section

set_option maxRecDepth 16384

noncomputable section

namespace Cert.ReferenceIdeal.Hand

open Cert.ReferenceIdeal Cert.ReferenceIdeal.Gen
open Idealize.ShloMosaic Idealize.ShloMosaic.TcCoe
open scoped BigOperators

variable (σ : Valuation τ sig (Elt Ideal))

/-- The largest of a row's cached scores, and of its new ones. -/
def supC (x : FVec Ideal S17x4x16x8x16384 .f32) : FVec Ideal S17x4x16x8 .f32 :=
  Host.reduce (FloatOps.maximumf (F := Ideal) (φ := .f32)) x (constant S_ .f32 0xFF800000#32) reducesTo_S17x4x16x8x16384_S17x4x16x8_d4 h_S_
def supN (x : FVec Ideal S17x4x16x8x4 .f32) : FVec Ideal S17x4x16x8 .f32 :=
  Host.reduce (FloatOps.maximumf (F := Ideal) (φ := .f32)) x (constant S_ .f32 0xFF800000#32) reducesTo_S17x4x16x8x4_S17x4x16x8_d4 h_S_

theorem fold_ninf {n : ℕ} (f : Fin n → EReal) : Finset.univ.fold max (Ideal.ofBits .f32 4286578688#32) f = Finset.univ.sup f := by
  rw [show Ideal.ofBits .f32 4286578688#32 = ⊥ by simp [Ideal.ofBits, Ideal.ieee]]
  rfl

theorem foldC (v : FVec Ideal S17x4x16x8x16384 .f32) (c : FVec Ideal S_ .f32) (y : S17x4x16x8.Idx) :
    Host.reduce FloatOps.maximumf v c reducesTo_S17x4x16x8x16384_S17x4x16x8_d4 h_S_ y
      = Finset.univ.fold max (c (Shape.Idx.first h_S_)) fun t : Fin 16384 => v (ix5 (y 0) (y 1) (y 2) (y 3) t) := by
  simp only [pointwise]
theorem foldN (v : FVec Ideal S17x4x16x8x4 .f32) (c : FVec Ideal S_ .f32) (y : S17x4x16x8.Idx) :
    Host.reduce FloatOps.maximumf v c reducesTo_S17x4x16x8x4_S17x4x16x8_d4 h_S_ y
      = Finset.univ.fold max (c (Shape.Idx.first h_S_)) fun t : Fin 4 => v (ix5 (y 0) (y 1) (y 2) (y 3) t) := by
  simp only [pointwise]

theorem supC_eq (x : FVec Ideal S17x4x16x8x16384 .f32) (y : S17x4x16x8.Idx) :
    supC x y = Finset.univ.sup fun t : Fin 16384 => x (ix5 (y 0) (y 1) (y 2) (y 3) t) :=
  by unfold supC; rw [foldC]; exact fold_ninf _
theorem supN_eq (x : FVec Ideal S17x4x16x8x4 .f32) (y : S17x4x16x8.Idx) :
    supN x y = Finset.univ.sup fun t : Fin 4 => x (ix5 (y 0) (y 1) (y 2) (y 3) t) :=
  by unfold supN; rw [foldN]; exact fold_ninf _

theorem max_read (g k : FVec Ideal S17x4x16x8 .f32) (y : S17x4x16x8x1.Idx) :
    (maximumf (F := Ideal) (φ := .f32)
      (broadcastInDim S17x4x16x8x1 ![0, 1, 2, 3] bcast_S17x4x16x8_S17x4x16x8x1_0_1_2_3 g)
      (broadcastInDim S17x4x16x8x1 ![0, 1, 2, 3] bcast_S17x4x16x8_S17x4x16x8x1_0_1_2_3 k)) y
      = max (g (ix4 (y 0) (y 1) (y 2) (y 3))) (k (ix4 (y 0) (y 1) (y 2) (y 3))) := by
  simp only [pointwise]
  rfl

theorem f95_sup (y : S17x4x16x8x1.Idx) : f95 (StableHlo.after maxOps σ) y
    = max (supC (f87 σ) (ix4 (y 0) (y 1) (y 2) (y 3))) (supN (f90 σ) (ix4 (y 0) (y 1) (y 2) (y 3))) := by
  unfold f95 f87 f90 at_
  entry_read
  change (maximumf (F := Ideal) (φ := .f32)
      (broadcastInDim S17x4x16x8x1 ![0, 1, 2, 3] bcast_S17x4x16x8_S17x4x16x8x1_0_1_2_3 (supC (σ (Proc.devRef .tc main_v87))))
      (broadcastInDim S17x4x16x8x1 ![0, 1, 2, 3] bcast_S17x4x16x8_S17x4x16x8x1_0_1_2_3 (supN (σ (Proc.devRef .tc main_v90))))) y = _
  exact max_read _ _ y

theorem f95_read (y : S17x4x16x8x1.Idx) : f95 (StableHlo.after maxOps σ) y
    = max (Finset.univ.sup fun t : Fin 16384 => f87 σ (ix5 (y 0) (y 1) (y 2) (y 3) t)) (Finset.univ.sup fun t : Fin 4 => f90 σ (ix5 (y 0) (y 1) (y 2) (y 3) t)) := by
  rw [f95_sup, supC_eq, supN_eq]
  rfl

theorem f98_read (y : S17x4x16x8x16384.Idx) : f98 (StableHlo.after expOps σ) y
    = Ideal.exp (f87 σ y - f95 σ (ix5 (y 0) (y 1) (y 2) (y 3) 0)) := by
  unfold f98 f87 f95 at_
  entry_read
  pointwise

theorem f101_read (y : S17x4x16x8x4.Idx) : f101 (StableHlo.after expOps σ) y
    = Ideal.exp (f90 σ y - f95 σ (ix5 (y 0) (y 1) (y 2) (y 3) 0)) := by
  unfold f101 f90 f95 at_
  entry_read
  pointwise

theorem f106_read (y : S17x4x16x8x1.Idx) : f106 (StableHlo.after sumOps σ) y
    = (∑ t : Fin 16384, f98 σ (ix5 (y 0) (y 1) (y 2) (y 3) t)) + (∑ t : Fin 4, f101 σ (ix5 (y 0) (y 1) (y 2) (y 3) t)) := by
  unfold f106 f98 f101 at_
  entry_read
  pointwise

theorem f111_read (y : S17x4x16x8x16384.Idx) : f111 (StableHlo.after weightOps σ) y
    = f98 σ y * Ideal.div 1 (f106 σ (ix5 (y 0) (y 1) (y 2) (y 3) 0)) := by
  unfold f98 f106 f111 at_
  entry_read
  pointwise

theorem f114_read (y : S17x4x16x8x4.Idx) : f114 (StableHlo.after weightOps σ) y
    = f101 σ y * Ideal.div 1 (f106 σ (ix5 (y 0) (y 1) (y 2) (y 3) 0)) := by
  unfold f101 f106 f114 at_
  entry_read
  pointwise

theorem f120_read (b : Fin 17) (t : Fin 16384) (h : Fin 16) (d : Fin 64) : f120 (StableHlo.after valueOps σ) (ix4 b t h d)
    = fVc σ (ix4 b t h d) * fVs σ (ix4 b t h (grp d)) := by
  unfold f120 fVc fVs at_
  entry_read
  pointwise
  rw [grp_split]

theorem f126_read (b : Fin 17) (t : Fin 4) (h : Fin 16) (d : Fin 64) : f126 (StableHlo.after valueOps σ) (ix4 b t h d)
    = fVn σ (ix4 b t h d) * fVns σ (ix4 b t h (grp d)) := by
  unfold f126 fVn fVns at_
  entry_read
  pointwise
  rw [grp_split]

theorem f131_read (y : S17x4x16x8x64.Idx) : f131 (StableHlo.after dotOps σ) y
    = (∑ t : Fin 16384, f120 σ (ix4 (y 0) t (y 2) (y 4)) * f111 σ (ix5 (y 0) (y 1) (y 2) (y 3) t))
      + ∑ t : Fin 4, f126 σ (ix4 (y 0) t (y 2) (y 4)) * f114 σ (ix5 (y 0) (y 1) (y 2) (y 3) t) := by
  unfold f131 f120 f111 f126 f114 at_
  generalize hR : (HAdd.hAdd (Finset.sum _ _) (Finset.sum _ _) : EReal) = R
  entry_read
  pointwise
  exact hR

end Cert.ReferenceIdeal.Hand

end
-- ==== Proof.RI.CallDefs.lean ====
module

public import proofs.«01_k».proof.Proof.RI.Steps

/-! The reference's masked scores and its last buffers. -/

@[expose] public section

set_option maxRecDepth 16384

noncomputable section

namespace Cert.ReferenceIdeal.Hand

open Cert.ReferenceIdeal Cert.ReferenceIdeal.Gen
open Idealize.ShloMosaic Idealize.ShloMosaic.TcCoe
open scoped BigOperators

variable (σ : Valuation τ sig (Elt Ideal))

def f76 : S17x1x1x1x16384.Idx → BitVec 1 := at_ σ main_v76
def f84 : S1x4x1x1x4.Idx → BitVec 1 := at_ σ main_v84
def f86 : S17x4x16x8x16384.Idx → EReal := at_ σ main_v86
def f69 : S17x4x16x8x4.Idx → EReal := at_ σ main_v69
def f89 : S17x4x16x8x4.Idx → EReal := at_ σ main_v89
def f133 : S17x4x16x8x1.Idx → BitVec 1 := at_ σ main_v133
def f134 : S17x4x16x8x64.Idx → EReal := at_ σ main_v134
def f137 : S17x4x64x128.Idx → EReal := at_ σ main_v137
def g20 : S_.Idx → EReal := at_ σ main_cst_20
def g22 : S_.Idx → EReal := at_ σ main_cst_22
def g29 : S_.Idx → EReal := at_ σ main_cst_29

end Cert.ReferenceIdeal.Hand

end
-- ==== Proof.RI.Keep.lean ====
module

public import proofs.«01_k».proof.Proof.RI.CallDefs

/-! The reference's masks, and the buffers its steps leave alone. -/

@[expose] public section

set_option maxRecDepth 16384

noncomputable section

namespace Cert.ReferenceIdeal.Hand

open Cert.ReferenceIdeal Cert.ReferenceIdeal.Gen
open Idealize.ShloMosaic Idealize.ShloMosaic.TcCoe
open scoped BigOperators

variable (σ : Valuation τ sig (Elt Ideal))

theorem keep_f87_maxOps : f87 (StableHlo.after maxOps σ) = f87 σ := by
  unfold f87 at_
  entry_read
  rfl

theorem keep_f90_maxOps : f90 (StableHlo.after maxOps σ) = f90 σ := by
  unfold f90 at_
  entry_read
  rfl

theorem keep_f98_sumOps : f98 (StableHlo.after sumOps σ) = f98 σ := by
  unfold f98 at_
  entry_read
  rfl

theorem keep_f101_sumOps : f101 (StableHlo.after sumOps σ) = f101 σ := by
  unfold f101 at_
  entry_read
  rfl

theorem keep_f106_dotOps : f106 (StableHlo.after dotOps σ) = f106 σ := by
  unfold f106 at_
  entry_read
  rfl

theorem keep_f111_valueOps : f111 (StableHlo.after valueOps σ) = f111 σ := by
  unfold f111 at_
  entry_read
  rfl

theorem keep_f114_valueOps : f114 (StableHlo.after valueOps σ) = f114 σ := by
  unfold f114 at_
  entry_read
  rfl

theorem keep_f131_testOps : f131 (StableHlo.after testOps σ) = f131 σ := by
  unfold f131 at_
  entry_read
  rfl

theorem keep_f106_valueOps_weightOps : f106 (StableHlo.after valueOps (StableHlo.after weightOps σ)) = f106 σ := by
  unfold f106 at_
  entry_read
  rfl

theorem keep_f106_testOps : f106 (StableHlo.after testOps σ) = f106 σ := by
  unfold f106 at_
  entry_read
  rfl

theorem keep_f87_hostOps1_3_hostOps1_2 : f87 (StableHlo.after hostOps1_3 (StableHlo.after hostOps1_2 σ)) = f87 σ := by
  unfold f87 at_
  entry_read
  rfl

theorem keep_f69_hostOps1_1 : f69 (StableHlo.after hostOps1_1 σ) = f69 σ := by
  unfold f69 at_
  entry_read
  rfl

theorem keep_f84_hostOps1_2_hostOps1_1 : f84 (StableHlo.after hostOps1_2 (StableHlo.after hostOps1_1 σ)) = f84 σ := by
  unfold f84 at_
  entry_read
  rfl

theorem keep_fVc_0 : fVc (StableHlo.after weightOps (StableHlo.after sumOps (StableHlo.after expOps (StableHlo.after maxOps σ)))) = fVc σ := by
  unfold fVc at_
  entry_read
  rfl

theorem keep_fVc_1 : fVc (StableHlo.after hostOps1_3 (StableHlo.after hostOps1_2 (StableHlo.after hostOps1_1 (StableHlo.after hostOps1 σ)))) = fVc σ := by
  unfold fVc at_
  entry_read
  rfl

theorem keep_fVs_0 : fVs (StableHlo.after weightOps (StableHlo.after sumOps (StableHlo.after expOps (StableHlo.after maxOps σ)))) = fVs σ := by
  unfold fVs at_
  entry_read
  rfl

theorem keep_fVs_1 : fVs (StableHlo.after hostOps1_3 (StableHlo.after hostOps1_2 (StableHlo.after hostOps1_1 (StableHlo.after hostOps1 σ)))) = fVs σ := by
  unfold fVs at_
  entry_read
  rfl

theorem keep_fVn_0 : fVn (StableHlo.after weightOps (StableHlo.after sumOps (StableHlo.after expOps (StableHlo.after maxOps σ)))) = fVn σ := by
  unfold fVn at_
  entry_read
  rfl

theorem keep_fVn_1 : fVn (StableHlo.after hostOps1_3 (StableHlo.after hostOps1_2 (StableHlo.after hostOps1_1 (StableHlo.after hostOps1 σ)))) = fVn σ := by
  unfold fVn at_
  entry_read
  rfl

theorem keep_fVns_0 : fVns (StableHlo.after weightOps (StableHlo.after sumOps (StableHlo.after expOps (StableHlo.after maxOps σ)))) = fVns σ := by
  unfold fVns at_
  entry_read
  rfl

theorem keep_fVns_1 : fVns (StableHlo.after hostOps1_3 (StableHlo.after hostOps1_2 (StableHlo.after hostOps1_1 (StableHlo.after hostOps1 σ)))) = fVns σ := by
  unfold fVns at_
  entry_read
  rfl

end Cert.ReferenceIdeal.Hand

end
-- ==== Proof.RI.Calls.lean ====
module

public import proofs.«01_k».proof.Proof.RI.CallDefs

/-! The reference's masks, and the buffers its steps leave alone. -/

@[expose] public section

set_option maxRecDepth 16384

noncomputable section

namespace Cert.ReferenceIdeal.Hand

open Cert.ReferenceIdeal Cert.ReferenceIdeal.Gen
open Idealize.ShloMosaic Idealize.ShloMosaic.TcCoe
open scoped BigOperators

variable (σ : Valuation τ sig (Elt Ideal))

theorem f87_read (y : S17x4x16x8x16384.Idx) : f87 (StableHlo.after hostOps1_1 σ) y = if f76 σ (ix5 (y 0) 0 0 0 (y 4)) = 1#1 then f86 σ y else g20 σ ix0 := by
  unfold f87 f76 f86 g20 at_
  entry_read
  simp only [StableHlo.TRef.ofBuf_toBuf]
  simp -implicitDefEqProofs only [StableHlo.TRef.toBuf, StableHlo.TRef.ofBuf, cast_eq]
  pointwise
  rfl

theorem f89_read (y : S17x4x16x8x4.Idx) : f89 (StableHlo.after hostOps1_2 σ) y = f69 σ y * Ideal.ofBits .f32 0x3E000000#32 := by
  unfold f89 f69 at_
  entry_read
  pointwise

theorem f90_read (y : S17x4x16x8x4.Idx) : f90 (StableHlo.after hostOps1_3 σ) y = if f84 σ (ix5 0 (y 1) 0 0 (y 4)) = 1#1 then f89 σ y else g22 σ ix0 := by
  unfold f90 f84 f89 g22 at_
  entry_read
  simp only [StableHlo.TRef.ofBuf_toBuf]
  simp -implicitDefEqProofs only [StableHlo.TRef.toBuf, StableHlo.TRef.ofBuf, cast_eq]
  pointwise
  rfl

theorem f133_read (y : S17x4x16x8x1.Idx) : f133 (StableHlo.after testOps σ) y = Ideal.cmp .oeq (f106 σ y) (Ideal.ofBits .f32 0#32) := by
  unfold f133 f106 at_
  entry_read
  pointwise

theorem f134_read (y : S17x4x16x8x64.Idx) : f134 (StableHlo.after hostOps1_5 σ) y = if f133 σ (ix5 (y 0) (y 1) (y 2) (y 3) 0) = 1#1 then g29 σ ix0 else f131 σ y := by
  unfold f134 f133 f131 g29 at_
  entry_read
  simp only [StableHlo.TRef.ofBuf_toBuf]
  simp -implicitDefEqProofs only [StableHlo.TRef.toBuf, StableHlo.TRef.ofBuf, cast_eq]
  pointwise
  rfl

theorem f137_read (y : S17x4x64x128.Idx) : f137 (StableHlo.after hostOps1_6 σ) y = f134 σ (ix5 (y 0) (y 1) ⟨(y 3).val / 8, by have : (y 3).val < 128 := (y 3).isLt; omega⟩ ⟨(y 3).val % 8, by omega⟩ (y 2)) := by
  unfold f137 f134 at_
  entry_read
  pointwise

theorem g20_read : g20 (StableHlo.after hostOps1 σ) ix0 = ⊥ := by
  unfold g20 at_
  entry_read
  exact (by simp [Ideal.ofBits, Ideal.ieee] : Ideal.ofBits .f32 4286578688#32 = ⊥)
theorem g22_read : g22 (StableHlo.after hostOps1_2 σ) ix0 = ⊥ := by
  unfold g22 at_
  entry_read
  exact (by simp [Ideal.ofBits, Ideal.ieee] : Ideal.ofBits .f32 4286578688#32 = ⊥)
theorem g29_read : g29 (StableHlo.after testOps σ) ix0 = ⊥ := by
  unfold g29 at_
  entry_read
  exact (by simp [Ideal.ofBits, Ideal.ieee] : Ideal.ofBits .f32 2143289344#32 = ⊥)

end Cert.ReferenceIdeal.Hand

end
-- ==== Proof.RI.Scores.lean ====
module

public import proofs.«01_k».proof.Proof.RI.Base

/-! The reference's scores: what the operations after the conversions compute, up to the maximum. -/

@[expose] public section

set_option maxRecDepth 16384

noncomputable section

namespace Cert.ReferenceIdeal.Hand

open Cert.ReferenceIdeal.Gen
open Idealize.ShloMosaic Idealize.ShloMosaic.TcCoe
open scoped BigOperators

variable (σ : Valuation τ sig (Elt Ideal))

def aX : S17x4x128x64.Idx → EReal := at_ σ main_arg0
def aKc : S17x16384x16x64.Idx → EReal := at_ σ main_v52_4
def aKs : S17x16384x16x2.Idx → EReal := at_ σ main_arg4
def aKn : S17x4x16x64.Idx → EReal := at_ σ main_v52_2
def aKns : S17x4x16x2.Idx → EReal := at_ σ main_v17
def aLen : S17.Idx → BitVec 32 := at_ σ main_arg7

theorem v86_read (y : S17x4x16x8x16384.Idx) :
    (StableHlo.after hostOps1 σ (Proc.devRef .tc main_v86) : S17x4x16x8x16384.Idx → EReal) y
      = (∑ d : Fin 64, (aKc σ (ix4 (y 0) (y 4) (y 2) d) * aKs σ (ix4 (y 0) (y 4) (y 2) (grp d))) * aX σ (ix4 (y 0) (y 1) (hd (y 2) (y 3)) d))
        * Ideal.ofBits .f32 0x3E000000#32 := by
  unfold aKc aKs aX at_
  entry_read
  pointwise
  refine congrArg (· * _) (sum_eq fun x => ?_)
  rw [grp_split]

theorem v69_read (y : S17x4x16x8x4.Idx) :
    (StableHlo.after hostOps1 σ (Proc.devRef .tc main_v69) : S17x4x16x8x4.Idx → EReal) y
      = (∑ d : Fin 64, (aKn σ (ix4 (y 0) (y 4) (y 2) d) * aKns σ (ix4 (y 0) (y 4) (y 2) (grp d))) * aX σ (ix4 (y 0) (y 1) (hd (y 2) (y 3)) d)) := by
  unfold aKn aKns aX at_
  entry_read
  pointwise
  refine sum_eq fun x => ?_
  rw [grp_split]

theorem v76_read (y : S17x1x1x1x16384.Idx) :
    (StableHlo.after hostOps1 σ (Proc.devRef .tc main_v76) : S17x1x1x1x16384.Idx → BitVec 1) y
      = IntOp.cmpi .slt (BitVec.ofNat 32 (y 4).val) (aLen σ (ix1 (y 0))) := by
  unfold aLen at_
  entry_read
  pointwise

theorem v84_read (y : S1x4x1x1x4.Idx) :
    (StableHlo.after hostOps1 σ (Proc.devRef .tc main_v84) : S1x4x1x1x4.Idx → BitVec 1) y
      = IntOp.cmpi .sle (BitVec.ofNat 32 (y 4).val) (BitVec.ofNat 32 (y 1).val) := by
  entry_read
  pointwise

end Cert.ReferenceIdeal.Hand

end
-- ==== Proof.SoftEq.lean ====
module

public import proofs.«01_k».proof.Proof.Softmax

/-! The textbook softmax-weighted sum and the online one give the same value. -/

@[expose] public section

noncomputable section

namespace Cert.Softmax

open Idealize.ShloMosaic
open scoped BigOperators

variable {ι κ : Type*} [Fintype ι] [Fintype κ] [DecidableEq ι] [DecidableEq κ]

/-- The textbook denominator over two families of scores: the first family's terms after the second's. -/
def den (sn : ι → EReal) (sc : κ → EReal) : EReal :=
  (∑ t, Ideal.exp (sc t - max (Finset.univ.sup sc) (Finset.univ.sup sn))) + ∑ j, Ideal.exp (sn j - max (Finset.univ.sup sc) (Finset.univ.sup sn))

/-- The textbook output: the values weighted by the normalized exponentials, and not a number where no key is admitted. -/
def soft (sn : ι → EReal) (sc : κ → EReal) (vn : ι → EReal) (vc : κ → EReal) : EReal :=
  if den sn sc = 0 then ⊥ else
    (∑ t, vc t * (Ideal.exp (sc t - max (Finset.univ.sup sc) (Finset.univ.sup sn)) * Ideal.div 1 (den sn sc)))
      + ∑ j, vn j * (Ideal.exp (sn j - max (Finset.univ.sup sc) (Finset.univ.sup sn)) * Ideal.div 1 (den sn sc))

theorem sup_elim (sn : ι → EReal) (sc : κ → EReal) :
    (Finset.univ : Finset (ι ⊕ κ)).sup (Sum.elim sn sc) = max (Finset.univ.sup sc) (Finset.univ.sup sn) := by
  refine le_antisymm (Finset.sup_le fun k _ => ?_) (max_le (Finset.sup_le fun t _ => ?_) (Finset.sup_le fun j _ => ?_))
  · cases k with
    | inl j => exact le_max_of_le_right (Finset.le_sup (f := sn) (Finset.mem_univ j))
    | inr t => exact le_max_of_le_left (Finset.le_sup (f := sc) (Finset.mem_univ t))
  · exact Finset.le_sup (f := Sum.elim sn sc) (Finset.mem_univ (Sum.inr t))
  · exact Finset.le_sup (f := Sum.elim sn sc) (Finset.mem_univ (Sum.inl j))

theorem L_elim (sn : ι → EReal) (sc : κ → EReal) :
    L (fun k => Sum.elim sn sc k * lam) Finset.univ = den sn sc := by
  have h : L (fun k => Sum.elim sn sc k * lam) Finset.univ
      = ∑ k, Ideal.exp (Sum.elim sn sc k - max (Finset.univ.sup sc) (Finset.univ.sup sn)) := by
    unfold L
    refine Finset.sum_congr rfl fun k _ => ?_
    rw [weight_scaled, sup_elim]
  rw [h, Fintype.sum_sum_type, add_comm]
  rfl

/-- The online quotient is the textbook output. -/
theorem online_eq (sn : ι → EReal) (sc : κ → EReal) (vn : ι → EReal) (vc : κ → EReal) :
    Ideal.div (A (fun k => Sum.elim sn sc k * lam) (Sum.elim vn vc) Finset.univ) (L (fun k => Sum.elim sn sc k * lam) Finset.univ)
      = soft sn sc vn vc := by
  rw [div_eq, L_elim]
  unfold soft
  refine if_congr Iff.rfl rfl ?_
  rw [Fintype.sum_sum_type, add_comm]
  refine congrArg₂ (· + ·) (Finset.sum_congr rfl fun t _ => ?_) (Finset.sum_congr rfl fun j _ => ?_)
  · rw [weight_scaled, sup_elim]
    exact mul_comm _ _
  · rw [weight_scaled, sup_elim]
    exact mul_comm _ _

end Cert.Softmax

end
-- ==== Proof.RI.Tail.lean ====
module

public import proofs.«01_k».proof.Proof.RI.Soft
public import proofs.«01_k».proof.Proof.RI.Keep
public import proofs.«01_k».proof.Proof.RI.Calls
public import proofs.«01_k».proof.Proof.RI.Scores
public import proofs.«01_k».proof.Proof.SoftEq

/-! The reference's last result as one formula of what the operations after the conversions find. -/

@[expose] public section

set_option maxRecDepth 16384

noncomputable section

namespace Cert.ReferenceIdeal.Hand

open Cert.ReferenceIdeal.Gen Cert.Softmax
open Idealize.ShloMosaic Idealize.ShloMosaic.TcCoe
open scoped BigOperators

variable (σ : Valuation τ sig (Elt Ideal))

theorem den_step (b : Fin 17) (t : Fin 4) (h : Fin 16) (g : Fin 8) :
    f106 (StableHlo.after sumOps (StableHlo.after expOps (StableHlo.after maxOps σ))) (ix5 b t h g 0)
      = den (fun j : Fin 4 => f90 σ (ix5 b t h g j)) (fun k : Fin 16384 => f87 σ (ix5 b t h g k)) := by
  rw [f106_read]
  unfold den
  refine congrArg₂ (· + ·) (Finset.sum_congr rfl fun k _ => ?_) (Finset.sum_congr rfl fun j _ => ?_)
  · rw [f98_read, keep_f87_maxOps, f95_read]
    rfl
  · rw [f101_read, keep_f90_maxOps, f95_read]
    rfl

/-- The softmax and the weighted sum. -/
theorem soft_read (b : Fin 17) (t : Fin 4) (h : Fin 16) (g : Fin 8) (d : Fin 64) :
    f134 (StableHlo.after hostOps1_5 (StableHlo.after hostOps1_4 σ)) (ix5 b t h g d)
      = soft (fun j : Fin 4 => f90 σ (ix5 b t h g j)) (fun k : Fin 16384 => f87 σ (ix5 b t h g k))
          (fun j : Fin 4 => fVn σ (ix4 b j h d) * fVns σ (ix4 b j h (grp d)))
          (fun k : Fin 16384 => fVc σ (ix4 b k h d) * fVs σ (ix4 b k h (grp d))) := by
  rw [f134_read, soft_split, StableHlo.after_append, StableHlo.after_append, StableHlo.after_append, StableHlo.after_append, StableHlo.after_append, StableHlo.after_append,
    f133_read, g29_read, keep_f131_testOps, keep_f106_dotOps, keep_f106_valueOps_weightOps]
  unfold soft
  rw [show (ix5 ((ix5 b t h g d : S17x4x16x8x64.Idx) 0) ((ix5 b t h g d : S17x4x16x8x64.Idx) 1) ((ix5 b t h g d : S17x4x16x8x64.Idx) 2) ((ix5 b t h g d : S17x4x16x8x64.Idx) 3) 0 : S17x4x16x8x1.Idx) = ix5 b t h g 0 from rfl, den_step]
  refine if_congr ?_ rfl ?_
  · rw [show Ideal.ofBits .f32 0#32 = 0 by simp [Ideal.ofBits, Ideal.ieee]]
    show BitVec.ofBool (decide _) = 1#1 ↔ _
    by_cases hd : den (fun j : Fin 4 => f90 σ (ix5 b t h g j)) (fun k : Fin 16384 => f87 σ (ix5 b t h g k)) = 0
    · simp [hd]
    · simp [hd]
  · rw [f131_read]
    refine congrArg₂ (· + ·) (Finset.sum_congr rfl fun k _ => ?_) (Finset.sum_congr rfl fun j _ => ?_)
    · refine congrArg₂ (· * ·) ?_ ?_
      · refine (f120_read _ b k h d).trans ?_
        rw [keep_fVc_0, keep_fVs_0]
      · rw [keep_f111_valueOps, f111_read]
        refine congrArg₂ (· * ·) ?_ (congrArg (Ideal.div 1) ?_)
        · rw [keep_f98_sumOps, f98_read, keep_f87_maxOps, f95_read]
          rfl
        · exact den_step σ b t h g
    · refine congrArg₂ (· * ·) ?_ ?_
      · refine (f126_read _ b j h d).trans ?_
        rw [keep_fVn_0, keep_fVns_0]
      · rw [keep_f114_valueOps, f114_read]
        refine congrArg₂ (· * ·) ?_ (congrArg (Ideal.div 1) ?_)
        · rw [keep_f101_sumOps, f101_read, keep_f90_maxOps, f95_read]
          rfl
        · exact den_step σ b t h g

/-- The score of a cached key, and of a new key. -/
def scoreC (b : Fin 17) (t : Fin 4) (h : Fin 16) (g : Fin 8) (k : Fin 16384) : EReal :=
  if IntOp.cmpi .slt (BitVec.ofNat 32 k.val) (aLen σ (ix1 b)) = 1#1 then
    (∑ d : Fin 64, (aKc σ (ix4 b k h d) * aKs σ (ix4 b k h (grp d))) * aX σ (ix4 b t (hd h g) d)) * Ideal.ofBits .f32 0x3E000000#32
  else ⊥
def scoreN (b : Fin 17) (t : Fin 4) (h : Fin 16) (g : Fin 8) (j : Fin 4) : EReal :=
  if IntOp.cmpi .sle (BitVec.ofNat 32 j.val) (BitVec.ofNat 32 t.val) = 1#1 then
    (∑ d : Fin 64, (aKn σ (ix4 b j h d) * aKns σ (ix4 b j h (grp d))) * aX σ (ix4 b t (hd h g) d)) * Ideal.ofBits .f32 0x3E000000#32
  else ⊥

theorem scoreC_read (b : Fin 17) (t : Fin 4) (h : Fin 16) (g : Fin 8) (k : Fin 16384) :
    f87 (StableHlo.after hostOps1_3 (StableHlo.after hostOps1_2 (StableHlo.after hostOps1_1 (StableHlo.after hostOps1 σ)))) (ix5 b t h g k) = scoreC σ b t h g k := by
  rw [keep_f87_hostOps1_3_hostOps1_2, f87_read, g20_read]
  unfold scoreC
  refine if_congr (iff_of_eq (congrArg (· = 1#1) ?_)) ?_ rfl
  · exact v76_read σ _
  · exact v86_read σ _

theorem scoreN_read (b : Fin 17) (t : Fin 4) (h : Fin 16) (g : Fin 8) (j : Fin 4) :
    f90 (StableHlo.after hostOps1_3 (StableHlo.after hostOps1_2 (StableHlo.after hostOps1_1 (StableHlo.after hostOps1 σ)))) (ix5 b t h g j) = scoreN σ b t h g j := by
  rw [f90_read, g22_read, keep_f84_hostOps1_2_hostOps1_1, f89_read, keep_f69_hostOps1_1]
  unfold scoreN
  refine if_congr (iff_of_eq (congrArg (· = 1#1) ?_)) (congrArg (· * Ideal.ofBits .f32 0x3E000000#32) ?_) rfl
  · exact v84_read σ _
  · exact v69_read σ _

theorem soft_all (b : Fin 17) (t : Fin 4) (h : Fin 16) (g : Fin 8) (d : Fin 64) :
    f134 (StableHlo.after hostOps1_5 (StableHlo.after hostOps1_4 (StableHlo.after hostOps1_3 (StableHlo.after hostOps1_2 (StableHlo.after hostOps1_1 (StableHlo.after hostOps1 σ)))))) (ix5 b t h g d)
      = soft (scoreN σ b t h g) (scoreC σ b t h g)
          (fun j : Fin 4 => fVn σ (ix4 b j h d) * fVns σ (ix4 b j h (grp d)))
          (fun k : Fin 16384 => fVc σ (ix4 b k h d) * fVs σ (ix4 b k h (grp d))) := by
  rw [soft_read]
  simp only [scoreC_read, scoreN_read, keep_fVc_1, keep_fVs_1, keep_fVn_1, keep_fVns_1]

/-- The group of a query head, and its place in the group. -/
abbrev hq (q : Fin 128) : Fin 16 := ⟨q.val / 8, by omega⟩
abbrev gq (q : Fin 128) : Fin 8 := ⟨q.val % 8, by omega⟩

/-- The output. -/
theorem out_read (b : Fin 17) (t : Fin 4) (d : Fin 64) (q : Fin 128) :
    f137 (StableHlo.after hostOps1_6 (StableHlo.after hostOps1_5 (StableHlo.after hostOps1_4 (StableHlo.after hostOps1_3 (StableHlo.after hostOps1_2 (StableHlo.after hostOps1_1 (StableHlo.after hostOps1 σ))))))) (ix4 b t d q)
      = soft (scoreN σ b t (hq q) (gq q)) (scoreC σ b t (hq q) (gq q))
          (fun j : Fin 4 => fVn σ (ix4 b j (hq q) d) * fVns σ (ix4 b j (hq q) (grp d)))
          (fun k : Fin 16384 => fVc σ (ix4 b k (hq q) d) * fVs σ (ix4 b k (hq q) (grp d))) :=
  (f137_read _ _).trans (soft_all σ b t (hq q) (gq q) d)

end Cert.ReferenceIdeal.Hand

end
-- ==== Proof.RI.Region.lean ====
module

public import proofs.«01_k».proof.Proof.Gen.ReferenceIdeal.Frame
public import Idealize.ShloMosaic.Lib.Claim
public import Idealize.ShloMosaic.Lib.Pointwise
public import Idealize.ShloMosaic.Lib.Pipeline.ValueKit

/-! The conversions of the reference's one call: at the ideal numbers each array is the one it converts. -/

@[expose] public section

set_option maxRecDepth 16384

noncomputable section

namespace Cert.ReferenceIdeal.Hand

open Cert.ReferenceIdeal.Gen
open Idealize.ShloMosaic Idealize.ShloMosaic.TcCoe
open Idealize.ShloMosaic.Pipeline (Dat Cfg Window)

variable (m : (ℓ : Loc nD τ sig) → Buf (Elt Ideal) ℓ) (c : Dev nD)

theorem out_4 (x0 x1 : S17x4x16x64.Idx → EReal) (x2 x3 : S17x16384x16x64.Idx → EReal) (y : S17x4x16x64.Idx) :
    (out0_4 (F := Ideal) x0 x1 x2 x3 : S17x4x16x64.Idx → EReal) y = x0 y := by
  unfold out0_4
  refine View.canon_apply_of_pieces (Val := Elt Ideal) (e := .fp8e4m3) (x0 : S17x4x16x64.Idx → EReal) _ (fun p hp x => ?_) y (cover0_4 _ y)
  rw [List.mem_singleton] at hp
  subst hp
  simp only [pointwise, k0_pay1]
  exact congrArg x0 (funext fun a => Fin.ext (by match a with | 0 => rfl | 1 => rfl | 2 => rfl | 3 => rfl))

theorem arr_4 : ((dats m 0 c).arrAt 4 cfg0.N : S17x4x16x64.Idx → EReal) = V m c main_v25 := by
  refine (dats m 0 c).arrAt_eq_of_covers 4 _ (by decide +kernel) fun t hf y => ?_
  blk_simp
  rw [after0_4]
  refine (out_4 _ _ _ _ _).trans ?_
  rfl

theorem out_5 (x0 x1 : S17x4x16x64.Idx → EReal) (x2 x3 : S17x16384x16x64.Idx → EReal) (y : S17x4x16x64.Idx) :
    (out0_5 (F := Ideal) x0 x1 x2 x3 : S17x4x16x64.Idx → EReal) y = x1 y := by
  unfold out0_5
  refine View.canon_apply_of_pieces (Val := Elt Ideal) (e := .fp8e4m3) (x1 : S17x4x16x64.Idx → EReal) _ (fun p hp x => ?_) y (cover0_5 _ y)
  rw [List.mem_singleton] at hp
  subst hp
  simp only [pointwise, k0_pay3]
  exact congrArg x1 (funext fun a => Fin.ext (by match a with | 0 => rfl | 1 => rfl | 2 => rfl | 3 => rfl))

theorem arr_5 : ((dats m 0 c).arrAt 5 cfg0.N : S17x4x16x64.Idx → EReal) = V m c main_v51 := by
  refine (dats m 0 c).arrAt_eq_of_covers 5 _ (by decide +kernel) fun t hf y => ?_
  blk_simp
  rw [after0_5]
  refine (out_5 _ _ _ _ _).trans ?_
  rfl

theorem out_6 (x0 x1 : S17x4x16x64.Idx → EReal) (x2 x3 : S17x16384x16x64.Idx → EReal) (y : S17x4x16x64.Idx) :
    (out0_6 (F := Ideal) x0 x1 x2 x3 : S17x4x16x64.Idx → EReal) y = x0 y := by
  unfold out0_6
  refine View.canon_apply_of_pieces (Val := Elt Ideal) (e := .bf16) (x0 : S17x4x16x64.Idx → EReal) _ (fun p hp x => ?_) y (cover0_6 _ y)
  rw [List.mem_singleton] at hp
  subst hp
  simp only [pointwise, k0_pay2, k0_pay1]
  exact congrArg x0 (funext fun a => Fin.ext (by match a with | 0 => rfl | 1 => rfl | 2 => rfl | 3 => rfl))

theorem arr_6 : ((dats m 0 c).arrAt 6 cfg0.N : S17x4x16x64.Idx → EReal) = V m c main_v25 := by
  refine (dats m 0 c).arrAt_eq_of_covers 6 _ (by decide +kernel) fun t hf y => ?_
  blk_simp
  rw [after0_6]
  refine (out_6 _ _ _ _ _).trans ?_
  rfl

theorem out_7 (x0 x1 : S17x4x16x64.Idx → EReal) (x2 x3 : S17x16384x16x64.Idx → EReal) (y : S17x4x16x64.Idx) :
    (out0_7 (F := Ideal) x0 x1 x2 x3 : S17x4x16x64.Idx → EReal) y = x1 y := by
  unfold out0_7
  refine View.canon_apply_of_pieces (Val := Elt Ideal) (e := .bf16) (x1 : S17x4x16x64.Idx → EReal) _ (fun p hp x => ?_) y (cover0_7 _ y)
  rw [List.mem_singleton] at hp
  subst hp
  simp only [pointwise, k0_pay4, k0_pay3]
  exact congrArg x1 (funext fun a => Fin.ext (by match a with | 0 => rfl | 1 => rfl | 2 => rfl | 3 => rfl))

theorem arr_7 : ((dats m 0 c).arrAt 7 cfg0.N : S17x4x16x64.Idx → EReal) = V m c main_v51 := by
  refine (dats m 0 c).arrAt_eq_of_covers 7 _ (by decide +kernel) fun t hf y => ?_
  blk_simp
  rw [after0_7]
  refine (out_7 _ _ _ _ _).trans ?_
  rfl

theorem out_8 (x0 x1 : S17x4x16x64.Idx → EReal) (x2 x3 : S17x16384x16x64.Idx → EReal) (y : S17x16384x16x64.Idx) :
    (out0_8 (F := Ideal) x0 x1 x2 x3 : S17x16384x16x64.Idx → EReal) y = x2 y := by
  unfold out0_8
  refine View.canon_apply_of_pieces (Val := Elt Ideal) (e := .bf16) (x2 : S17x16384x16x64.Idx → EReal) _ (fun p hp x => ?_) y (cover0_8 _ y)
  rw [List.mem_singleton] at hp
  subst hp
  simp only [pointwise, k0_pay5]
  exact congrArg x2 (funext fun a => Fin.ext (by match a with | 0 => rfl | 1 => rfl | 2 => rfl | 3 => rfl))

theorem arr_8 : ((dats m 0 c).arrAt 8 cfg0.N : S17x16384x16x64.Idx → EReal) = V m c main_arg3 := by
  refine (dats m 0 c).arrAt_eq_of_covers 8 _ (by decide +kernel) fun t hf y => ?_
  blk_simp
  rw [after0_8]
  refine (out_8 _ _ _ _ _).trans ?_
  rfl

theorem out_9 (x0 x1 : S17x4x16x64.Idx → EReal) (x2 x3 : S17x16384x16x64.Idx → EReal) (y : S17x16384x16x64.Idx) :
    (out0_9 (F := Ideal) x0 x1 x2 x3 : S17x16384x16x64.Idx → EReal) y = x3 y := by
  unfold out0_9
  refine View.canon_apply_of_pieces (Val := Elt Ideal) (e := .bf16) (x3 : S17x16384x16x64.Idx → EReal) _ (fun p hp x => ?_) y (cover0_9 _ y)
  rw [List.mem_singleton] at hp
  subst hp
  simp only [pointwise, k0_pay6]
  exact congrArg x3 (funext fun a => Fin.ext (by match a with | 0 => rfl | 1 => rfl | 2 => rfl | 3 => rfl))

theorem arr_9 : ((dats m 0 c).arrAt 9 cfg0.N : S17x16384x16x64.Idx → EReal) = V m c main_arg5 := by
  refine (dats m 0 c).arrAt_eq_of_covers 9 _ (by decide +kernel) fun t hf y => ?_
  blk_simp
  rw [after0_9]
  refine (out_9 _ _ _ _ _).trans ?_
  rfl

end Cert.ReferenceIdeal.Hand

end
-- ==== Proof.Quant.lean ====
module

public import proofs.«01_k».proof.Proof.KI.QuantSpec

/-! The exponent found by searching the bits of an exponent field is the floor of the base-two logarithm plus one, for a
number below the top of the format, and zero below the smallest normal number; so the scale and its inverse are the powers of
two the reference writes. -/

@[expose] public section

set_option maxRecDepth 16384

noncomputable section

namespace Cert.Quant

open Idealize.ShloMosaic Cert.Spec

/-- The number whose exponent field is `t` and whose fraction is zero. -/
def power (t : ℕ) : EReal := Ideal.ieee 8 23 (IntOp.shli .vector (BitVec.ofNat 32 t) 23#32)

theorem power_zero : power 0 = 0 := by
  simp [power, Ideal.ieee, IntOp.shli]

theorem power_top : power 255 = ⊤ := by
  simp [power, Ideal.ieee, IntOp.shli]

theorem shifted_toNat (t : ℕ) (h : t ≤ 254) : (IntOp.shli .vector (BitVec.ofNat 32 t) 23#32).toNat = t * 8388608 := by
  unfold IntOp.shli
  rw [if_pos (by decide), BitVec.shiftLeft_eq', BitVec.toNat_shiftLeft, BitVec.toNat_ofNat, Nat.shiftLeft_eq]
  norm_num
  omega

theorem shifted_field (t : ℕ) (h : t ≤ 254) : (BitVec.extractLsb' 23 8 (IntOp.shli .vector (BitVec.ofNat 32 t) 23#32)).toNat = t := by
  rw [BitVec.extractLsb'_toNat, shifted_toNat t h, Nat.shiftRight_eq_div_pow]
  norm_num
  omega

theorem shifted_fraction (t : ℕ) (h : t ≤ 254) : (BitVec.extractLsb' 0 23 (IntOp.shli .vector (BitVec.ofNat 32 t) 23#32)).toNat = 0 := by
  rw [BitVec.extractLsb'_toNat, shifted_toNat t h, Nat.shiftRight_eq_div_pow]
  norm_num

theorem shifted_sign (t : ℕ) (h : t ≤ 254) : (BitVec.extractLsb' (8 + 23) 1 (IntOp.shli .vector (BitVec.ofNat 32 t) 23#32) == 1#1) = false := by
  rw [beq_eq_false_iff_ne]
  intro hc
  have := congrArg BitVec.toNat hc
  rw [BitVec.extractLsb'_toNat, shifted_toNat t h, Nat.shiftRight_eq_div_pow] at this
  norm_num at this
  omega

theorem significand (t : ℤ) : (2 : ℝ) ^ (23 : ℕ) * (2 : ℝ) ^ (t - 127 - 23) = (2 : ℝ) ^ (t - 127) := by
  rw [← zpow_natCast, ← zpow_add₀ (by norm_num)]
  congr 1
  push_cast
  ring

theorem power_eq (t : ℕ) (h : 1 ≤ t) (h' : t ≤ 254) : power t = ((2 : ℝ) ^ ((t : ℤ) - 127) : ℝ) := by
  unfold power Ideal.ieee
  simp only [shifted_field t h', shifted_fraction t h', shifted_sign t h']
  rw [if_neg (by omega), if_neg (by omega), ← significand]
  norm_num

/-- The field in whole numbers. -/
def step (y : EReal) (f b : ℕ) : ℕ := if y < power (f + b) then f else f + b

theorem qStep_eq (y : EReal) (f b : ℕ) : qStep y (BitVec.ofNat 32 f) (BitVec.ofNat 32 b) = BitVec.ofNat 32 (step y f b) := by
  have ha : IntOp.addi (BitVec.ofNat 32 f) (BitVec.ofNat 32 b) = BitVec.ofNat 32 (f + b) := by
    exact BitVec.ofNat_add_ofNat ..
  unfold qStep step
  rw [ha]
  show Scalar.select (BitVec.ofBool (decide (y < power (f + b)))) _ _ = _
  by_cases h : y < power (f + b)
  · rw [if_pos h, decide_eq_true h]; rfl
  · rw [if_neg h, decide_eq_false h]; rfl

/-- The search keeps the number between two neighbouring powers, `2 * b` apart and then `b`. -/
def Between (y : EReal) (f w : ℕ) : Prop := f + w ≤ 256 ∧ (f = 0 ∨ power f ≤ y) ∧ (f + w = 256 ∨ y < power (f + w))

theorem between_step {y : EReal} {f b : ℕ} (hb : 0 < b) (h : Between y f (2 * b)) : Between y (step y f b) b := by
  obtain ⟨h0, h1, h2⟩ := h
  unfold step
  split
  · next hlt => exact ⟨by omega, h1, .inr hlt⟩
  · next hge =>
    refine ⟨by omega, .inr (not_lt.mp hge), ?_⟩
    rw [show f + b + b = f + 2 * b by ring]
    exact h2

/-- The field as a whole number. -/
def field (y : EReal) : ℕ :=
  step y (step y (step y (step y (step y (step y (step y (step y 0 128) 64) 32) 16) 8) 4) 2) 1

theorem qField_eq (y : EReal) : qField y = BitVec.ofNat 32 (field y) := by
  unfold qField field
  simp only [← qStep_eq]

theorem field_between (y : EReal) : Between y (field y) 1 := by
  unfold field
  refine between_step (b := 1) (by norm_num) (between_step (b := 2) (by norm_num) (between_step (b := 4) (by norm_num)
    (between_step (b := 8) (by norm_num) (between_step (b := 16) (by norm_num) (between_step (b := 32) (by norm_num)
    (between_step (b := 64) (by norm_num) (between_step (b := 128) (by norm_num) ⟨by norm_num, .inl rfl, .inl rfl⟩)))))))

/-- The reference's exponent. -/
def refExp (y : EReal) : EReal :=
  if y < Ideal.ofBits .f32 0x00800000#32 then Ideal.ofBits .f32 0x00000000#32
  else Ideal.liftRound Int.floor (Ideal.div (Ideal.log y) (Ideal.log (Ideal.ofBits .f32 0x40000000#32))) + Ideal.ofBits .f32 0x3F800000#32

theorem tiny_bits : Ideal.ofBits .f32 0x00800000#32 = power 1 := rfl
theorem two_bits : Ideal.ofBits .f32 0x40000000#32 = ((2 : ℝ) : EReal) := by
  rw [show Ideal.ofBits .f32 0x40000000#32 = power 128 from rfl, power_eq 128 (by norm_num) (by norm_num)]
  norm_num
theorem one_bits : Ideal.ofBits .f32 0x3F800000#32 = ((1 : ℝ) : EReal) := by
  rw [show Ideal.ofBits .f32 0x3F800000#32 = power 127 from rfl, power_eq 127 (by norm_num) (by norm_num)]
  norm_num
theorem zero_bits : Ideal.ofBits .f32 0x00000000#32 = 0 := by simp [Ideal.ofBits, Ideal.ieee]

/-- The field of a number below `2 ^ 120` and the reference's exponent. -/
theorem refExp_eq {r : ℝ} (h : r < (2 : ℝ) ^ (120 : ℤ)) :
    (field r = 0 ∧ refExp r = 0) ∨ (1 ≤ field r ∧ field r ≤ 246 ∧ refExp r = (((field r : ℤ) - 126 : ℤ) : ℝ)) := by
  obtain ⟨h0, h1, h2⟩ := field_between (r : EReal)
  rcases Nat.eq_zero_or_pos (field r) with hz | hp
  · left
    refine ⟨hz, ?_⟩
    rw [hz] at h2
    rcases h2 with h2 | h2
    · omega
    · unfold refExp
      rw [tiny_bits, if_pos h2, zero_bits]
  · right
    generalize hn : field (r : EReal) = n at *
    have hle : power n ≤ r := h1.resolve_left (by omega)
    have hn254 : n ≤ 254 := by
      by_contra hc
      rw [show n = 255 by omega, power_top, top_le_iff] at hle
      exact EReal.coe_ne_top _ hle
    rw [power_eq n hp hn254, EReal.coe_le_coe_iff] at hle
    have hn246 : n ≤ 246 := by
      have := (zpow_lt_zpow_iff_right₀ (by norm_num : (1 : ℝ) < 2)).mp (lt_of_le_of_lt hle h)
      omega
    have hlt : (r : EReal) < power (n + 1) := h2.resolve_left (by omega)
    rw [power_eq (n + 1) (by omega) (by omega), EReal.coe_lt_coe_iff] at hlt
    refine ⟨hp, hn246, ?_⟩
    have hr : 0 < r := lt_of_lt_of_le (by positivity) hle
    have hl2 : 0 < Real.log 2 := Real.log_pos one_lt_two
    have hfloor : ⌊Real.log r * (Real.log 2)⁻¹⌋ = (n : ℤ) - 127 := by
      rw [Int.floor_eq_iff, ← div_eq_mul_inv, le_div_iff₀ hl2, div_lt_iff₀ hl2]
      have e1 := Real.log_le_log (by positivity) hle
      have e2 := Real.log_lt_log hr hlt
      rw [Real.log_zpow] at e1 e2
      push_cast at e1 e2 ⊢
      constructor
      · linarith
      · have : ((n : ℝ) + 1 - 127) = ((n : ℝ) - 127 + 1) := by ring
        rw [this] at e2
        exact e2
    unfold refExp
    rw [tiny_bits, power_eq 1 le_rfl (by norm_num), if_neg, two_bits, one_bits]
    · rw [show Ideal.log (r : EReal) = (Real.log r : ℝ) from if_neg (not_le.mpr hr),
        show Ideal.log ((2 : ℝ) : EReal) = (Real.log 2 : ℝ) from if_neg (by norm_num)]
      unfold Ideal.div
      rw [if_neg (by exact_mod_cast hl2.ne'), ← EReal.coe_inv, ← EReal.coe_mul, Ideal.liftRound_coe, hfloor, ← EReal.coe_add]
      congr 1
      push_cast
      ring
    · rw [not_lt, EReal.coe_le_coe_iff]
      refine le_trans ?_ hle
      exact zpow_le_zpow_right₀ (by norm_num) (by push_cast; omega)

theorem pow_two (k : ℤ) : Ideal.pow ((2 : ℝ) : EReal) (((k : ℤ) : ℝ) : EReal) = ((2 : ℝ) ^ k : ℝ) := by
  show ((Real.rpow 2 (k : ℝ) : ℝ) : EReal) = _
  congr 1
  exact Real.rpow_intCast 2 k

theorem qExp_zero {y : EReal} (h : field y = 0) : qExp y = 0#32 := by
  unfold qExp
  rw [qField_eq, h]
  rfl

theorem qExp_pos {y : EReal} (h : 1 ≤ field y) (h' : field y ≤ 246) : qExp y = BitVec.ofNat 32 (field y) - 126#32 := by
  unfold qExp
  rw [qField_eq]
  have : ¬ BitVec.ofNat 32 (field y) = 0#32 := fun hc => by
    have := congrArg BitVec.toNat hc
    simp at this
    omega
  unfold Scalar.select IntOp.cmpi IntOp.subi
  rw [if_neg (by
    show ¬ BitVec.ofBool (BitVec.ofNat 32 (field y) == 0#32) = 1#1
    rw [beq_eq_false_iff_ne.mpr this]
    decide)]

/-- The scale is two to the reference's exponent, -/
theorem qScale_eq {r : ℝ} (h : r < (2 : ℝ) ^ (120 : ℤ)) :
    qScale r = Ideal.pow (Ideal.ofBits .f32 0x40000000#32) (refExp r) := by
  rw [two_bits]
  unfold qScale
  rcases refExp_eq h with ⟨hz, he⟩ | ⟨h1, h2, he⟩
  · rw [qExp_zero hz, he]
    show power 127 = _
    rw [power_eq 127 (by norm_num) (by norm_num)]
    have := pow_two 0
    simpa using this.symm
  · rw [qExp_pos h1 h2, he, pow_two]
    rw [show IntOp.addi (BitVec.ofNat 32 (field r) - 126#32) 127#32 = BitVec.ofNat 32 (field r + 1) from by
      apply BitVec.eq_of_toNat_eq
      simp [IntOp.addi, BitVec.toNat_add, BitVec.toNat_sub, BitVec.toNat_ofNat]
      omega]
    show power (field r + 1) = _
    rw [power_eq _ (by omega) (by omega)]
    congr 2
    push_cast
    ring

/-- and the inverse scale two to its negation. -/
theorem qInv_eq {r : ℝ} (h : r < (2 : ℝ) ^ (120 : ℤ)) :
    qInv r = Ideal.pow (Ideal.ofBits .f32 0x40000000#32) (-refExp r) := by
  rw [two_bits]
  unfold qInv
  rcases refExp_eq h with ⟨hz, he⟩ | ⟨h1, h2, he⟩
  · rw [qExp_zero hz, he]
    show power 127 = _
    rw [power_eq 127 (by norm_num) (by norm_num)]
    have := pow_two 0
    simpa using this.symm
  · rw [qExp_pos h1 h2, he, ← EReal.coe_neg, ← Int.cast_neg, pow_two]
    rw [show IntOp.subi 127#32 (BitVec.ofNat 32 (field r) - 126#32) = BitVec.ofNat 32 (253 - field r) from by
      apply BitVec.eq_of_toNat_eq
      simp [IntOp.subi, BitVec.toNat_sub, BitVec.toNat_ofNat]
      omega]
    show power (253 - field r) = _
    rw [power_eq _ (by omega) (by omega)]
    congr 2
    push_cast [Nat.cast_sub (show field r ≤ 253 by omega)]
    ring

end Cert.Quant

end
-- ==== Proof.RI.Prefix.lean ====
module

public import proofs.«01_k».proof.Proof.RI.Base
public import proofs.«01_k».proof.Proof.Quant

/-! The reference's quantiser. -/

@[expose] public section

set_option maxRecDepth 16384

noncomputable section

namespace Cert.ReferenceIdeal.Hand

open Cert.ReferenceIdeal Cert.ReferenceIdeal.Gen Cert.Spec Cert.Quant
open Idealize.ShloMosaic Idealize.ShloMosaic.TcCoe
open scoped BigOperators

variable (σ : Valuation τ sig (Elt Ideal))

/-- A group of 32 components. -/
def grpOf (X : S17x4x16x64.Idx → EReal) (b : Fin 17) (t : Fin 4) (h : Fin 16) (g : Fin 2) : Fin 32 → EReal :=
  fun x => X (ix4 b t h ⟨g.val * 32 + x.val, by omega⟩)

theorem fold_top (f : Fin 32 → EReal) :
    Finset.univ.fold max (Ideal.ofBits .f32 4286578688#32) (fun x => FloatOps.absf (F := Ideal) (φ := .f32) (f x)) * Ideal.ofBits .f32 991054117#32 = qTop f := by
  rw [show Ideal.ofBits .f32 4286578688#32 = ⊥ by simp [Ideal.ofBits, Ideal.ieee]]
  rfl

theorem refExp_word (y : EReal) :
    (if y < Ideal.ofBits .f32 8388608#32 then 0
      else Ideal.liftRound Int.floor (Ideal.div (Ideal.log y) (Ideal.log (Ideal.ofBits .f32 1073741824#32))) + 1) = refExp y := by
  unfold refExp
  rw [zero_bits, one_bits]
  rfl

def pA : S17x4x16x64.Idx → EReal := at_ σ main_arg1
def pB : S17x4x16x64.Idx → EReal := at_ σ main_arg2
def p1 : S17x4x16x2x32.Idx → EReal := at_ σ main_v1
def p27 : S17x4x16x2x32.Idx → EReal := at_ σ main_v27
def p15 : S17x4x16x2.Idx → EReal := at_ σ main_v15
def p41 : S17x4x16x2.Idx → EReal := at_ σ main_v41
def p17 : S17x4x16x2.Idx → EReal := at_ σ main_v17
def p43 : S17x4x16x2.Idx → EReal := at_ σ main_v43
def p25 : S17x4x16x64.Idx → EReal := at_ σ main_v25
def p51 : S17x4x16x64.Idx → EReal := at_ σ main_v51

theorem p1_read (b : Fin 17) (t : Fin 4) (h : Fin 16) (g : Fin 2) (x : Fin 32) :
    p1 (StableHlo.after hostOps0_1 (StableHlo.after hostOps0 σ)) (ix5 b t h g x) = grpOf (pA σ) b t h g x := by
  unfold p1 pA grpOf at_
  entry_read
  pointwise

theorem p15_read (b : Fin 17) (t : Fin 4) (h : Fin 16) (g : Fin 2) :
    p15 (StableHlo.after hostOps0_1 (StableHlo.after hostOps0 σ)) (ix4 b t h g) = refExp (qTop (grpOf (pA σ) b t h g)) := by
  rw [← refExp_word, ← fold_top]
  unfold p15 pA grpOf at_
  entry_read
  simp only [StableHlo.TRef.ofBuf_toBuf]
  simp -implicitDefEqProofs only [StableHlo.TRef.toBuf, StableHlo.TRef.ofBuf, cast_eq]
  pointwise

theorem p17_read (y : S17x4x16x2.Idx) :
    p17 (StableHlo.after hostOps0_2 σ) y = Ideal.pow (Ideal.ofBits .f32 0x40000000#32) (p15 σ y) := by
  unfold p17 p15 at_
  entry_read
  pointwise

theorem p25_read (b : Fin 17) (t : Fin 4) (h : Fin 16) (d : Fin 64) :
    p25 (StableHlo.after hostOps0_4 (StableHlo.after hostOps0_3 (StableHlo.after hostOps0_2 σ))) (ix4 b t h d)
      = qClip (p1 σ (ix5 b t h (grp d) ⟨d.val % 32, by omega⟩) * Ideal.pow (Ideal.ofBits .f32 0x40000000#32) (-p15 σ (ix4 b t h (grp d)))) := by
  unfold p25 p1 p15 qClip at_
  entry_read
  simp only [StableHlo.TRef.ofBuf_toBuf]
  simp -implicitDefEqProofs only [StableHlo.TRef.toBuf, StableHlo.TRef.ofBuf, cast_eq]
  pointwise

theorem p27_read (b : Fin 17) (t : Fin 4) (h : Fin 16) (g : Fin 2) (x : Fin 32) :
    p27 (StableHlo.after hostOps0_5 (StableHlo.after hostOps0_4 σ)) (ix5 b t h g x) = grpOf (pB σ) b t h g x := by
  unfold p27 pB grpOf at_
  entry_read
  pointwise

theorem p41_read (b : Fin 17) (t : Fin 4) (h : Fin 16) (g : Fin 2) :
    p41 (StableHlo.after hostOps0_5 (StableHlo.after hostOps0_4 σ)) (ix4 b t h g) = refExp (qTop (grpOf (pB σ) b t h g)) := by
  rw [← refExp_word, ← fold_top]
  unfold p41 pB grpOf at_
  entry_read
  simp only [StableHlo.TRef.ofBuf_toBuf]
  simp -implicitDefEqProofs only [StableHlo.TRef.toBuf, StableHlo.TRef.ofBuf, cast_eq]
  pointwise

theorem p43_read (y : S17x4x16x2.Idx) :
    p43 (StableHlo.after hostOps0_6 σ) y = Ideal.pow (Ideal.ofBits .f32 0x40000000#32) (p41 σ y) := by
  unfold p43 p41 at_
  entry_read
  pointwise

theorem p51_read (b : Fin 17) (t : Fin 4) (h : Fin 16) (d : Fin 64) :
    p51 (StableHlo.after hostOps0_8 (StableHlo.after hostOps0_7 (StableHlo.after hostOps0_6 σ))) (ix4 b t h d)
      = qClip (p27 σ (ix5 b t h (grp d) ⟨d.val % 32, by omega⟩) * Ideal.pow (Ideal.ofBits .f32 0x40000000#32) (-p41 σ (ix4 b t h (grp d)))) := by
  unfold p51 p27 p41 qClip at_
  entry_read
  simp only [StableHlo.TRef.ofBuf_toBuf]
  simp -implicitDefEqProofs only [StableHlo.TRef.toBuf, StableHlo.TRef.ofBuf, cast_eq]
  pointwise

theorem keep_p17 : p17 (StableHlo.after hostOps0_8 (StableHlo.after hostOps0_7 (StableHlo.after hostOps0_6 (StableHlo.after hostOps0_5 (StableHlo.after hostOps0_4 (StableHlo.after hostOps0_3 σ)))))) = p17 σ := by
  unfold p17 at_
  entry_read
  rfl

theorem keep_p25 : p25 (StableHlo.after hostOps0_8 (StableHlo.after hostOps0_7 (StableHlo.after hostOps0_6 (StableHlo.after hostOps0_5 σ)))) = p25 σ := by
  unfold p25 at_
  entry_read
  rfl

theorem keep_p43 : p43 (StableHlo.after hostOps0_8 (StableHlo.after hostOps0_7 σ)) = p43 σ := by
  unfold p43 at_
  entry_read
  rfl

theorem keep_pB : pB (StableHlo.after hostOps0_3 (StableHlo.after hostOps0_2 (StableHlo.after hostOps0_1 (StableHlo.after hostOps0 σ)))) = pB σ := by
  unfold pB at_
  entry_read
  rfl

/-- What the call finds is what the host operations, list after list, leave. -/
theorem V_lists (m : (ℓ : Loc nD τ sig) → Buf (Elt Ideal) ℓ) (c : Dev nD) (b : DevRef τ sig) :
    StableHlo.after [hostOps0, hostOps0_1, hostOps0_2, hostOps0_3, hostOps0_4, hostOps0_5, hostOps0_6, hostOps0_7, hostOps0_8].flatten (fun b => m (c, b)) b
      = StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) b := by
  rw [List.flatten_cons, List.flatten_cons, List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append, StableHlo.after_append, StableHlo.after_append]

section
variable (m : (ℓ : Loc nD τ sig) → Buf (Elt Ideal) ℓ) (c : Dev nD)

/-- The new keys and the new values, as launched. -/
def argK : S17x4x16x64.Idx → EReal := m ((c : Thread nD τ).loc main_arg1)
def argV : S17x4x16x64.Idx → EReal := m ((c : Thread nD τ).loc main_arg2)

/-- The reference's scale and code. -/
def refScale (X : S17x4x16x64.Idx → EReal) (b : Fin 17) (t : Fin 4) (h : Fin 16) (g : Fin 2) : EReal :=
  Ideal.pow (Ideal.ofBits .f32 0x40000000#32) (refExp (qTop (grpOf X b t h g)))
def refCode (X : S17x4x16x64.Idx → EReal) (b : Fin 17) (t : Fin 4) (h : Fin 16) (d : Fin 64) : EReal :=
  qClip (X (ix4 b t h d) * Ideal.pow (Ideal.ofBits .f32 0x40000000#32) (-refExp (qTop (grpOf X b t h (grp d)))))

theorem grpOf_mod (X : S17x4x16x64.Idx → EReal) (b : Fin 17) (t : Fin 4) (h : Fin 16) (d : Fin 64) :
    grpOf X b t h (grp d) ⟨d.val % 32, Nat.mod_lt _ (by decide)⟩ = X (ix4 b t h d) := by
  unfold grpOf
  exact congrArg (fun z => X (ix4 b t h z)) (Fin.ext (Nat.div_add_mod' _ _))

theorem V_v17 (b : Fin 17) (t : Fin 4) (h : Fin 16) (g : Fin 2) : (V m c main_v17 : S17x4x16x2.Idx → EReal) (ix4 b t h g) = refScale (argK m c) b t h g := by
  refine (congrFun (V_lists m c (Proc.devRef .tc main_v17)) (ix4 b t h g)).trans ?_
  refine (congrFun (keep_p17 _) (ix4 b t h g)).trans ?_
  rw [p17_read, p15_read]
  rfl

theorem V_v25 (b : Fin 17) (t : Fin 4) (h : Fin 16) (d : Fin 64) : (V m c main_v25 : S17x4x16x64.Idx → EReal) (ix4 b t h d) = refCode (argK m c) b t h d := by
  refine (congrFun (V_lists m c (Proc.devRef .tc main_v25)) (ix4 b t h d)).trans ?_
  refine (congrFun (keep_p25 _) (ix4 b t h d)).trans ?_
  rw [p25_read, p15_read, p1_read, grpOf_mod]
  rfl

theorem V_v43 (b : Fin 17) (t : Fin 4) (h : Fin 16) (g : Fin 2) : (V m c main_v43 : S17x4x16x2.Idx → EReal) (ix4 b t h g) = refScale (argV m c) b t h g := by
  refine (congrFun (V_lists m c (Proc.devRef .tc main_v43)) (ix4 b t h g)).trans ?_
  refine (congrFun (keep_p43 _) (ix4 b t h g)).trans ?_
  rw [p43_read, p41_read, keep_pB]
  rfl

theorem V_v51 (b : Fin 17) (t : Fin 4) (h : Fin 16) (d : Fin 64) : (V m c main_v51 : S17x4x16x64.Idx → EReal) (ix4 b t h d) = refCode (argV m c) b t h d := by
  refine (congrFun (V_lists m c (Proc.devRef .tc main_v51)) (ix4 b t h d)).trans ?_
  refine (p51_read _ b t h d).trans ?_
  rw [p41_read, p27_read, grpOf_mod, keep_pB]
  rfl
end

end Cert.ReferenceIdeal.Hand

end
-- ==== Proof.RI.Result.lean ====
module

public import proofs.«01_k».proof.Proof.RI.Tail
public import proofs.«01_k».proof.Proof.RI.Region
public import proofs.«01_k».proof.Proof.RI.Prefix

/-! The reference's attention output as one formula of its arguments. -/

@[expose] public section

set_option maxRecDepth 16384

noncomputable section

namespace Cert.ReferenceIdeal.Hand

open Cert.ReferenceIdeal Cert.ReferenceIdeal.Gen Cert.Softmax
open Idealize.ShloMosaic Idealize.ShloMosaic.TcCoe
open Idealize.ShloMosaic.Pipeline (Dat Cfg Window)
open scoped BigOperators

/-- The score of a new key and of a cached one, and their values. -/
def sN (X : S17x4x128x64.Idx → EReal) (K : S17x4x16x64.Idx → EReal) (b : Fin 17) (t : Fin 4) (h : Fin 16) (g : Fin 8) (j : Fin 4) : EReal :=
  if IntOp.cmpi .sle (BitVec.ofNat 32 j.val) (BitVec.ofNat 32 t.val) = 1#1 then
    (∑ d : Fin 64, (refCode K b j h d * refScale K b j h (grp d)) * X (ix4 b t (hd h g) d)) * Ideal.ofBits .f32 0x3E000000#32
  else ⊥
def sC (X : S17x4x128x64.Idx → EReal) (KC : S17x16384x16x64.Idx → EReal) (KS : S17x16384x16x2.Idx → EReal) (N : S17.Idx → BitVec 32)
    (b : Fin 17) (t : Fin 4) (h : Fin 16) (g : Fin 8) (k : Fin 16384) : EReal :=
  if IntOp.cmpi .slt (BitVec.ofNat 32 k.val) (N (ix1 b)) = 1#1 then
    (∑ d : Fin 64, (KC (ix4 b k h d) * KS (ix4 b k h (grp d))) * X (ix4 b t (hd h g) d)) * Ideal.ofBits .f32 0x3E000000#32
  else ⊥
def refOut (X : S17x4x128x64.Idx → EReal) (K W : S17x4x16x64.Idx → EReal) (KC : S17x16384x16x64.Idx → EReal) (KS : S17x16384x16x2.Idx → EReal)
    (VC : S17x16384x16x64.Idx → EReal) (VS : S17x16384x16x2.Idx → EReal) (N : S17.Idx → BitVec 32)
    (b : Fin 17) (t : Fin 4) (d : Fin 64) (q : Fin 128) : EReal :=
  soft (sN X K b t (hq q) (gq q)) (sC X KC KS N b t (hq q) (gq q))
    (fun j => refCode W b j (hq q) d * refScale W b j (hq q) (grp d))
    (fun k => VC (ix4 b k (hq q) d) * VS (ix4 b k (hq q) (grp d)))

variable (m : (ℓ : Loc nD τ sig) → Buf (Elt Ideal) ℓ) (c : Dev nD)

/-- What the call leaves. -/
def left : Valuation τ sig (Elt Ideal) :=
  Pipeline.withArrays (cfgs 0).spec c (V0 m c) fun w => (dats m 0 c).arrAt w (cfgs 0).N

theorem left_arr (w : Fin 10) : left m c (Proc.devRef .tc (Pipeline.arrRef spec0 w)) = (dats m 0 c).arrAt w cfg0.N :=
  Pipeline.withArrays_arr _ launch0.win.arr_inj c _ _ w

def theX : S17x4x128x64.Idx → EReal := m ((c : Thread nD τ).loc main_arg0)
def theKC : S17x16384x16x64.Idx → EReal := m ((c : Thread nD τ).loc main_arg3)
def theKS : S17x16384x16x2.Idx → EReal := m ((c : Thread nD τ).loc main_arg4)
def theVC : S17x16384x16x64.Idx → EReal := m ((c : Thread nD τ).loc main_arg5)
def theVS : S17x16384x16x2.Idx → EReal := m ((c : Thread nD τ).loc main_arg6)
def theN : S17.Idx → BitVec 32 := m ((c : Thread nD τ).loc main_arg7)

theorem left_ne (r : Ref sig .tc) (h : ∀ w, Pipeline.arrRef spec0 w ≠ r) : left m c (Proc.devRef .tc r) = V m c r :=
  Pipeline.withArrays_of_ne _ c (V0 m c) _ r h

theorem left_aX : aX (left m c) = theX m c := (left_ne m c main_arg0 (by decide)).trans (V_main_arg0 m c)
theorem left_aKs : aKs (left m c) = theKS m c := (left_ne m c main_arg4 (by decide)).trans (V_main_arg4 m c)
theorem left_fVs : fVs (left m c) = theVS m c := (left_ne m c main_arg6 (by decide)).trans (V_main_arg6 m c)
theorem left_aLen : aLen (left m c) = theN m c := (left_ne m c main_arg7 (by decide)).trans (V_main_arg7 m c)
theorem left_aKc : aKc (left m c) = theKC m c := ((left_arr m c 8).trans (arr_8 m c)).trans (V_main_arg3 m c)
theorem left_fVc : fVc (left m c) = theVC m c := ((left_arr m c 9).trans (arr_9 m c)).trans (V_main_arg5 m c)
theorem left_aKn (b : Fin 17) (t : Fin 4) (h : Fin 16) (d : Fin 64) : aKn (left m c) (ix4 b t h d) = refCode (argK m c) b t h d :=
  (congrFun ((left_arr m c 6).trans (arr_6 m c)) (ix4 b t h d)).trans (V_v25 m c b t h d)
theorem left_fVn (b : Fin 17) (t : Fin 4) (h : Fin 16) (d : Fin 64) : fVn (left m c) (ix4 b t h d) = refCode (argV m c) b t h d :=
  (congrFun ((left_arr m c 7).trans (arr_7 m c)) (ix4 b t h d)).trans (V_v51 m c b t h d)
theorem left_aKns (b : Fin 17) (t : Fin 4) (h : Fin 16) (g : Fin 2) : aKns (left m c) (ix4 b t h g) = refScale (argK m c) b t h g := by
  have e := left_ne m c main_v17 (by decide)
  have e' := V_v17 m c b t h g
  unfold aKns at_
  rw [e]
  exact e'
theorem left_fVns (b : Fin 17) (t : Fin 4) (h : Fin 16) (g : Fin 2) : fVns (left m c) (ix4 b t h g) = refScale (argV m c) b t h g := by
  have e := left_ne m c main_v43 (by decide)
  have e' := V_v43 m c b t h g
  unfold fVns at_
  rw [e]
  exact e'

theorem tail_lists (r : Ref sig .tc) :
    Pipeline.afterTail₀ cfgs (dats m) 0 (V0 m) [hostOps1, hostOps1_1, hostOps1_2, hostOps1_3, hostOps1_4, hostOps1_5, hostOps1_6] c r
      = StableHlo.after hostOps1_6 (StableHlo.after hostOps1_5 (StableHlo.after hostOps1_4 (StableHlo.after hostOps1_3 (StableHlo.after hostOps1_2 (StableHlo.after hostOps1_1 (StableHlo.after hostOps1 (left m c))))))) (Proc.devRef .tc r) := by
  unfold Pipeline.afterTail₀
  rw [List.flatten_cons, List.flatten_cons, List.flatten_cons, List.flatten_cons, List.flatten_cons, List.flatten_cons, List.flatten_cons, List.flatten_nil, List.append_nil,
    StableHlo.after_append, StableHlo.after_append, StableHlo.after_append, StableHlo.after_append, StableHlo.after_append, StableHlo.after_append]
  rfl

/-- The attention output. -/
theorem tail_out (b : Fin 17) (t : Fin 4) (d : Fin 64) (q : Fin 128) :
    (Pipeline.afterTail₀ cfgs (dats m) 0 (V0 m) [hostOps1, hostOps1_1, hostOps1_2, hostOps1_3, hostOps1_4, hostOps1_5, hostOps1_6] c main_v137 : S17x4x64x128.Idx → EReal) (ix4 b t d q)
      = refOut (theX m c) (argK m c) (argV m c) (theKC m c) (theKS m c) (theVC m c) (theVS m c) (theN m c) b t d q := by
  refine (congrFun (tail_lists m c main_v137) (ix4 b t d q)).trans ((out_read (left m c) b t d q).trans ?_)
  unfold refOut
  have hN : scoreN (left m c) b t (hq q) (gq q) = sN (theX m c) (argK m c) b t (hq q) (gq q) := by
    funext j
    unfold scoreN sN
    simp only [left_aX, left_aKn, left_aKns]
  have hC : scoreC (left m c) b t (hq q) (gq q) = sC (theX m c) (theKC m c) (theKS m c) (theN m c) b t (hq q) (gq q) := by
    funext k
    unfold scoreC sC
    simp only [left_aX, left_aKc, left_aKs, left_aLen]
  rw [hN, hC]
  simp only [left_fVn, left_fVns, left_fVc, left_fVs]

theorem tail_v17 : Pipeline.afterTail₀ cfgs (dats m) 0 (V0 m) [hostOps1, hostOps1_1, hostOps1_2, hostOps1_3, hostOps1_4, hostOps1_5, hostOps1_6] c main_v17 = V m c main_v17 := by
  rw [tail_lists,
    StableHlo.after_of_writes_sub (r := main_v17) hostOps1_6 _ hostOps1_6_writes (by decide +kernel),
    StableHlo.after_of_writes_sub (r := main_v17) hostOps1_5 _ hostOps1_5_writes (by decide +kernel),
    StableHlo.after_of_writes_sub (r := main_v17) hostOps1_4 _ hostOps1_4_writes (by decide +kernel),
    StableHlo.after_of_writes_sub (r := main_v17) hostOps1_3 _ hostOps1_3_writes (by decide +kernel),
    StableHlo.after_of_writes_sub (r := main_v17) hostOps1_2 _ hostOps1_2_writes (by decide +kernel),
    StableHlo.after_of_writes_sub (r := main_v17) hostOps1_1 _ hostOps1_1_writes (by decide +kernel),
    StableHlo.after_of_writes_sub (r := main_v17) hostOps1 _ hostOps1_writes (by decide +kernel),
    left_ne m c main_v17 (by decide)]

theorem tail_v43 : Pipeline.afterTail₀ cfgs (dats m) 0 (V0 m) [hostOps1, hostOps1_1, hostOps1_2, hostOps1_3, hostOps1_4, hostOps1_5, hostOps1_6] c main_v43 = V m c main_v43 := by
  rw [tail_lists,
    StableHlo.after_of_writes_sub (r := main_v43) hostOps1_6 _ hostOps1_6_writes (by decide +kernel),
    StableHlo.after_of_writes_sub (r := main_v43) hostOps1_5 _ hostOps1_5_writes (by decide +kernel),
    StableHlo.after_of_writes_sub (r := main_v43) hostOps1_4 _ hostOps1_4_writes (by decide +kernel),
    StableHlo.after_of_writes_sub (r := main_v43) hostOps1_3 _ hostOps1_3_writes (by decide +kernel),
    StableHlo.after_of_writes_sub (r := main_v43) hostOps1_2 _ hostOps1_2_writes (by decide +kernel),
    StableHlo.after_of_writes_sub (r := main_v43) hostOps1_1 _ hostOps1_1_writes (by decide +kernel),
    StableHlo.after_of_writes_sub (r := main_v43) hostOps1 _ hostOps1_writes (by decide +kernel),
    left_ne m c main_v43 (by decide)]

end Cert.ReferenceIdeal.Hand

end
-- ==== Proof.KI.Out.lean ====
module

public import proofs.«01_k».proof.Proof.KI.Frame
public import Idealize.ShloMosaic.Lib.Pipeline.Covers

/-! The kernel's five result arrays after its run, as functions of what the region finds in its operands: the
attention outputs, the codes and the scales of the new keys and of the new values. -/

@[expose] public section

set_option maxRecDepth 16384

noncomputable section

namespace Cert.KernelIdeal.Hand

open Cert.KernelIdeal Cert.KernelIdeal.Gen Cert.Softmax Cert.Spec Cert.BlockIx
open Idealize.ShloMosaic.Tactic
open Idealize.SL Idealize.SL.Sem
open Idealize.ShloMosaic Idealize.ShloMosaic.TcCoe

variable (m : (ℓ : Loc nD τ sig) → Buf (Elt Ideal) ℓ) (hO : Ok m)

/-- Every block of an output is some row's. -/
theorem nblk7 (a : Fin 4) : ((cfgM m hO).win 7).nblk a = ![17, 1, 1, 1] a := by
  unfold Pipeline.Window.nblk
  match a with
  | 0 => show (17 + 1 - 1) / 1 = 17; rfl
  | 1 => show (4 + 4 - 1) / 4 = 1; rfl
  | 2 => show (64 + 64 - 1) / 64 = 1; rfl
  | 3 => show (128 + 128 - 1) / 128 = 1; rfl

theorem covers7 : ((cfgM m hO).win 7).Covers := by
  refine ((cfgM m hO).win 7).covers_of_index_surj rfl (show ∀ a : Fin 4, 0 < S1x4x64x128.size a by decide) fun β => ?_
  have h0 : (β (0 : Fin 4)).val < 17 := lt_of_lt_of_eq (β (0 : Fin 4)).isLt (nblk7 m hO 0)
  have h1 : (β (1 : Fin 4)).val < 1 := lt_of_lt_of_eq (β (1 : Fin 4)).isLt (nblk7 m hO 1)
  have h2 : (β (2 : Fin 4)).val < 1 := lt_of_lt_of_eq (β (2 : Fin 4)).isLt (nblk7 m hO 2)
  have h3 : (β (3 : Fin 4)).val < 1 := lt_of_lt_of_eq (β (3 : Fin 4)).isLt (nblk7 m hO 3)
  have hN : (β (0 : Fin 4)).val * 16 < grid0.N := by
    show _ < 272
    omega
  refine ⟨(⟨(β (0 : Fin 4)).val * 16, hN⟩ : Fin grid0.N), fun a => ?_⟩
  refine (congrFun (idx_7 m hO ⟨(β (0 : Fin 4)).val * 16, hN⟩) a).trans ?_
  revert a
  show ∀ a : Fin 4, (![(rowOf ((β (0 : Fin 4)).val * 16)).val, 0, 0, 0] : Fin 4 → ℕ) a = (β a).val
  have hr : (rowOf ((β (0 : Fin 4)).val * 16)).val = (β (0 : Fin 4)).val := by
    show (β (0 : Fin 4)).val * 16 / 16 % 17 = _
    omega
  intro a
  match a with
  | 0 => exact hr
  | 1 => exact (Nat.lt_one_iff.mp h1).symm
  | 2 => exact (Nat.lt_one_iff.mp h2).symm
  | 3 => exact (Nat.lt_one_iff.mp h3).symm

theorem emb_7 (t : Fin (cfgM m hO).N) (y : S1x4x64x128.Idx) :
    ((((cfgM m hO).win 7).blk t).view.emb y : S17x4x64x128.Idx) = ix4 (rowOf t.val) (y 1) (y 2) (y 3) := by
  blk_ext
  · exact congrFun (idx_7 m hO t) 0
  · exact zero_block (congrFun (idx_7 m hO t) 1)
  · exact zero_block (congrFun (idx_7 m hO t) 2)
  · exact zero_block (congrFun (idx_7 m hO t) 3)

theorem nblk8 (a : Fin 4) : ((cfgM m hO).win 8).nblk a = ![17, 1, 1, 1] a := by
  unfold Pipeline.Window.nblk
  match a with
  | 0 => show (17 + 1 - 1) / 1 = 17; rfl
  | 1 => show (4 + 4 - 1) / 4 = 1; rfl
  | 2 => show (16 + 16 - 1) / 16 = 1; rfl
  | 3 => show (64 + 64 - 1) / 64 = 1; rfl

theorem covers8 : ((cfgM m hO).win 8).Covers := by
  refine ((cfgM m hO).win 8).covers_of_index_surj rfl (show ∀ a : Fin 4, 0 < S1x4x16x64.size a by decide) fun β => ?_
  have h0 : (β (0 : Fin 4)).val < 17 := lt_of_lt_of_eq (β (0 : Fin 4)).isLt (nblk8 m hO 0)
  have h1 : (β (1 : Fin 4)).val < 1 := lt_of_lt_of_eq (β (1 : Fin 4)).isLt (nblk8 m hO 1)
  have h2 : (β (2 : Fin 4)).val < 1 := lt_of_lt_of_eq (β (2 : Fin 4)).isLt (nblk8 m hO 2)
  have h3 : (β (3 : Fin 4)).val < 1 := lt_of_lt_of_eq (β (3 : Fin 4)).isLt (nblk8 m hO 3)
  have hN : (β (0 : Fin 4)).val * 16 < grid0.N := by
    show _ < 272
    omega
  refine ⟨(⟨(β (0 : Fin 4)).val * 16, hN⟩ : Fin grid0.N), fun a => ?_⟩
  refine (congrFun (idx_8 m hO ⟨(β (0 : Fin 4)).val * 16, hN⟩) a).trans ?_
  revert a
  show ∀ a : Fin 4, (![(rowOf ((β (0 : Fin 4)).val * 16)).val, 0, 0, 0] : Fin 4 → ℕ) a = (β a).val
  have hr : (rowOf ((β (0 : Fin 4)).val * 16)).val = (β (0 : Fin 4)).val := by
    show (β (0 : Fin 4)).val * 16 / 16 % 17 = _
    omega
  intro a
  match a with
  | 0 => exact hr
  | 1 => exact (Nat.lt_one_iff.mp h1).symm
  | 2 => exact (Nat.lt_one_iff.mp h2).symm
  | 3 => exact (Nat.lt_one_iff.mp h3).symm

theorem emb_8 (t : Fin (cfgM m hO).N) (y : S1x4x16x64.Idx) :
    ((((cfgM m hO).win 8).blk t).view.emb y : S17x4x16x64.Idx) = ix4 (rowOf t.val) (y 1) (y 2) (y 3) := by
  blk_ext
  · exact congrFun (idx_8 m hO t) 0
  · exact zero_block (congrFun (idx_8 m hO t) 1)
  · exact zero_block (congrFun (idx_8 m hO t) 2)
  · exact zero_block (congrFun (idx_8 m hO t) 3)

theorem nblk9 (a : Fin 4) : ((cfgM m hO).win 9).nblk a = ![17, 1, 1, 1] a := by
  unfold Pipeline.Window.nblk
  match a with
  | 0 => show (17 + 1 - 1) / 1 = 17; rfl
  | 1 => show (4 + 4 - 1) / 4 = 1; rfl
  | 2 => show (16 + 16 - 1) / 16 = 1; rfl
  | 3 => show (2 + 2 - 1) / 2 = 1; rfl

theorem covers9 : ((cfgM m hO).win 9).Covers := by
  refine ((cfgM m hO).win 9).covers_of_index_surj rfl (show ∀ a : Fin 4, 0 < S1x4x16x2.size a by decide) fun β => ?_
  have h0 : (β (0 : Fin 4)).val < 17 := lt_of_lt_of_eq (β (0 : Fin 4)).isLt (nblk9 m hO 0)
  have h1 : (β (1 : Fin 4)).val < 1 := lt_of_lt_of_eq (β (1 : Fin 4)).isLt (nblk9 m hO 1)
  have h2 : (β (2 : Fin 4)).val < 1 := lt_of_lt_of_eq (β (2 : Fin 4)).isLt (nblk9 m hO 2)
  have h3 : (β (3 : Fin 4)).val < 1 := lt_of_lt_of_eq (β (3 : Fin 4)).isLt (nblk9 m hO 3)
  have hN : (β (0 : Fin 4)).val * 16 < grid0.N := by
    show _ < 272
    omega
  refine ⟨(⟨(β (0 : Fin 4)).val * 16, hN⟩ : Fin grid0.N), fun a => ?_⟩
  refine (congrFun (idx_9 m hO ⟨(β (0 : Fin 4)).val * 16, hN⟩) a).trans ?_
  revert a
  show ∀ a : Fin 4, (![(rowOf ((β (0 : Fin 4)).val * 16)).val, 0, 0, 0] : Fin 4 → ℕ) a = (β a).val
  have hr : (rowOf ((β (0 : Fin 4)).val * 16)).val = (β (0 : Fin 4)).val := by
    show (β (0 : Fin 4)).val * 16 / 16 % 17 = _
    omega
  intro a
  match a with
  | 0 => exact hr
  | 1 => exact (Nat.lt_one_iff.mp h1).symm
  | 2 => exact (Nat.lt_one_iff.mp h2).symm
  | 3 => exact (Nat.lt_one_iff.mp h3).symm

theorem emb_9 (t : Fin (cfgM m hO).N) (y : S1x4x16x2.Idx) :
    ((((cfgM m hO).win 9).blk t).view.emb y : S17x4x16x2.Idx) = ix4 (rowOf t.val) (y 1) (y 2) (y 3) := by
  blk_ext
  · exact congrFun (idx_9 m hO t) 0
  · exact zero_block (congrFun (idx_9 m hO t) 1)
  · exact zero_block (congrFun (idx_9 m hO t) 2)
  · exact zero_block (congrFun (idx_9 m hO t) 3)

theorem nblk10 (a : Fin 4) : ((cfgM m hO).win 10).nblk a = ![17, 1, 1, 1] a := by
  unfold Pipeline.Window.nblk
  match a with
  | 0 => show (17 + 1 - 1) / 1 = 17; rfl
  | 1 => show (4 + 4 - 1) / 4 = 1; rfl
  | 2 => show (16 + 16 - 1) / 16 = 1; rfl
  | 3 => show (64 + 64 - 1) / 64 = 1; rfl

theorem covers10 : ((cfgM m hO).win 10).Covers := by
  refine ((cfgM m hO).win 10).covers_of_index_surj rfl (show ∀ a : Fin 4, 0 < S1x4x16x64.size a by decide) fun β => ?_
  have h0 : (β (0 : Fin 4)).val < 17 := lt_of_lt_of_eq (β (0 : Fin 4)).isLt (nblk10 m hO 0)
  have h1 : (β (1 : Fin 4)).val < 1 := lt_of_lt_of_eq (β (1 : Fin 4)).isLt (nblk10 m hO 1)
  have h2 : (β (2 : Fin 4)).val < 1 := lt_of_lt_of_eq (β (2 : Fin 4)).isLt (nblk10 m hO 2)
  have h3 : (β (3 : Fin 4)).val < 1 := lt_of_lt_of_eq (β (3 : Fin 4)).isLt (nblk10 m hO 3)
  have hN : (β (0 : Fin 4)).val * 16 < grid0.N := by
    show _ < 272
    omega
  refine ⟨(⟨(β (0 : Fin 4)).val * 16, hN⟩ : Fin grid0.N), fun a => ?_⟩
  refine (congrFun (idx_10 m hO ⟨(β (0 : Fin 4)).val * 16, hN⟩) a).trans ?_
  revert a
  show ∀ a : Fin 4, (![(rowOf ((β (0 : Fin 4)).val * 16)).val, 0, 0, 0] : Fin 4 → ℕ) a = (β a).val
  have hr : (rowOf ((β (0 : Fin 4)).val * 16)).val = (β (0 : Fin 4)).val := by
    show (β (0 : Fin 4)).val * 16 / 16 % 17 = _
    omega
  intro a
  match a with
  | 0 => exact hr
  | 1 => exact (Nat.lt_one_iff.mp h1).symm
  | 2 => exact (Nat.lt_one_iff.mp h2).symm
  | 3 => exact (Nat.lt_one_iff.mp h3).symm

theorem emb_10 (t : Fin (cfgM m hO).N) (y : S1x4x16x64.Idx) :
    ((((cfgM m hO).win 10).blk t).view.emb y : S17x4x16x64.Idx) = ix4 (rowOf t.val) (y 1) (y 2) (y 3) := by
  blk_ext
  · exact congrFun (idx_10 m hO t) 0
  · exact zero_block (congrFun (idx_10 m hO t) 1)
  · exact zero_block (congrFun (idx_10 m hO t) 2)
  · exact zero_block (congrFun (idx_10 m hO t) 3)

theorem nblk11 (a : Fin 4) : ((cfgM m hO).win 11).nblk a = ![17, 1, 1, 1] a := by
  unfold Pipeline.Window.nblk
  match a with
  | 0 => show (17 + 1 - 1) / 1 = 17; rfl
  | 1 => show (4 + 4 - 1) / 4 = 1; rfl
  | 2 => show (16 + 16 - 1) / 16 = 1; rfl
  | 3 => show (2 + 2 - 1) / 2 = 1; rfl

theorem covers11 : ((cfgM m hO).win 11).Covers := by
  refine ((cfgM m hO).win 11).covers_of_index_surj rfl (show ∀ a : Fin 4, 0 < S1x4x16x2.size a by decide) fun β => ?_
  have h0 : (β (0 : Fin 4)).val < 17 := lt_of_lt_of_eq (β (0 : Fin 4)).isLt (nblk11 m hO 0)
  have h1 : (β (1 : Fin 4)).val < 1 := lt_of_lt_of_eq (β (1 : Fin 4)).isLt (nblk11 m hO 1)
  have h2 : (β (2 : Fin 4)).val < 1 := lt_of_lt_of_eq (β (2 : Fin 4)).isLt (nblk11 m hO 2)
  have h3 : (β (3 : Fin 4)).val < 1 := lt_of_lt_of_eq (β (3 : Fin 4)).isLt (nblk11 m hO 3)
  have hN : (β (0 : Fin 4)).val * 16 < grid0.N := by
    show _ < 272
    omega
  refine ⟨(⟨(β (0 : Fin 4)).val * 16, hN⟩ : Fin grid0.N), fun a => ?_⟩
  refine (congrFun (idx_11 m hO ⟨(β (0 : Fin 4)).val * 16, hN⟩) a).trans ?_
  revert a
  show ∀ a : Fin 4, (![(rowOf ((β (0 : Fin 4)).val * 16)).val, 0, 0, 0] : Fin 4 → ℕ) a = (β a).val
  have hr : (rowOf ((β (0 : Fin 4)).val * 16)).val = (β (0 : Fin 4)).val := by
    show (β (0 : Fin 4)).val * 16 / 16 % 17 = _
    omega
  intro a
  match a with
  | 0 => exact hr
  | 1 => exact (Nat.lt_one_iff.mp h1).symm
  | 2 => exact (Nat.lt_one_iff.mp h2).symm
  | 3 => exact (Nat.lt_one_iff.mp h3).symm

theorem emb_11 (t : Fin (cfgM m hO).N) (y : S1x4x16x2.Idx) :
    ((((cfgM m hO).win 11).blk t).view.emb y : S17x4x16x2.Idx) = ix4 (rowOf t.val) (y 1) (y 2) (y 3) := by
  blk_ext
  · exact congrFun (idx_11 m hO t) 0
  · exact zero_block (congrFun (idx_11 m hO t) 1)
  · exact zero_block (congrFun (idx_11 m hO t) 2)
  · exact zero_block (congrFun (idx_11 m hO t) 3)

/-- The whole array of attention outputs. -/
def outA (c : Dev nD) : S17x4x64x128.Idx → EReal := fun y =>
  outT (rowScore m c (y 0)) (rowValue m c (y 0)) (upto 16384) (ix4 0 (y 1) (y 2) (y 3))
/-- The whole arrays of codes and of scales. -/
def codeA (X : S17x4x16x64.Idx → EReal) : S17x4x16x64.Idx → EReal := fun y =>
  codeT (tileOf fun z => X (ix4 (y 0) (z 1) (z 2) (z 3))) (ix4 0 (y 1) (y 2) (y 3))
def scaleA (X : S17x4x16x64.Idx → EReal) : S17x4x16x2.Idx → EReal := fun y =>
  scaleT (tileOf fun z => X (ix4 (y 0) (z 1) (z 2) (z 3))) (ix4 0 (y 1) (y 2) (y 3))

theorem flush_chunk {t : ℕ} (h : t % 16 = 15) : ((chunkOf t).val + 1) * 1024 = 16384 := by
  show (t % 16 + 1) * 1024 = _
  rw [h]

theorem arr7 (c : Dev nD) : (dats m hO 0 c).arrAt 7 272 = outA m c := by
  refine (dats m hO 0 c).arrAt_eq_of_covers 7 _ (covers7 m hO) fun t hf y => ?_
  have hc := flush_chunk ((flush0_7 (adm m hO) t).mp hf)
  blk_simp
  rw [after0_7, hc]
  refine Eq.trans ?_ (congrArg (outA m c) (emb_7 m hO t y)).symm
  rfl

theorem arr8 (c : Dev nD) : (dats m hO 0 c).arrAt 8 272 = codeA (V m c main_arg1) := by
  refine (dats m hO 0 c).arrAt_eq_of_covers 8 _ (covers8 m hO) fun t hf y => ?_
  blk_simp
  rw [after0_8]
  refine Eq.trans ?_ (congrArg (codeA (V m c main_arg1)) (emb_8 m hO t y)).symm
  rfl

theorem arr9 (c : Dev nD) : (dats m hO 0 c).arrAt 9 272 = scaleA (V m c main_arg1) := by
  refine (dats m hO 0 c).arrAt_eq_of_covers 9 _ (covers9 m hO) fun t hf y => ?_
  blk_simp
  rw [after0_9]
  refine Eq.trans ?_ (congrArg (scaleA (V m c main_arg1)) (emb_9 m hO t y)).symm
  rfl

theorem arr10 (c : Dev nD) : (dats m hO 0 c).arrAt 10 272 = codeA (V m c main_arg2) := by
  refine (dats m hO 0 c).arrAt_eq_of_covers 10 _ (covers10 m hO) fun t hf y => ?_
  blk_simp
  rw [after0_10]
  refine Eq.trans ?_ (congrArg (codeA (V m c main_arg2)) (emb_10 m hO t y)).symm
  rfl

theorem arr11 (c : Dev nD) : (dats m hO 0 c).arrAt 11 272 = scaleA (V m c main_arg2) := by
  refine (dats m hO 0 c).arrAt_eq_of_covers 11 _ (covers11 m hO) fun t hf y => ?_
  blk_simp
  rw [after0_11]
  refine Eq.trans ?_ (congrArg (scaleA (V m c main_arg2)) (emb_11 m hO t y)).symm
  rfl

end Cert.KernelIdeal.Hand

end
-- ==== Proof.Bound.lean ====
module

public import proofs.«01_k».proof.Proof.RI.Prefix

/-! New keys and values no larger than the largest 16-bit number: each group's largest magnitude, over the format's
largest number, is a real below `2 ^ 120`. -/

@[expose] public section

noncomputable section

namespace Cert.Bound

open Idealize.ShloMosaic Cert.Spec Cert.Quant

/-- The largest 16-bit number. -/
theorem top16 : ∃ B : ℝ, Ideal.ofBits .bf16 0x7F7F#16 = (B : EReal) ∧ B < 2 ^ 128 := by
  refine ⟨(255 / 128) * 2 ^ 127, ?_, by norm_num⟩
  simp [Ideal.ofBits, Ideal.ieee]
  rw [← EReal.coe_pow, ← EReal.coe_pow, ← EReal.coe_mul, ← EReal.coe_mul]
  congr 1
  norm_num

/-- One over the format's largest number. -/
theorem inv448 : ∃ c : ℝ, Ideal.ofBits .f32 991054117#32 = (c : EReal) ∧ 0 ≤ c ∧ c < (2 ^ 8)⁻¹ := by
  refine ⟨9586981 / 2 ^ 32, ?_, by norm_num, by norm_num⟩
  simp [Ideal.ofBits, Ideal.ieee]
  rw [← EReal.coe_mul]
  congr 1

theorem top_real (w : Fin 32 → EReal) (h : ∀ x, max (w x) (-(w x)) ≤ Ideal.ofBits .bf16 0x7F7F#16) :
    ∃ r : ℝ, qTop w = (r : EReal) ∧ r < (2 : ℝ) ^ (120 : ℤ) := by
  obtain ⟨B, hB, hB'⟩ := top16
  obtain ⟨c, hc, h0, hc'⟩ := inv448
  rw [hB] at h
  unfold qTop
  rw [hc]
  have hle : (Finset.univ.sup fun x => max (w x) (-(w x))) ≤ (B : EReal) := Finset.sup_le fun x _ => h x
  have hge : (0 : EReal) ≤ Finset.univ.sup fun x => max (w x) (-(w x)) := by
    refine le_trans ?_ (Finset.le_sup (f := fun x => max (w x) (-(w x))) (Finset.mem_univ (0 : Fin 32)))
    rcases le_total (w 0) 0 with hn | hn
    · exact le_max_of_le_right (EReal.neg_nonneg.mpr hn)
    · exact le_max_of_le_left hn
  generalize (Finset.univ.sup fun x => max (w x) (-(w x))) = s at hle hge
  induction s with
  | bot => exact absurd hge (by simp)
  | top => exact absurd hle (by simp)
  | coe s =>
    refine ⟨s * c, (EReal.coe_mul s c).symm, ?_⟩
    have h1 : s ≤ B := EReal.coe_le_coe_iff.mp hle
    have h2 : 0 ≤ s := EReal.coe_nonneg.mp hge
    have h3 : s * c ≤ B * c := mul_le_mul_of_nonneg_right h1 h0
    have h4 : B * c ≤ 2 ^ 128 * c := mul_le_mul_of_nonneg_right hB'.le h0
    have h5 : (2 : ℝ) ^ 128 * c < 2 ^ 128 * (2 ^ 8)⁻¹ := mul_lt_mul_of_pos_left hc' (by positivity)
    have h6 : (2 : ℝ) ^ 128 * (2 ^ 8)⁻¹ = 2 ^ (120 : ℤ) := by norm_num
    linarith

end Cert.Bound

end
-- ==== Proof.Match.lean ====
module

public import proofs.«01_k».proof.Proof.RI.Result
public import proofs.«01_k».proof.Proof.KI.Out
public import proofs.«01_k».proof.Proof.Bound

/-! The kernel's five results and the reference's are the same functions of the arguments. -/

@[expose] public section

set_option maxRecDepth 16384

noncomputable section

namespace Cert.Match

open Cert.ReferenceIdeal Cert.ReferenceIdeal.Hand Cert.Spec Cert.Quant Cert.Softmax
open Cert.KernelIdeal.Hand (tileOf codeA scaleA)
open Idealize.ShloMosaic
open scoped BigOperators

/-- No entry is larger than the largest 16-bit number. -/
def Small (X : S17x4x16x64.Idx → EReal) : Prop := ∀ y, max (X y) (-(X y)) ≤ Ideal.ofBits .bf16 0x7F7F#16

variable (X : S17x4x16x64.Idx → EReal) (hX : Small X)

/-- Row `b` of the new keys or values. -/
abbrev rowTile (b : Fin 17) : Fin 4 → Fin 16 → Fin 64 → EReal := tileOf fun z => X (ix4 b (z 1) (z 2) (z 3))

theorem group_eq (b : Fin 17) (j : Fin 4) (h : Fin 16) (g : Fin 2) : qGroup (rowTile X b) j h g = grpOf X b j h g := by
  funext x
  unfold qGroup grpOf
  show X (ix4 b j h _) = X (ix4 b j h _)
  exact congrArg (fun z => X (ix4 b j h z)) (Fin.ext (by show 32 * g.val + x.val = g.val * 32 + x.val; omega))

include hX in
theorem scale_eq (b : Fin 17) (j : Fin 4) (h : Fin 16) (g : Fin 2) : newScale (rowTile X b) j h g = refScale X b j h g := by
  unfold newScale refScale
  rw [group_eq]
  obtain ⟨r, hr, hlt⟩ := Cert.Bound.top_real (grpOf X b j h g) fun x => hX _
  rw [hr]
  exact qScale_eq hlt

include hX in
theorem code_eq (b : Fin 17) (j : Fin 4) (h : Fin 16) (d : Fin 64) : newCode (rowTile X b) j h d = refCode X b j h d := by
  unfold newCode refCode
  rw [group_eq]
  obtain ⟨r, hr, hlt⟩ := Cert.Bound.top_real (grpOf X b j h (grp d)) fun x => hX _
  rw [hr, qInv_eq hlt]
  rfl

include hX in
theorem wide_eq (b : Fin 17) (j : Fin 4) (h : Fin 16) (d : Fin 64) :
    newWide (rowTile X b) j h d = refCode X b j h d * refScale X b j h (grp d) := by
  unfold newWide
  rw [code_eq X hX, scale_eq X hX]

theorem eighth : lam8 = Ideal.ofBits .f32 0x3E000000#32 * lam := by
  rw [show Ideal.ofBits .f32 0x3E000000#32 = power 124 from rfl, power_eq 124 (by norm_num) (by norm_num)]
  unfold lam8 lam
  rw [← EReal.coe_mul]
  congr 1
  rw [mul_comm]
  norm_num

theorem sle_iff (j t : Fin 4) : IntOp.cmpi .sle (BitVec.ofNat 32 j.val) (BitVec.ofNat 32 t.val) = 1#1 ↔ j.val ≤ t.val := by
  revert j t; decide

theorem slt_iff (k : Fin 16384) (n : BitVec 32) : IntOp.cmpi .slt (BitVec.ofNat 32 k.val) n = 1#1 ↔ (k.val : ℤ) < n.toInt := by
  have e : (BitVec.ofNat 32 k.val).toInt = k.val := by
    have := k.isLt
    rw [BitVec.toInt_eq_toNat_of_lt (by rw [BitVec.toNat_ofNat]; omega), BitVec.toNat_ofNat]
    omega
  show BitVec.ofBool (decide ((BitVec.ofNat 32 k.val).toInt < n.toInt)) = 1#1 ↔ _
  rw [e]
  by_cases hk : (k.val : ℤ) < n.toInt <;> simp [hk]

theorem if_mul_lam (p : Prop) [Decidable p] (x : EReal) : (if p then x else ⊥) * lam = if p then x * lam else ⊥ := by
  split
  · rfl
  · exact bot_mul_lam

/-- The kernel's scores are the reference's, scaled. -/
theorem score_eq (Q : S17x4x128x64.Idx → EReal) (K : S17x4x16x64.Idx → EReal) (KC : S17x16384x16x64.Idx → EReal) (KS : S17x16384x16x2.Idx → EReal)
    (N : S17.Idx → BitVec 32) (q : Fin 16 → Fin 32 → Fin 64 → EReal) (kn : Fin 4 → Fin 16 → Fin 64 → EReal) (k : Fin 16 → Fin 64 → Fin 16384 → EReal)
    (b : Fin 17) (t : Fin 4) (h : Fin 16) (g : Fin 8) (r : Fin 32) (hr : r.val / 8 = t.val)
    (hq : ∀ d, q h r d = Q (ix4 b t (hd h g) d)) (hkn : ∀ j d, kn j h d = refCode K b j h d * refScale K b j h (grp d))
    (hk : ∀ d x, k h d x = KC (ix4 b x h d) * KS (ix4 b x h (grp d))) :
    score q kn k (N (ix1 b)) h r = fun key => Sum.elim (sN Q K b t h g) (sC Q KC KS N b t h g) key * lam := by
  funext key
  rcases key with j | x
  · show (if j.val ≤ r.val / 8 then _ else _) = sN Q K b t h g j * lam
    unfold sN
    rw [if_mul_lam, hr]
    refine if_congr (sle_iff j t).symm ?_ rfl
    rw [mul_assoc, ← eighth]
    refine congrArg (· * lam8) (Finset.sum_congr rfl fun d _ => ?_)
    rw [hq, hkn, mul_comm]
  · show (if (x.val : ℤ) < (N (ix1 b)).toInt then _ else _) = sC Q KC KS N b t h g x * lam
    unfold sC
    rw [if_mul_lam]
    refine if_congr (slt_iff x _).symm ?_ rfl
    rw [mul_assoc, ← eighth]
    refine congrArg (· * lam8) (Finset.sum_congr rfl fun d _ => ?_)
    rw [hq, hk, mul_comm]

/-- The kernel's quotient is the reference's output. -/
theorem quotient_eq (Q : S17x4x128x64.Idx → EReal) (K W : S17x4x16x64.Idx → EReal) (KC : S17x16384x16x64.Idx → EReal) (KS : S17x16384x16x2.Idx → EReal)
    (VC : S17x16384x16x64.Idx → EReal) (VS : S17x16384x16x2.Idx → EReal) (N : S17.Idx → BitVec 32)
    (b : Fin 17) (t : Fin 4) (d : Fin 64) (q : Fin 128) (s v : Key → EReal)
    (hs : s = fun key => Sum.elim (sN Q K b t (hq q) (gq q)) (sC Q KC KS N b t (hq q) (gq q)) key * lam)
    (hv : v = Sum.elim (fun j => refCode W b j (hq q) d * refScale W b j (hq q) (grp d)) (fun k => VC (ix4 b k (hq q) d) * VS (ix4 b k (hq q) (grp d)))) :
    Ideal.div (A s v (upto 16384)) (L s (upto 16384)) = refOut Q K W KC KS VC VS N b t d q := by
  rw [upto_all, hs, hv]
  exact online_eq _ _ _ _

end Cert.Match

end
-- ==== Proof.KI.Host.lean ====
module

public import proofs.«01_k».proof.Proof.KI.Rows
public import Idealize.ShloMosaic.Lib.Pointwise

/-! What the host leaves for the kernel's region: the queries and the cache's arrays, transposed. -/

@[expose] public section

set_option maxRecDepth 16384

noncomputable section

namespace Cert.KernelIdeal.Hand

open Cert.KernelIdeal Cert.KernelIdeal.Gen
open Idealize.ShloMosaic Idealize.ShloMosaic.TcCoe

section
variable (σ : Valuation τ sig (Elt Ideal))

def hX : S17x4x64x128.Idx → EReal := σ (Proc.devRef .tc main_v0)
def hKC : S17x16x64x16384.Idx → EReal := σ (Proc.devRef .tc main_v1)
def hVC : S17x16x64x16384.Idx → EReal := σ (Proc.devRef .tc main_v2)
def hKS : S17x16x2x16384.Idx → EReal := σ (Proc.devRef .tc main_v3)
def hVS : S17x16x2x16384.Idx → EReal := σ (Proc.devRef .tc main_v4)
def iX : S17x4x128x64.Idx → EReal := σ (Proc.devRef .tc main_arg0)
def iKC : S17x16384x16x64.Idx → EReal := σ (Proc.devRef .tc main_arg3)
def iKS : S17x16384x16x2.Idx → EReal := σ (Proc.devRef .tc main_arg4)
def iVC : S17x16384x16x64.Idx → EReal := σ (Proc.devRef .tc main_arg5)
def iVS : S17x16384x16x2.Idx → EReal := σ (Proc.devRef .tc main_arg6)

theorem hX_read (b : Fin 17) (t : Fin 4) (d : Fin 64) (q : Fin 128) : hX (StableHlo.after hostOps0 σ) (ix4 b t d q) = iX σ (ix4 b t q d) := by
  unfold hX iX
  entry_read
  pointwise
theorem hKC_read (b : Fin 17) (h : Fin 16) (d : Fin 64) (t : Fin 16384) : hKC (StableHlo.after hostOps0 σ) (ix4 b h d t) = iKC σ (ix4 b t h d) := by
  unfold hKC iKC
  entry_read
  pointwise
theorem hVC_read (b : Fin 17) (h : Fin 16) (d : Fin 64) (t : Fin 16384) : hVC (StableHlo.after hostOps0 σ) (ix4 b h d t) = iVC σ (ix4 b t h d) := by
  unfold hVC iVC
  entry_read
  pointwise
theorem hKS_read (b : Fin 17) (h : Fin 16) (d : Fin 2) (t : Fin 16384) : hKS (StableHlo.after hostOps0 σ) (ix4 b h d t) = iKS σ (ix4 b t h d) := by
  unfold hKS iKS
  entry_read
  pointwise
theorem hVS_read (b : Fin 17) (h : Fin 16) (d : Fin 2) (t : Fin 16384) : hVS (StableHlo.after hostOps0 σ) (ix4 b h d t) = iVS σ (ix4 b t h d) := by
  unfold hVS iVS
  entry_read
  pointwise
end

end Cert.KernelIdeal.Hand

end
-- ==== Proof.KernelOut.lean ====
module

public import proofs.«01_k».proof.Proof.Match
public import proofs.«01_k».proof.Proof.KI.Host

/-! The kernel's output as the reference writes it: a softmax over the new keys and the cached ones. -/

@[expose] public section

set_option maxRecDepth 16384

noncomputable section

namespace Cert.Match

open Cert.ReferenceIdeal.Hand Cert.Spec Cert.Quant Cert.Softmax
open Cert.KernelIdeal.Gen Cert.KernelIdeal.Hand Cert.KernelIdeal
open Idealize.ShloMosaic Idealize.ShloMosaic.TcCoe

variable (m : (ℓ : Loc nD τ sig) → Buf (Elt Ideal) ℓ) (c : Dev nD)

/-- The kernel's arguments. -/
def kX : S17x4x128x64.Idx → EReal := m ((c : Thread nD τ).loc main_arg0)
def kK : S17x4x16x64.Idx → EReal := m ((c : Thread nD τ).loc main_arg1)
def kW : S17x4x16x64.Idx → EReal := m ((c : Thread nD τ).loc main_arg2)
def kKC : S17x16384x16x64.Idx → EReal := m ((c : Thread nD τ).loc main_arg3)
def kKS : S17x16384x16x2.Idx → EReal := m ((c : Thread nD τ).loc main_arg4)
def kVC : S17x16384x16x64.Idx → EReal := m ((c : Thread nD τ).loc main_arg5)
def kVS : S17x16384x16x2.Idx → EReal := m ((c : Thread nD τ).loc main_arg6)
def kN : S17.Idx → BitVec 32 := m ((c : Thread nD τ).loc main_arg7)

theorem query_eq (b : Fin 17) (t : Fin 4) (h : Fin 16) (g : Fin 8) (r : Fin 32) (hr : r.val = 8 * t.val + g.val) (d : Fin 64) :
    queryT (rowX m c b) h r d = kX m c (ix4 b t (hd h g) d) := by
  refine (hX_read (fun b => m (c, b)) b ⟨r.val / 8, by omega⟩ d ⟨8 * h.val + r.val % 8, by omega⟩).trans ?_
  have e1 : (⟨r.val / 8, by omega⟩ : Fin 4) = t := Fin.ext (by show r.val / 8 = t.val; omega)
  have e2 : (⟨8 * h.val + r.val % 8, by omega⟩ : Fin 128) = hd h g := Fin.ext (by show 8 * h.val + r.val % 8 = h.val * 8 + g.val; omega)
  rw [e1, e2]
  rfl

theorem rowK_eq (b : Fin 17) : tileOf (rowK m c b) = rowTile (kK m c) b := by
  funext j h d
  exact congrFun (V_main_arg1 m c) (ix4 b j h d)

theorem rowV_eq (b : Fin 17) : tileOf (rowV m c b) = rowTile (kW m c) b := by
  funext j h d
  exact congrFun (V_main_arg2 m c) (ix4 b j h d)

theorem cacheK_eq (b : Fin 17) (h : Fin 16) (d : Fin 64) (x : Fin 16384) :
    cacheK m c b h d x = kKC m c (ix4 b x h d) * kKS m c (ix4 b x h (Cert.ReferenceIdeal.Hand.grp d)) :=
  congrArg₂ (· * ·) (hKC_read (fun b => m (c, b)) b h d x) (hKS_read (fun b => m (c, b)) b h (Cert.ReferenceIdeal.Hand.grp d) x)

theorem cacheV_eq (b : Fin 17) (h : Fin 16) (d : Fin 64) (x : Fin 16384) :
    cacheV m c b h d x = kVC m c (ix4 b x h d) * kVS m c (ix4 b x h (Cert.ReferenceIdeal.Hand.grp d)) :=
  congrArg₂ (· * ·) (hVC_read (fun b => m (c, b)) b h d x) (hVS_read (fun b => m (c, b)) b h (Cert.ReferenceIdeal.Hand.grp d) x)

theorem len_eq (b : Fin 17) : len m b = kN m c (ix1 b) := by
  obtain rfl : c = 0 := Subsingleton.elim _ _
  exact congrFun (V_main_arg7 m 0) (ix1 b)

theorem kernel_out (hK : Small (kK m c)) (hW : Small (kW m c)) (b : Fin 17) (t : Fin 4) (d : Fin 64) (q : Fin 128) :
    outA m c (ix4 b t d q) = refOut (kX m c) (kK m c) (kW m c) (kKC m c) (kKS m c) (kVC m c) (kVS m c) (kN m c) b t d q := by
  refine quotient_eq _ _ _ _ _ _ _ _ b t d q (rowScore m c b (hq q) ⟨8 * t.val + q.val % 8, by omega⟩) (rowValue m c b (hq q) d) ?_ ?_
  · show score (queryT (rowX m c b)) (newWide (tileOf (rowK m c b))) (cacheK m c b) (len m b) (hq q) _ = _
    rw [len_eq m c b, rowK_eq]
    exact score_eq _ _ _ _ _ _ _ _ b t (hq q) (gq q) _ (by show (8 * t.val + q.val % 8) / 8 = t.val; omega)
      (query_eq m c b t (hq q) (gq q) _ rfl) (fun j d => wide_eq _ hK b j (hq q) d) (fun d x => cacheK_eq m c b (hq q) d x)
  · show value (newWide (tileOf (rowV m c b))) (cacheV m c b) (hq q) d = _
    rw [rowV_eq]
    funext key
    rcases key with j | x
    · exact wide_eq _ hW b j (hq q) d
    · exact cacheV_eq m c b (hq q) d x

end Cert.Match

end
-- ==== Proof.Small.lean ====
module

public import proofs.«01_k».proof.Defs
public import proofs.«01_k».proof.Proof.Gen.Pre_new_finite
public import proofs.«01_k».proof.Proof.KernelOut

/-! What the precondition says of the new keys and values. -/

@[expose] public section

set_option maxRecDepth 16384

noncomputable section

namespace Cert.Match

open Idealize.ShloMosaic Idealize.ShloMosaic.TcCoe Cert.KernelIdeal

theorem both (a b : BitVec 1) : a &&& b = 1#1 → a = 1#1 ∧ b = 1#1 := by revert a b; decide

theorem le_of_bit (x y : EReal) (h : BitVec.ofBool (decide (x ≤ y)) = 1#1) : x ≤ y := by
  by_cases hk : x ≤ y
  · exact hk
  · simp [hk] at h

theorem small_of_pre (m : (ℓ : Loc nD τ sig) → Buf (Elt Ideal) ℓ)
    (h : Cert.Pre_KernelIdeal_new_finite (hPre_new_finite := Cert.Pre_new_finite.Gen.facts) m) (c : Dev nD) : Small (kK m c) ∧ Small (kW m c) := by
  have hb : ∀ y : S17x4x16x64.Idx, BitVec.ofBool (decide (max (kK m c y) (-(kK m c y)) ≤ Ideal.ofBits .bf16 0x7F7F#16))
      &&& BitVec.ofBool (decide (max (kW m c y) (-(kW m c y)) ≤ Ideal.ofBits .bf16 0x7F7F#16)) = 1#1 := fun y => congrFun (h c) y
  exact ⟨fun y => le_of_bit _ _ (both _ _ (hb y)).1, fun y => le_of_bit _ _ (both _ _ (hb y)).2⟩

end Cert.Match

end
-- ==== Proof.Algebraic.lean ====
module

public import proofs.«01_k».proof.Proof.Small
public import proofs.«01_k».proof.Proof.Ok
public import proofs.«01_k».proof.Proof.KI.Frame
public import proofs.«01_k».proof.Proof.Gen.ReferenceIdeal.Frame

/-! The value claim: from the same arguments the kernel and the reference leave the same five results. -/

@[expose] public section

set_option maxRecDepth 16384

noncomputable section

namespace Cert.Match

open Idealize.ShloMosaic Idealize.ShloMosaic.TcCoe Idealize.SL.Sem
open Cert.ReferenceIdeal.Hand (refOut refCode refScale argK argV theX theKC theKS theVC theVS theN)
open Cert.KernelIdeal.Hand (codeA scaleA outA)

section
variable (X : Cert.ReferenceIdeal.S17x4x16x64.Idx → EReal) (hX : Small X)
include hX

theorem codeA_eq (b : Fin 17) (t : Fin 4) (h : Fin 16) (d : Fin 64) : codeA X (ix4 b t h d) = refCode X b t h d := code_eq X hX b t h d
theorem scaleA_eq (b : Fin 17) (t : Fin 4) (h : Fin 16) (g : Fin 2) : scaleA X (ix4 b t h g) = refScale X b t h g := scale_eq X hX b t h g
end

/-- The two memories hold the same arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  theX m' c = kX m c ∧ argK m' c = kK m c ∧ argV m' c = kW m c ∧ theKC m' c = kKC m c ∧ theKS m' c = kKS m c
    ∧ theVC m' c = kVC m c ∧ theVS m' c = kVS m c ∧ theN m' c = kN m c

section
open Cert.ReferenceIdeal Cert.ReferenceIdeal.Gen
variable (m : (ℓ : Loc Cert.KernelIdeal.nD Cert.KernelIdeal.τ Cert.KernelIdeal.sig) → Buf (Elt Ideal) ℓ)
  (m' : (ℓ : Loc nD τ sig) → Buf (Elt Ideal) ℓ) (c : Dev nD)
  (hA : Agree m m' c) (hK : Small (kK m c)) (hW : Small (kW m c))
include hA hK hW

theorem same_out : (Pipeline.afterTail₀ cfgs (dats m') 0 (V0 m') [hostOps1, hostOps1_1, hostOps1_2, hostOps1_3, hostOps1_4, hostOps1_5, hostOps1_6] c main_v137 : S17x4x64x128.Idx → EReal)
    = outA m c := by
  funext y
  obtain ⟨h0, h1, h2, h3, h4, h5, h6, h7⟩ := hA
  have e := Cert.ReferenceIdeal.Hand.tail_out m' c (y 0) (y 1) (y 2) (y 3)
  rw [h0, h1, h2, h3, h4, h5, h6, h7] at e
  have e' := (kernel_out m c hK hW (y 0) (y 1) (y 2) (y 3)).symm
  rw [eq_ix4 y]
  exact e.trans e'

theorem same_kCode : V m' c main_v25 = codeA (kK m c) := by
  funext y
  obtain ⟨h0, h1, h2, -⟩ := hA
  have e := Cert.ReferenceIdeal.Hand.V_v25 m' c (y 0) (y 1) (y 2) (y 3)
  rw [h1] at e
  rw [eq_ix4 y]
  exact e.trans (codeA_eq _ hK (y 0) (y 1) (y 2) (y 3)).symm

theorem same_vCode : V m' c main_v51 = codeA (kW m c) := by
  funext y
  obtain ⟨h0, h1, h2, -⟩ := hA
  have e := Cert.ReferenceIdeal.Hand.V_v51 m' c (y 0) (y 1) (y 2) (y 3)
  rw [h2] at e
  rw [eq_ix4 y]
  exact e.trans (codeA_eq _ hW (y 0) (y 1) (y 2) (y 3)).symm

theorem same_kScale : V m' c main_v17 = scaleA (kK m c) := by
  funext y
  obtain ⟨h0, h1, h2, -⟩ := hA
  have e := Cert.ReferenceIdeal.Hand.V_v17 m' c (y 0) (y 1) (y 2) (y 3)
  rw [h1] at e
  rw [eq_ix4 y]
  exact e.trans (scaleA_eq _ hK (y 0) (y 1) (y 2) (y 3)).symm

theorem same_vScale : V m' c main_v43 = scaleA (kW m c) := by
  funext y
  obtain ⟨h0, h1, h2, -⟩ := hA
  have e := Cert.ReferenceIdeal.Hand.V_v43 m' c (y 0) (y 1) (y 2) (y 3)
  rw [h2] at e
  rw [eq_ix4 y]
  exact e.trans (scaleA_eq _ hW (y 0) (y 1) (y 2) (y 3)).symm
end

open Cert.KernelIdeal.Gen in
/-- What the kernel leaves. -/
theorem kernel_results (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5_0) = outA m c
      ∧ r.2.mem ((c.tc : Thread Cert.KernelIdeal.nD Cert.KernelIdeal.τ).loc Cert.KernelIdeal.main_v5_1) = codeA (kK m c)
      ∧ r.2.mem ((c.tc : Thread Cert.KernelIdeal.nD Cert.KernelIdeal.τ).loc Cert.KernelIdeal.main_v5_2) = scaleA (kK m c)
      ∧ r.2.mem ((c.tc : Thread Cert.KernelIdeal.nD Cert.KernelIdeal.τ).loc Cert.KernelIdeal.main_v5_3) = codeA (kW m c)
      ∧ r.2.mem ((c.tc : Thread Cert.KernelIdeal.nD Cert.KernelIdeal.τ).loc Cert.KernelIdeal.main_v5_4) = scaleA (kW m c)) :=
  (θ_run Cert.KernelIdeal.defs _ _).mono (fun r h c =>
    ⟨((h c).1 7).trans (Cert.KernelIdeal.Hand.arr7 m (Cert.KernelIdeal.Hand.ok _) c),
      (((h c).1 8).trans (Cert.KernelIdeal.Hand.arr8 m (Cert.KernelIdeal.Hand.ok _) c)).trans (congrArg codeA (Cert.KernelIdeal.Hand.V_main_arg1 m c)),
      (((h c).1 9).trans (Cert.KernelIdeal.Hand.arr9 m (Cert.KernelIdeal.Hand.ok _) c)).trans (congrArg scaleA (Cert.KernelIdeal.Hand.V_main_arg1 m c)),
      (((h c).1 10).trans (Cert.KernelIdeal.Hand.arr10 m (Cert.KernelIdeal.Hand.ok _) c)).trans (congrArg codeA (Cert.KernelIdeal.Hand.V_main_arg2 m c)),
      (((h c).1 11).trans (Cert.KernelIdeal.Hand.arr11 m (Cert.KernelIdeal.Hand.ok _) c)).trans (congrArg scaleA (Cert.KernelIdeal.Hand.V_main_arg2 m c))⟩)
    (Cert.KernelIdeal.Hand.run_main m g (Cert.KernelIdeal.Hand.ok _))

open Cert.ReferenceIdeal Cert.ReferenceIdeal.Gen in
/-- What the reference leaves. -/
theorem reference_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v137)
          = Pipeline.afterTail₀ cfgs (dats m) 0 (V0 m) [hostOps1, hostOps1_1, hostOps1_2, hostOps1_3, hostOps1_4, hostOps1_5, hostOps1_6] c main_v137
      ∧ r.2.mem ((c.tc : Thread nD τ).loc main_v52_0) = V m c main_v25
      ∧ r.2.mem ((c.tc : Thread nD τ).loc main_v17) = V m c main_v17
      ∧ r.2.mem ((c.tc : Thread nD τ).loc main_v52_1) = V m c main_v51
      ∧ r.2.mem ((c.tc : Thread nD τ).loc main_v43) = V m c main_v43) :=
  (θ_run defs _ _).mono (fun r h c =>
    ⟨(h c).2 main_v137 (Pipeline.mem_restRefs_of main_v137 (by decide) (by decide)),
      ((h c).1 4).trans (Cert.ReferenceIdeal.Hand.arr_4 m c),
      ((h c).2 main_v17 (Pipeline.mem_restRefs_of main_v17 (by decide) (by decide))).trans (Cert.ReferenceIdeal.Hand.tail_v17 m c),
      ((h c).1 5).trans (Cert.ReferenceIdeal.Hand.arr_5 m c),
      ((h c).2 main_v43 (Pipeline.mem_restRefs_of main_v43 (by decide) (by decide))).trans (Cert.ReferenceIdeal.Hand.tail_v43 m c)⟩)
    (run_main m g)

/-- The kernel computes the reference's five results. -/
theorem same_results : algebraic_KernelIdeal_ReferenceIdeal_pre_new_finite (hKernelIdeal := Cert.KernelIdeal.Gen.facts)
    (hReferenceIdeal := Cert.ReferenceIdeal.Gen.facts) (hPre_new_finite := Cert.Pre_new_finite.Gen.facts) := by
  intro m g m' g' hpre hargs
  refine ⟨fun c => outA m c, fun c => codeA (kK m c), fun c => scaleA (kK m c), fun c => codeA (kW m c), fun c => scaleA (kW m c), ?_, ?_⟩
  · refine (θ_run Cert.KernelIdeal.defs _ _).mono (fun r h c => ?_)
      (θ_run_and (kernel_results m g) (Cert.KernelIdeal.Hand.frame m g (Cert.KernelIdeal.Hand.ok _)))
    obtain ⟨h0, h1, h2, h3, h4⟩ := h.1 c
    exact ⟨h0, h1, h2, h3, h4, h.2.1 c⟩
  · refine (θ_run Cert.ReferenceIdeal.defs _ _).mono (fun r h c => ?_)
      (θ_run_and (reference_results m' g') (Cert.ReferenceIdeal.Gen.unchanged m' g'))
    obtain ⟨h0, h1, h2, h3, h4⟩ := h.1 c
    obtain ⟨a0, a1, a2, a3, a4, a5, a6, a7⟩ := hargs c
    have hA : Agree m m' c := ⟨a0, a1, a2, a3, a4, a5, a6, a7⟩
    obtain ⟨hK, hW⟩ := small_of_pre m hpre c
    exact ⟨h0.trans (same_out m m' c hA hK hW), h1.trans (same_kCode m m' c hA hK hW), h2.trans (same_kScale m m' c hA hK hW),
      h3.trans (same_vCode m m' c hA hK hW), h4.trans (same_vScale m m' c hA hK hW), h.2 c⟩

end Cert.Match

end
-- ==== Proof.lean ====
/- The proof of the certificate's claim: the kernel runs and leaves its arguments as they were, read over machine floats and
   read over the ideal numbers; so does the reference; the constant the ideal reading names is the one printed; and over the ideal numbers
   the kernel leaves the reference's five results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_new_finite
public import proofs.«01_k».proof.Proof.Ok
public import proofs.«01_k».proof.Proof.Bridge
public import proofs.«01_k».proof.Proof.KI.AnyFloats
public import proofs.«01_k».proof.Proof.KI.Frame
public import proofs.«01_k».proof.Proof.Algebraic
public import Idealize.ShloMosaic.Adequacy

@[expose] public section

set_option maxRecDepth 16384

noncomputable section

namespace Cert.Proof

open Idealize.ShloMosaic Idealize.SL.Sem

attribute [local instance] Cert.Bridge.namedBits

theorem kernel_frame : quiescent_Kernel (hKernel := Cert.Kernel.Gen.facts) := fun m ρ _ =>
  letI := Cert.Kernel.Gen.facts
  letI := Cert.KernelIdeal.Gen.facts
  Cert.Bridge.run_of m ρ (Cert.KernelIdeal.Loose.frame (F := Bits) m ρ (Cert.KernelIdeal.Hand.ok _))

theorem kernelIdeal_frame : quiescent_KernelIdeal (hKernelIdeal := Cert.KernelIdeal.Gen.facts) := fun m ρ _ =>
  Cert.KernelIdeal.Hand.frame m ρ (Cert.KernelIdeal.Hand.ok _)

theorem referenceIdeal_frame : quiescent_ReferenceIdeal (hReferenceIdeal := Cert.ReferenceIdeal.Gen.facts) :=
  fun m ρ _ => Cert.ReferenceIdeal.Gen.frame m ρ

theorem named : preserves_Kernel_KernelIdeal :=
  IdealRules.named_const.statement Cert.KernelIdeal.κ "log2e_8" .f32 0x3E38AA3B#32 _ rfl

/-- Everything the certificate claims. -/
theorem claim : Cert.Claim :=
  ⟨Cert.Kernel.Gen.facts, Cert.KernelIdeal.Gen.facts, Cert.ReferenceIdeal.Gen.facts, Cert.Pre_new_finite.Gen.facts,
    kernel_frame, kernelIdeal_frame, fun m ρ _ => Cert.KernelIdeal.Hand.frame m ρ (Cert.KernelIdeal.Hand.ok _),
    referenceIdeal_frame, fun m ρ _ => Cert.ReferenceIdeal.Gen.frame m ρ,
    named, Cert.Match.same_results⟩

end Cert.Proof

end
